-- ==== Defs.lean ====
def Pre_Kernel [hPre_experts_in_range : Cert.Pre_experts_in_range.Facts] (m : (ℓ : Loc Cert.Kernel.nD Cert.Kernel.τ Cert.Kernel.sig) → Buf (Elt Bits) ℓ) : Prop :=
  ∀ c : Dev Cert.Kernel.nD,
    (Cert.Pre_experts_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_experts_in_range : Cert.Pre_experts_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_experts_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_in_range [hPre_experts_in_range : Cert.Pre_experts_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weights [hPre_finite_weights : Cert.Pre_finite_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weights [hPre_finite_weights : Cert.Pre_finite_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_rows_in_blocks : Cert.Pre_rows_in_blocks.Facts] (m : (ℓ : Loc Cert.Kernel5.nD Cert.Kernel5.τ Cert.Kernel5.sig) → Buf (Elt Bits) ℓ) : Prop :=
  ∀ c : Dev Cert.Kernel5.nD,
    (Cert.Pre_rows_in_blocks.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_rows_in_blocks : Cert.Pre_rows_in_blocks.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_in_blocks.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_in_blocks [hPre_rows_in_blocks : Cert.Pre_rows_in_blocks.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_in_blocks.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_router [hPre_finite_router : Cert.Pre_finite_router.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_router.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_router [hPre_finite_router : Cert.Pre_finite_router.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_router.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] [hPre_experts_in_range : Cert.Pre_experts_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_experts_in_range [hReferenceIdeal : Cert.ReferenceIdeal.Facts] [hPre_experts_in_range : Cert.Pre_experts_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_weights [hKernel4Ideal : Cert.Kernel4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_weights [hReference4Ideal : Cert.Reference4Ideal.Facts] [hPre_finite_weights : Cert.Pre_finite_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_rows_in_blocks : Cert.Pre_rows_in_blocks.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_rows_in_blocks : Cert.Pre_rows_in_blocks.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_rows_in_blocks [hReference5Ideal : Cert.Reference5Ideal.Facts] [hPre_rows_in_blocks : Cert.Pre_rows_in_blocks.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_in_blocks m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_router [hKernel6Ideal : Cert.Kernel6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_router m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_router [hReference6Ideal : Cert.Reference6Ideal.Facts] [hPre_finite_router : Cert.Pre_finite_router.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_router m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_in_range : Cert.Pre_experts_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_weights [hKernel4Ideal : Cert.Kernel4Ideal.Facts] [hReference4Ideal : Cert.Reference4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v42)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_rows_in_blocks : Cert.Pre_rows_in_blocks.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_router [hKernel6Ideal : Cert.Kernel6Ideal.Facts] [hReference6Ideal : Cert.Reference6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_router m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v51) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_experts_in_range : Cert.Pre_experts_in_range.Facts) (hPre_finite_weights : Cert.Pre_finite_weights.Facts) (hPre_rows_in_blocks : Cert.Pre_rows_in_blocks.Facts) (hPre_finite_router : Cert.Pre_finite_router.Facts),
    quiescent_Kernel (hKernel := hKernel) (hPre_experts_in_range := hPre_experts_in_range)
    ∧ quiescent_KernelIdeal (hKernelIdeal := hKernelIdeal) (hPre_experts_in_range := hPre_experts_in_range)
    ∧ quiescent_ReferenceIdeal (hReferenceIdeal := hReferenceIdeal)
    ∧ quiescent_ReferenceIdeal_pre_experts_in_range (hReferenceIdeal := hReferenceIdeal) (hPre_experts_in_range := hPre_experts_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weights (hKernel4Ideal := hKernel4Ideal) (hPre_finite_weights := hPre_finite_weights)
    ∧ quiescent_Reference4Ideal (hReference4Ideal := hReference4Ideal)
    ∧ quiescent_Reference4Ideal_pre_finite_weights (hReference4Ideal := hReference4Ideal) (hPre_finite_weights := hPre_finite_weights)
    ∧ quiescent_Kernel5 (hKernel5 := hKernel5) (hPre_rows_in_blocks := hPre_rows_in_blocks)
    ∧ quiescent_Kernel5Ideal (hKernel5Ideal := hKernel5Ideal) (hPre_rows_in_blocks := hPre_rows_in_blocks)
    ∧ quiescent_Reference5Ideal (hReference5Ideal := hReference5Ideal)
    ∧ quiescent_Reference5Ideal_pre_rows_in_blocks (hReference5Ideal := hReference5Ideal) (hPre_rows_in_blocks := hPre_rows_in_blocks)
    ∧ quiescent_Kernel6 (hKernel6 := hKernel6)
    ∧ quiescent_Kernel6Ideal (hKernel6Ideal := hKernel6Ideal)
    ∧ quiescent_Kernel6Ideal_pre_finite_router (hKernel6Ideal := hKernel6Ideal) (hPre_finite_router := hPre_finite_router)
    ∧ quiescent_Reference6Ideal (hReference6Ideal := hReference6Ideal)
    ∧ quiescent_Reference6Ideal_pre_finite_router (hReference6Ideal := hReference6Ideal) (hPre_finite_router := hPre_finite_router)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_experts_in_range := hPre_experts_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weights (hKernel4Ideal := hKernel4Ideal) (hReference4Ideal := hReference4Ideal) (hPre_finite_weights := hPre_finite_weights)
    ∧ preserves_Kernel5_Kernel5Ideal
    ∧ algebraic_Kernel5Ideal_Reference5Ideal (hKernel5Ideal := hKernel5Ideal) (hReference5Ideal := hReference5Ideal) (hPre_rows_in_blocks := hPre_rows_in_blocks)
    ∧ preserves_Kernel6_Kernel6Ideal
    ∧ algebraic_Kernel6Ideal_Reference6Ideal_pre_finite_router (hKernel6Ideal := hKernel6Ideal) (hReference6Ideal := hReference6Ideal) (hPre_finite_router := hPre_finite_router)
    ∧ preserves_Kernel7_Kernel7Ideal
    ∧ algebraic_Kernel7Ideal_Reference7Ideal (hKernel7Ideal := hKernel7Ideal) (hReference7Ideal := hReference7Ideal)
-- ==== Pre_experts_in_range.lean ====
abbrev S72 : Shape := ⟨1, ![72]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : IVec S72 32) (main_arg1 : IVec S72 32) (main_arg2 : FVec F S36864x1024 .bf16) (main_arg3 : FVec F S8x1024x3584 .bf16) (main_arg4 : FVec F S8x1024x3584 .bf16) (main_arg5 : FVec F S8x3584x1024 .f32) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 8#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_finite_router.lean ====
abbrev S16384x512 : Shape := ⟨2, ![16384, 512]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1x1024 : Shape := ⟨2, ![1, 1024]⟩
abbrev S1x1024x8 : Shape := ⟨3, ![1, 1024, 8]⟩
abbrev S_ : Shape := ⟨0, ![]⟩
abbrev S1024x8 : Shape := ⟨2, ![1024, 8]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  shapeCasts_S1x1024x8_S1024x8 : S1x1024x8.ShapeCasts S1024x8
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S16384x512 .bf16) (main_arg1 : FVec F S16384x1024 .bf16) (main_arg2 : FVec F S16384x6144 .bf16) (main_arg3 : FVec F S16384x1024 .f32) (main_arg4 : FVec F S512x1024 .bf16) (main_arg5 : FVec F S1024x1024 .bf16) (main_arg6 : FVec F S1x1024 .f32) (main_arg7 : FVec F S1x1024x8 .f32) : IVec S_ 1 :=
  let main_v0 : FVec F S1x1024 .f32 := Host.absf main_arg6
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x8 .f32 := shapeCast S1024x8 main_arg7 shapeCasts_S1x1024x8_S1024x8
  let main_v5 : FVec F S1024x8 .f32 := Host.absf main_v4
  let main_cst_0 : FVec F S_ .f32 := constant S_ .f32 0x7F800000#32
  let main_v6 : FVec F S1024x8 .f32 := broadcastInDim S1024x8 ![] bcast_S_S1024x8 main_cst_0
  let main_v7 : IVec S1024x8 1 := cmpf .olt main_v5 main_v6
  let main_c_1 : IVec S_ 1 := constantI S_ 1 1#1
  let main_v8 : IVec S_ 1 := (fun x v => Host.reduce IntOp.andi x v reducesTo_S1024x8_S_d0_1 h_S_) main_v7 main_c_1
  let main_v9 : IVec S_ 1 := andi main_v3 main_v8
  main_v9
-- ==== Pre_finite_weights.lean ====
abbrev S16384x1024 : Shape := ⟨2, ![16384, 1024]⟩
abbrev S2x1024 : Shape := ⟨2, ![2, 1024]⟩
abbrev S2x1024x6144 : Shape := ⟨3, ![2, 1024, 6144]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S1x1024x6144 : Shape := ⟨3, ![1, 1024, 6144]⟩
abbrev S1024x6144 : Shape := ⟨2, ![1024, 6144]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  slices_S2x1024x6144_S1x1024x6144_0_0_0 : S2x1024x6144.Slices ![0, 0, 0] S1x1024x6144
  shapeCasts_S1x1024x6144_S1024x6144 : S1x1024x6144.ShapeCasts S1024x6144
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S16384x1024 .f32) (main_arg1 : FVec F S2x1024 .f32) (main_arg2 : FVec F S2x1024x6144 .bf16) (main_arg3 : FVec F S2x64 .f32) (main_arg4 : FVec F S2x64 .f32) : IVec S_ 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x6144 .bf16 := (extractStridedSlice S1x1024x6144 ![0, 0, 0] · slices_S2x1024x6144_S1x1024x6144_0_0_0) main_arg2
  let main_v7 : FVec F S1024x6144 .bf16 := shapeCast S1024x6144 main_v6 shapeCasts_S1x1024x6144_S1024x6144
  let main_v8 : FVec F S1024x6144 .bf16 := Host.absf main_v7
  let main_cst_0 : FVec F S_ .bf16 := constant S_ .bf16 0x7F80#16
  let main_v9 : FVec F S1024x6144 .bf16 := broadcastInDim S1024x6144 ![] bcast_S_S1024x6144 main_cst_0
  let main_v10 : IVec S1024x6144 1 := cmpf .olt main_v8 main_v9
  let main_c_1 : IVec S_ 1 := constantI S_ 1 1#1
  let main_v11 : IVec S_ 1 := (fun x v => Host.reduce IntOp.andi x v reducesTo_S1024x6144_S_d0_1 h_S_) main_v10 main_c_1
  let main_v12 : IVec S_ 1 := andi main_v5 main_v11
  main_v12
-- ==== Pre_rows_in_blocks.lean ====
abbrev S512 : Shape := ⟨1, ![512]⟩
abbrev S16384x1024 : Shape := ⟨2, ![16384, 1024]⟩
abbrev S16384x128 : Shape := ⟨2, ![16384, 128]⟩
abbrev S16384x8 : Shape := ⟨2, ![16384, 8]⟩
abbrev S36864x1024 : Shape := ⟨2, ![36864, 1024]⟩
abbrev S64x1x8 : Shape := ⟨3, ![64, 1, 8]⟩
abbrev S_ : Shape := ⟨0, ![]⟩
abbrev S64x256x8 : Shape := ⟨3, ![64, 256, 8]⟩

class Facts : Prop where
  shapeCasts_S512_S64x1x8 : S512.ShapeCasts S64x1x8
  bcast_S_S64x1x8 : S_.BroadcastsInDim S64x1x8 (![] : Fin 0 → Fin S64x1x8.rank)
  shapeCasts_S16384x8_S64x256x8 : S16384x8.ShapeCasts S64x256x8
  bcast_S64x1x8_S64x256x8_0_1_2 : S64x1x8.BroadcastsInDim S64x256x8 (![0, 1, 2] : Fin 3 → Fin S64x256x8.rank)
  bcast_S_S64x256x8 : S_.BroadcastsInDim S64x256x8 (![] : Fin 0 → Fin S64x256x8.rank)
  bcast_S_S512 : S_.BroadcastsInDim S512 (![] : Fin 0 → Fin S512.rank)
  reducesTo_S512_S_d0 : S512.ReducesTo [0] S_
  h_S_ : 0 < S_.numel
  reducesTo_S64x256x8_S_d0_1_2 : S64x256x8.ReducesTo [0, 1, 2] S_

variable [Facts]

def fn_part1 {F : FTy → Type} [FloatOps F] (main_v3 : IVec S64x256x8 32) (main_v13 : IVec S64x256x8 1) (main_v18 : IVec S512 1) : IVec S_ 1 :=
  let main_c_4 : IVec S_ 1 := constantI S_ 1 1#1
  let main_v19 : IVec S_ 1 := (fun x v => Host.reduce IntOp.andi x v reducesTo_S512_S_d0 h_S_) main_v18 main_c_4
  let main_c_5 : IVec S_ 32 := constantI S_ 32 0#32
  let main_v20 : IVec S64x256x8 32 := broadcastInDim S64x256x8 ![] bcast_S_S64x256x8 main_c_5
  let main_v21 : IVec S64x256x8 1 := cmpi .slt main_v3 main_v20
  let main_v22 : IVec S64x256x8 1 := ori main_v21 main_v13
  let main_c_6 : IVec S_ 1 := constantI S_ 1 1#1
  let main_v23 : IVec S_ 1 := (fun x v => Host.reduce IntOp.andi x v reducesTo_S64x256x8_S_d0_1_2 h_S_) main_v22 main_c_6
  let main_v24 : IVec S_ 1 := andi main_v19 main_v23
  main_v24

def fn {F : FTy → Type} [FloatOps F] (main_arg0 : IVec S512 32) (main_arg1 : FVec F S16384x1024 .f32) (main_arg2 : FVec F S16384x128 .f32) (main_arg3 : IVec S16384x8 32) (main_arg4 : FVec F S36864x1024 .bf16) : IVec S_ 1 :=
  let main_v0 : IVec S64x1x8 32 := shapeCast S64x1x8 main_arg0 shapeCasts_S512_S64x1x8
  let main_c : IVec S_ 32 := constantI S_ 32 256#32
  let main_v1 : IVec S64x1x8 32 := broadcastInDim S64x1x8 ![] bcast_S_S64x1x8 main_c
  let main_v2 : IVec S64x1x8 32 := muli main_v0 main_v1
  let main_v3 : IVec S64x256x8 32 := shapeCast S64x256x8 main_arg3 shapeCasts_S16384x8_S64x256x8
  let main_v4 : IVec S64x256x8 32 := broadcastInDim S64x256x8 ![0, 1, 2] bcast_S64x1x8_S64x256x8_0_1_2 main_v2
  let main_v5 : IVec S64x256x8 1 := cmpi .sge main_v3 main_v4
  let main_c_0 : IVec S_ 32 := constantI S_ 32 512#32
  let main_v6 : IVec S64x1x8 32 := broadcastInDim S64x1x8 ![] bcast_S_S64x1x8 main_c_0
  let main_v7 : IVec S64x1x8 32 := addi main_v2 main_v6
  let main_v8 : IVec S64x256x8 32 := broadcastInDim S64x256x8 ![0, 1, 2] bcast_S64x1x8_S64x256x8_0_1_2 main_v7
  let main_v9 : IVec S64x256x8 1 := cmpi .slt main_v3 main_v8
  let main_v10 : IVec S64x256x8 1 := andi main_v5 main_v9
  let main_c_1 : IVec S_ 32 := constantI S_ 32 36864#32
  let main_v11 : IVec S64x256x8 32 := broadcastInDim S64x256x8 ![] bcast_S_S64x256x8 main_c_1
  let main_v12 : IVec S64x256x8 1 := cmpi .slt main_v3 main_v11
  let main_v13 : IVec S64x256x8 1 := andi main_v10 main_v12
  let main_c_2 : IVec S_ 32 := constantI S_ 32 0#32
  let main_v14 : IVec S512 32 := broadcastInDim S512 ![] bcast_S_S512 main_c_2
  let main_v15 : IVec S512 1 := cmpi .sge main_arg0 main_v14
  let main_c_3 : IVec S_ 32 := constantI S_ 32 144#32
  let main_v16 : IVec S512 32 := broadcastInDim S512 ![] bcast_S_S512 main_c_3
  let main_v17 : IVec S512 1 := cmpi .slt main_arg0 main_v16
  let main_v18 : IVec S512 1 := andi main_v15 main_v17
  fn_part1 (F := F) main_v3 main_v13 main_v18
-- ==== Kernel.lean ====
abbrev S72 : Shape := ⟨1, ![72]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S1024x1792 : Shape := ⟨2, ![1024, 1792]⟩
abbrev S1792x1024 : Shape := ⟨2, ![1792, 1024]⟩
abbrev S512x1792 : Shape := ⟨2, ![512, 1792]⟩

abbrev nBuf : Space → Nat
  | .hbm => 5
  | .vmem => 11
  | .smem => 2
  | _ => 0

abbrev bufTy : (tb : Table) → Fin (tcTables nBuf tb) → BufTy
  | .hbm, ⟨0, _⟩ => ⟨S36864x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .f32⟩
  | .hbm, ⟨4, _⟩ => ⟨S36864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .f32⟩
  | .local _ .vmem, ⟨7, _⟩ => ⟨S1x1792x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S72, .i32⟩
  | .local _ .smem, ⟨1, _⟩ => ⟨S72, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond4 (i : grid0.Coords) : BitVec 1 :=
  let arg1 : BitVec 32 := BitVec.ofNat 32 (i 1).val
  let c1_i32_21 : BitVec 32 := 1#32
  let v37 : BitVec 1 := Scalar.cmpi .eq arg1 c1_i32_21
  let v38 : BitVec 32 := Scalar.extui v37
  let c0_i32_22 : BitVec 32 := 0#32
  let v39 : BitVec 1 := Scalar.cmpi .ne v38 c0_i32_22
  v39

def k0_cond5 (i : grid0.Coords) (v1 : BitVec 32) : BitVec 1 :=
  let c1_i32 : BitVec 32 := 1#32
  let v2 : BitVec 1 := Scalar.cmpi .eq v1 c1_i32
  let v_true : BitVec 1 := 1#1
  let v5 : BitVec 1 := Scalar.xori v2 v_true
  let arg1 : BitVec 32 := BitVec.ofNat 32 (i 1).val
  let c1_i32_0 : BitVec 32 := 1#32
  let v6 : BitVec 1 := Scalar.cmpi .eq arg1 c1_i32_0
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S72 : Shape := ⟨1, ![72]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S36864x8x3584 : Shape := ⟨3, ![36864, 8, 3584]⟩
abbrev S8x36864x1024 : Shape := ⟨3, ![8, 36864, 1024]⟩
abbrev S8x36864 : Shape := ⟨2, ![8, 36864]⟩
abbrev S8x36864x1 : Shape := ⟨3, ![8, 36864, 1]⟩

abbrev nBuf : Space → Nat
  | .hbm => 45
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S36864x1024, .bf16⟩
  | .hbm, ⟨3, _⟩ => ⟨S8x1024x3584, .bf16⟩
  | .hbm, ⟨4, _⟩ => ⟨S8x1024x3584, .bf16⟩
  | .hbm, ⟨5, _⟩ => ⟨S8x3584x1024, .f32⟩
  | .hbm, ⟨6, _⟩ => ⟨S36864x1024, .f32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x512, .i32⟩
  | .hbm, ⟨16, _⟩ => ⟨S36864, .i32⟩
  | .hbm, ⟨17, _⟩ => ⟨S36864x1, .i32⟩
  | .hbm, ⟨18, _⟩ => ⟨S1x8, .i32⟩
  | .hbm, ⟨19, _⟩ => ⟨S36864x8, .i32⟩
  | .hbm, ⟨20, _⟩ => ⟨S36864x8, .i32⟩
  | .hbm, ⟨21, _⟩ => ⟨S36864x8, .i1⟩
  | .hbm, ⟨22, _⟩ => ⟨S36864x8, .f32⟩
  | .hbm, ⟨23, _⟩ => ⟨S8x1024x3584, .f32⟩
  | .hbm, ⟨24, _⟩ => ⟨S8x1024x3584, .f32⟩
  | .hbm, ⟨25, _⟩ => ⟨S36864x8x3584, .f32⟩
  | .hbm, ⟨26, _⟩ => ⟨S36864x8x3584, .f32⟩
  | .hbm, ⟨27, _⟩ => ⟨S36864x8x3584, .f32⟩
  | .hbm, ⟨28, _⟩ => ⟨S_, .f32⟩
  | .hbm, ⟨29, _⟩ => ⟨S36864x8x3584, .f32⟩
  | .hbm, ⟨30, _⟩ => ⟨S36864x8x3584, .f32⟩
  | .hbm, ⟨31, _⟩ => ⟨S_, .f32⟩
  | .hbm, ⟨32, _⟩ => ⟨S36864x8x3584, .f32⟩
  | .hbm, ⟨33, _⟩ => ⟨S36864x8x3584, .f32⟩
  | .hbm, ⟨34, _⟩ => ⟨S36864x8x3584, .f32⟩
  | .hbm, ⟨35, _⟩ => ⟨S36864x8x3584, .f32⟩
  | .hbm, ⟨36, _⟩ => ⟨S36864x8x3584, .f32⟩
  | .hbm, ⟨37, _⟩ => ⟨S8x36864x1024, .f32⟩
  | .hbm, ⟨38, _⟩ => ⟨S8x36864, .f32⟩
  | .hbm, ⟨39, _⟩ => ⟨S8x36864x1, .f32⟩
  | .hbm, ⟨40, _⟩ => ⟨S8x36864x1024, .f32⟩
  | .hbm, ⟨41, _⟩ => ⟨S8x36864x1024, .f32⟩
  | .hbm, ⟨42, _⟩ => ⟨S_, .f32⟩
  | .hbm, ⟨43, _⟩ => ⟨S36864x1024, .f32⟩
  | .hbm, ⟨44, _⟩ => ⟨S36864x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call2_v0 : Ref sig .tc := ⟨.hbm, 26, rfl⟩
abbrev main_call2_v1 : Ref sig .tc := ⟨.hbm, 27, rfl⟩
abbrev main_call2_cst : Ref sig .tc := ⟨.hbm, 28, rfl⟩
abbrev main_call2_v2 : Ref sig .tc := ⟨.hbm, 29, rfl⟩
abbrev main_call2_v3 : Ref sig .tc := ⟨.hbm, 30, rfl⟩
abbrev main_call2_cst_0 : Ref sig .tc := ⟨.hbm, 31, rfl⟩
abbrev main_call2_v4 : Ref sig .tc := ⟨.hbm, 32, rfl⟩
abbrev main_call2_v5 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S16384x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x512 : Shape := ⟨2, ![16384, 512]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S16384 : Shape := ⟨1, ![16384]⟩
abbrev S16384x1 : Shape := ⟨2, ![16384, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .bf16⟩
  | .hbm, ⟨5, _⟩ => ⟨S1024x1024, .bf16⟩
  | .hbm, ⟨6, _⟩ => ⟨S1x1024, .f32⟩
  | .hbm, ⟨7, _⟩ => ⟨S16384x512, .f32⟩
  | .hbm, ⟨8, _⟩ => ⟨S512x1024, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1024x1024, .f32⟩
  | .hbm, ⟨24, _⟩ => ⟨S16384x1024, .f32⟩
  | .hbm, ⟨25, _⟩ => ⟨S16384x1024, .f32⟩
  | .hbm, ⟨26, _⟩ => ⟨S1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel4.lean ====
abbrev S16384x1024 : Shape := ⟨2, ![16384, 1024]⟩
abbrev S2x1024 : Shape := ⟨2, ![2, 1024]⟩
abbrev S2x1024x6144 : Shape := ⟨3, ![2, 1024, 6144]⟩
abbrev S2x64 : Shape := ⟨2, ![2, 64]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x256 : Shape := ⟨2, ![2048, 256]⟩
abbrev S128x128 : Shape := ⟨2, ![128, 128]⟩
abbrev S1x64 : Shape := ⟨2, ![1, 64]⟩
abbrev S64 : Shape := ⟨1, ![64]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S16384x6144 : Shape := ⟨2, ![16384, 6144]⟩
abbrev S512x1024 : Shape := ⟨2, ![512, 1024]⟩
abbrev S1x1024x6144 : Shape := ⟨3, ![1, 1024, 6144]⟩
abbrev S512x256 : Shape := ⟨2, ![512, 256]⟩
abbrev S512x6144 : Shape := ⟨2, ![512, 6144]⟩
abbrev S512 : Shape := ⟨1, ![512]⟩
abbrev S512x1 : Shape := ⟨2, ![512, 1]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 86
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x6144, .bf16⟩
  | .hbm, ⟨3, _⟩ => ⟨S2x64, .f32⟩
  | .hbm, ⟨4, _⟩ => ⟨S2x64, .f32⟩
  | .hbm, ⟨5, _⟩ => ⟨S2048, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x64, .f32⟩
  | .hbm, ⟨22, _⟩ => ⟨S2048x32, .f32⟩
  | .hbm, ⟨23, _⟩ => ⟨S2048x64, .f32⟩
  | .hbm, ⟨24, _⟩ => ⟨S_, .f32⟩
  | .hbm, ⟨25, _⟩ => ⟨S2048x64, .f32⟩
  | .hbm, ⟨26, _⟩ => ⟨S_, .f32⟩
  | .hbm, ⟨27, _⟩ => ⟨S2048x64, .f32⟩
  | .hbm, ⟨28, _⟩ => ⟨S2048x256, .f32⟩
  | .hbm, ⟨29, _⟩ => ⟨S2048x256, .f32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .i32⟩
  | .hbm, ⟨37, _⟩ => ⟨S_, .i32⟩
  | .hbm, ⟨38, _⟩ => ⟨S128x128, .i32⟩
  | .hbm, ⟨39, _⟩ => ⟨S128x128, .i1⟩
  | .hbm, ⟨40, _⟩ => ⟨S128x128, .i32⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i1⟩
  | .hbm, ⟨45, _⟩ => ⟨S128x128, .i1⟩
  | .hbm, ⟨46, _⟩ => ⟨S_, .i32⟩
  | .hbm, ⟨47, _⟩ => ⟨S128x128, .i32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S_, .i32⟩
  | .hbm, ⟨52, _⟩ => ⟨S128x128, .i32⟩
  | .hbm, ⟨53, _⟩ => ⟨S128x128, .i32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i1⟩
  | .hbm, ⟨58, _⟩ => ⟨S128x128, .i32⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i1⟩
  | .hbm, ⟨63, _⟩ => ⟨S128x128, .i1⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S128x128, .i32⟩
  | .hbm, ⟨68, _⟩ => ⟨S128x128, .i1⟩
  | .hbm, ⟨69, _⟩ => ⟨S128x128, .bf16⟩
  | .hbm, ⟨70, _⟩ => ⟨S1x64, .f32⟩
  | .hbm, ⟨71, _⟩ => ⟨S64, .f32⟩
  | .hbm, ⟨72, _⟩ => ⟨S1x64, .f32⟩
  | .hbm, ⟨73, _⟩ => ⟨S2x64, .f32⟩
  | .hbm, ⟨74, _⟩ => ⟨S128, .f32⟩
  | .hbm, ⟨75, _⟩ => ⟨S1x128, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S2x64, .f32⟩
  | .hbm, ⟨80, _⟩ => ⟨S128, .f32⟩
  | .hbm, ⟨81, _⟩ => ⟨S1x128, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6144, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S512x6144, .bf16⟩
  | .local _ .vmem, ⟨12, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v23 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S2x1024 : Shape := ⟨2, ![2, 1024]⟩
abbrev S2x1024x6144 : Shape := ⟨3, ![2, 1024, 6144]⟩
abbrev S2x64 : Shape := ⟨2, ![2, 64]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x6144 : Shape := ⟨3, ![1, 1024, 6144]⟩
abbrev S1024x6144 : Shape := ⟨2, ![1024, 6144]⟩
abbrev S16384x6144 : Shape := ⟨2, ![16384, 6144]⟩
abbrev S8x2048x6144 : Shape := ⟨3, ![8, 2048, 6144]⟩
abbrev S8x2048x2048 : Shape := ⟨3, ![8, 2048, 2048]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x2048x3136 : Shape := ⟨3, ![8, 2048, 3136]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S8x2048x8x64 : Shape := ⟨4, ![8, 2048, 8, 64]⟩
abbrev S1x64 : Shape := ⟨2, ![1, 64]⟩
abbrev S64 : Shape := ⟨1, ![64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x8x32 : Shape := ⟨4, ![8, 2048, 8, 32]⟩
abbrev S1x2048x1x32 : Shape := ⟨4, ![1, 2048, 1, 32]⟩
abbrev S8x2048x1x64 : Shape := ⟨4, ![8, 2048, 1, 64]⟩
abbrev S8x2048x1 : Shape := ⟨3, ![8, 2048, 1]⟩
abbrev S8x2048x1x1 : Shape := ⟨4, ![8, 2048, 1, 1]⟩
abbrev S8x2048x1x32 : Shape := ⟨4, ![8, 2048, 1, 32]⟩
abbrev S8x2048x4x64 : Shape := ⟨4, ![8, 2048, 4, 64]⟩
abbrev S8x2048x4x32 : Shape := ⟨4, ![8, 2048, 4, 32]⟩
abbrev S16384x2048 : Shape := ⟨2, ![16384, 2048]⟩
abbrev S16384x512 : Shape := ⟨2, ![16384, 512]⟩
abbrev S16384x256 : Shape := ⟨2, ![16384, 256]⟩
abbrev S16384x64 : Shape := ⟨2, ![16384, 64]⟩
abbrev S16384x3136 : Shape := ⟨2, ![16384, 3136]⟩

abbrev nBuf : Space → Nat
  | .hbm => 173
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x6144, .bf16⟩
  | 3 => ⟨S2x64, .f32⟩
  | 4 => ⟨S2x64, .f32⟩
  | 5 => ⟨S1x1024, .f32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1024, .f32⟩
  | 19 => ⟨S16384x1024, .f32⟩
  | 20 => ⟨S1x1024, .f32⟩
  | 21 => ⟨S16384x1024, .f32⟩
  | 22 => ⟨S16384x1024, .f32⟩
  | 23 => ⟨S1x1024x6144, .bf16⟩
  | 24 => ⟨S1024x6144, .bf16⟩
  | 25 => ⟨S1024x6144, .f32⟩
  | 26 => ⟨S16384x6144, .f32⟩
  | 27 => ⟨S8x2048x6144, .f32⟩
  | 28 => ⟨S8x2048x2048, .f32⟩
  | 29 => ⟨S8x2048x512, .f32⟩
  | 30 => ⟨S8x2048x256, .f32⟩
  | 31 => ⟨S8x2048x64, .f32⟩
  | 32 => ⟨S8x2048x64, .f32⟩
  | 33 => ⟨S8x2048x64, .f32⟩
  | 34 => ⟨S8x2048x3136, .f32⟩
  | 35 => ⟨S2048, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S2048x1, .f32⟩
  | 45 => ⟨S1x32, .f32⟩
  | 46 => ⟨S2048x32, .f32⟩
  | 47 => ⟨S2048x32, .f32⟩
  | 48 => ⟨S2048x32, .f32⟩
  | 49 => ⟨S2048x32, .f32⟩
  | 50 => ⟨S2048x1x32, .f32⟩
  | 51 => ⟨S2048x32, .f32⟩
  | 52 => ⟨S2048x1x32, .f32⟩
  | 53 => ⟨S8x2048x8x64, .f32⟩
  | 54 => ⟨S1x64, .f32⟩
  | 55 => ⟨S64, .f32⟩
  | 56 => ⟨S8x2048x8x64, .f32⟩
  | 57 => ⟨S_, .f32⟩
  | 58 => ⟨S8x2048x8, .f32⟩
  | 59 => ⟨S8x2048x8x1, .f32⟩
  | 60 => ⟨S_, .f32⟩
  | 61 => ⟨S8x2048x8x1, .f32⟩
  | 62 => ⟨S8x2048x8x1, .f32⟩
  | 63 => ⟨S_, .f32⟩
  | 64 => ⟨S8x2048x8x1, .f32⟩
  | 65 => ⟨S8x2048x8x1, .f32⟩
  | 66 => ⟨S8x2048x8x1, .f32⟩
  | 67 => ⟨S8x2048x8x64, .f32⟩
  | 68 => ⟨S8x2048x8x64, .f32⟩
  | 69 => ⟨S1x1x1x64, .f32⟩
  | 70 => ⟨S8x2048x8x64, .f32⟩
  | 71 => ⟨S8x2048x8x64, .f32⟩
  | 72 => ⟨S8x2048x8x32, .f32⟩
  | 73 => ⟨S8x2048x8x32, .f32⟩
  | 74 => ⟨S1x2048x1x32, .f32⟩
  | 75 => ⟨S8x2048x8x32, .f32⟩
  | 76 => ⟨S8x2048x8x32, .f32⟩
  | 77 => ⟨S1x2048x1x32, .f32⟩
  | 78 => ⟨S8x2048x8x32, .f32⟩
  | 79 => ⟨S8x2048x8x32, .f32⟩
  | 80 => ⟨S8x2048x8x32, .f32⟩
  | 81 => ⟨S1x2048x1x32, .f32⟩
  | 82 => ⟨S8x2048x8x32, .f32⟩
  | 83 => ⟨S8x2048x8x32, .f32⟩
  | 84 => ⟨S1x2048x1x32, .f32⟩
  | 85 => ⟨S8x2048x8x32, .f32⟩
  | 86 => ⟨S8x2048x8x32, .f32⟩
  | 87 => ⟨S8x2048x8x32, .f32⟩
  | 88 => ⟨S8x2048x8x64, .f32⟩
  | 89 => ⟨S_, .f32⟩
  | 90 => ⟨S8x2048x8x64, .f32⟩
  | 91 => ⟨S8x2048x8x64, .f32⟩
  | 92 => ⟨S8x2048x1x64, .f32⟩
  | 93 => ⟨S1x64, .f32⟩
  | 94 => ⟨S64, .f32⟩
  | 95 => ⟨S8x2048x1x64, .f32⟩
  | 96 => ⟨S_, .f32⟩
  | 97 => ⟨S8x2048x1, .f32⟩
  | 98 => ⟨S8x2048x1x1, .f32⟩
  | 99 => ⟨S_, .f32⟩
  | 100 => ⟨S8x2048x1x1, .f32⟩
  | 101 => ⟨S8x2048x1x1, .f32⟩
  | 102 => ⟨S_, .f32⟩
  | 103 => ⟨S8x2048x1x1, .f32⟩
  | 104 => ⟨S8x2048x1x1, .f32⟩
  | 105 => ⟨S8x2048x1x1, .f32⟩
  | 106 => ⟨S8x2048x1x64, .f32⟩
  | 107 => ⟨S8x2048x1x64, .f32⟩
  | 108 => ⟨S1x1x1x64, .f32⟩
  | 109 => ⟨S8x2048x1x64, .f32⟩
  | 110 => ⟨S8x2048x1x64, .f32⟩
  | 111 => ⟨S8x2048x1x32, .f32⟩
  | 112 => ⟨S8x2048x1x32, .f32⟩
  | 113 => ⟨S1x2048x1x32, .f32⟩
  | 114 => ⟨S8x2048x1x32, .f32⟩
  | 115 => ⟨S8x2048x1x32, .f32⟩
  | 116 => ⟨S1x2048x1x32, .f32⟩
  | 117 => ⟨S8x2048x1x32, .f32⟩
  | 118 => ⟨S8x2048x1x32, .f32⟩
  | 119 => ⟨S8x2048x1x32, .f32⟩
  | 120 => ⟨S1x2048x1x32, .f32⟩
  | 121 => ⟨S8x2048x1x32, .f32⟩
  | 122 => ⟨S8x2048x1x32, .f32⟩
  | 123 => ⟨S1x2048x1x32, .f32⟩
  | 124 => ⟨S8x2048x1x32, .f32⟩
  | 125 => ⟨S8x2048x1x32, .f32⟩
  | 126 => ⟨S8x2048x1x32, .f32⟩
  | 127 => ⟨S8x2048x1x64, .f32⟩
  | _ => ⟨S16384x1024, .f32⟩

abbrev hbmTy0_1 (i : Nat) : BufTy := match i % 128 with
  | 0 => ⟨S8x2048x4x64, .f32⟩
  | 1 => ⟨S8x2048x4x32, .f32⟩
  | 2 => ⟨S8x2048x4x32, .f32⟩
  | 3 => ⟨S1x2048x1x32, .f32⟩
  | 4 => ⟨S8x2048x4x32, .f32⟩
  | 5 => ⟨S8x2048x4x32, .f32⟩
  | 6 => ⟨S1x2048x1x32, .f32⟩
  | 7 => ⟨S8x2048x4x32, .f32⟩
  | 8 => ⟨S8x2048x4x32, .f32⟩
  | 9 => ⟨S8x2048x4x32, .f32⟩
  | 10 => ⟨S1x2048x1x32, .f32⟩
  | 11 => ⟨S8x2048x4x32, .f32⟩
  | 12 => ⟨S8x2048x4x32, .f32⟩
  | 13 => ⟨S1x2048x1x32, .f32⟩
  | 14 => ⟨S8x2048x4x32, .f32⟩
  | 15 => ⟨S8x2048x4x32, .f32⟩
  | 16 => ⟨S8x2048x4x32, .f32⟩
  | 17 => ⟨S8x2048x4x64, .f32⟩
  | 18 => ⟨S8x2048x1x64, .f32⟩
  | 19 => ⟨S8x2048x1x32, .f32⟩
  | 20 => ⟨S8x2048x1x32, .f32⟩
  | 21 => ⟨S1x2048x1x32, .f32⟩
  | 22 => ⟨S8x2048x1x32, .f32⟩
  | 23 => ⟨S8x2048x1x32, .f32⟩
  | 24 => ⟨S1x2048x1x32, .f32⟩
  | 25 => ⟨S8x2048x1x32, .f32⟩
  | 26 => ⟨S8x2048x1x32, .f32⟩
  | 27 => ⟨S8x2048x1x32, .f32⟩
  | 28 => ⟨S1x2048x1x32, .f32⟩
  | 29 => ⟨S8x2048x1x32, .f32⟩
  | 30 => ⟨S8x2048x1x32, .f32⟩
  | 31 => ⟨S1x2048x1x32, .f32⟩
  | 32 => ⟨S8x2048x1x32, .f32⟩
  | 33 => ⟨S8x2048x1x32, .f32⟩
  | 34 => ⟨S8x2048x1x32, .f32⟩
  | 35 => ⟨S8x2048x1x64, .f32⟩
  | 36 => ⟨S16384x2048, .f32⟩
  | 37 => ⟨S16384x512, .f32⟩
  | 38 => ⟨S16384x256, .f32⟩
  | 39 => ⟨S16384x64, .f32⟩
  | 40 => ⟨S16384x64, .f32⟩
  | 41 => ⟨S16384x64, .f32⟩
  | 42 => ⟨S16384x3136, .f32⟩
  | 43 => ⟨S16384x6144, .f32⟩
  | 44 => ⟨S16384x6144, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩

abbrev nD : Nat := 1
abbrev τ : Topo := Topo.v7x

variable {F : FTy → Type} [FloatOps F]
-- ==== Kernel5.lean ====
abbrev S512 : Shape := ⟨1, ![512]⟩
abbrev S16384x1024 : Shape := ⟨2, ![16384, 1024]⟩
abbrev S16384x128 : Shape := ⟨2, ![16384, 128]⟩
abbrev S16384x8 : Shape := ⟨2, ![16384, 8]⟩
abbrev S36864x1024 : Shape := ⟨2, ![36864, 1024]⟩
abbrev S256x1024 : Shape := ⟨2, ![256, 1024]⟩
abbrev S256x128 : Shape := ⟨2, ![256, 128]⟩
abbrev S256x8 : Shape := ⟨2, ![256, 8]⟩
abbrev S1 : Shape := ⟨1, ![1]⟩
abbrev S256x256 : Shape := ⟨2, ![256, 256]⟩
abbrev S256x1 : Shape := ⟨2, ![256, 1]⟩

abbrev nBuf : Space → Nat
  | .hbm => 5
  | .vmem => 40
  | .smem => 1
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x8, .i32⟩
  | .hbm, ⟨3, _⟩ => ⟨S36864x1024, .bf16⟩
  | .hbm, ⟨4, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x8, .i32⟩
  | .local _ .vmem, ⟨5, _⟩ => ⟨S256x8, .i32⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .f32⟩
  | .local _ .vmem, ⟨39, _⟩ => ⟨S256x1024, .f32⟩
  | .local _ .smem, ⟨0, _⟩ => ⟨S512, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S512) ![v2.toNat] S1.size (k0_off1_inb i 0)) numel1_S1
  let c0_i32_0 : BitVec 32 := 0#32
  let v4 : BitVec 32 := Scalar.addi v3 c0_i32_0
  let c143_i32 : BitVec 32 := 143#32
  let v5 : BitVec 32 := Scalar.minsi v4 c143_i32
  let c0_i32_1 : BitVec 32 := 0#32
  let c0_i32_2 : BitVec 32 := 0#32
  ![v5.toNat, c0_i32_1.toNat]

def cc0_transform_4 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S512) ![v2.toNat] S1.size (k0_off1_inb i 0)) numel1_S1
  let c1_i32 : BitVec 32 := 1#32
  let v4 : BitVec 32 := Scalar.addi v3 c1_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_5 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S512) ![v2.toNat] S1.size (k0_off1_inb i 1)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_6 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S512) ![v2.toNat] S1.size (k0_off1_inb i 1)) numel1_S1
  let c1_i32_0 : BitVec 32 := 1#32
  let v4 : BitVec 32 := Scalar.addi v3 c1_i32_0
  let c143_i32 : BitVec 32 := 143#32
  let v5 : BitVec 32 := Scalar.minsi v4 c143_i32
  let c0_i32 : BitVec 32 := 0#32
  let c0_i32_1 : BitVec 32 := 0#32
  ![v5.toNat, c0_i32.toNat]

def cc0_transform_7 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S512) ![v2.toNat] S1.size (k0_off1_inb i 2)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_8 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S512) ![v2.toNat] S1.size (k0_off1_inb i 2)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_9 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S512) ![v2.toNat] S1.size (k0_off1_inb i 3)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_10 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S512) ![v2.toNat] S1.size (k0_off1_inb i 3)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_11 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S512) ![v2.toNat] S1.size (k0_off1_inb i 4)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_12 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S512) ![v2.toNat] S1.size (k0_off1_inb i 4)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_13 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S512) ![v2.toNat] S1.size (k0_off1_inb i 5)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_14 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S512) ![v2.toNat] S1.size (k0_off1_inb i 5)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_15 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S512) ![v2.toNat] S1.size (k0_off1_inb i 6)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_16 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S512) ![v2.toNat] S1.size (k0_off1_inb i 6)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_17 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S512) ![v2.toNat] S1.size (k0_off1_inb i 7)) numel1_S1
  let c0_i32 : BitVec 32 := 0#32
  let v4 : BitVec 32 := Scalar.addi v3 c0_i32
  let c143_i32 : BitVec 32 := 143#32
  let v5 : BitVec 32 := Scalar.minsi v4 c143_i32
  let c0_i32_0 : BitVec 32 := 0#32
  let c0_i32_1 : BitVec 32 := 0#32
  ![v5.toNat, c0_i32_0.toNat]

def cc0_transform_18 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S512) ![v2.toNat] S1.size (k0_off1_inb i 7)) numel1_S1
  let c1_i32 : BitVec 32 := 1#32
  let v4 : BitVec 32 := Scalar.addi v3 c1_i32
  let c143_i32 : BitVec 32 := 143#32
  let v5 : BitVec 32 := Scalar.minsi v4 c143_i32
  let c0_i32 : BitVec 32 := 0#32
  let c0_i32_0 : BitVec 32 := 0#32
  ![v5.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S512 : Shape := ⟨1, ![512]⟩
abbrev S16384x1024 : Shape := ⟨2, ![16384, 1024]⟩
abbrev S16384x128 : Shape := ⟨2, ![16384, 128]⟩
abbrev S16384x8 : Shape := ⟨2, ![16384, 8]⟩
abbrev S36864x1024 : Shape := ⟨2, ![36864, 1024]⟩
abbrev S_ : Shape := ⟨0, ![]⟩
abbrev S16384x8x1 : Shape := ⟨3, ![16384, 8, 1]⟩
abbrev S16384x8x1024 : Shape := ⟨3, ![16384, 8, 1024]⟩

abbrev nBuf : Space → Nat
  | .hbm => 32
  | .vmem => 0
  | .smem => 0
  | _ => 0

abbrev bufTy : (tb : Table) → Fin (tcTables nBuf tb) → BufTy
  | .hbm, ⟨0, _⟩ => ⟨S512, .i32⟩
  | .hbm, ⟨1, _⟩ => ⟨S16384x1024, .f32⟩
  | .hbm, ⟨2, _⟩ => ⟨S16384x128, .f32⟩
  | .hbm, ⟨3, _⟩ => ⟨S16384x8, .i32⟩
  | .hbm, ⟨4, _⟩ => ⟨S36864x1024, .bf16⟩
  | .hbm, ⟨5, _⟩ => ⟨S_, .i32⟩
  | .hbm, ⟨6, _⟩ => ⟨S16384x8, .i32⟩
  | .hbm, ⟨7, _⟩ => ⟨S16384x8, .i32⟩
  | .hbm, ⟨8, _⟩ => ⟨S_, .i32⟩
  | .hbm, ⟨9, _⟩ => ⟨S16384x8, .i32⟩
  | .hbm, ⟨10, _⟩ => ⟨S16384x8, .i1⟩
  | .hbm, ⟨11, _⟩ => ⟨S_, .i32⟩
  | .hbm, ⟨12, _⟩ => ⟨S16384x8, .i32⟩
  | .hbm, ⟨13, _⟩ => ⟨S16384x8, .i32⟩
  | .hbm, ⟨14, _⟩ => ⟨S16384x8, .i32⟩
  | .hbm, ⟨15, _⟩ => ⟨S16384x8x1, .i32⟩
  | .hbm, ⟨16, _⟩ => ⟨S16384x8x1024, .bf16⟩
  | .hbm, ⟨17, _⟩ => ⟨S16384x8x1024, .f32⟩
  | .hbm, ⟨18, _⟩ => ⟨S_, .i32⟩
  | .hbm, ⟨19, _⟩ => ⟨S16384x8, .i32⟩
  | .hbm, ⟨20, _⟩ => ⟨S16384x8, .i1⟩
  | .hbm, ⟨21, _⟩ => ⟨S16384x8x1, .i1⟩
  | .hbm, ⟨22, _⟩ => ⟨S16384x8x1, .f32⟩
  | .hbm, ⟨23, _⟩ => ⟨S16384x8x1024, .f32⟩
  | .hbm, ⟨24, _⟩ => ⟨S16384x8x1024, .f32⟩
  | .hbm, ⟨25, _⟩ => ⟨S16384x8, .f32⟩
  | .hbm, ⟨26, _⟩ => ⟨S16384x8x1, .f32⟩
  | .hbm, ⟨27, _⟩ => ⟨S16384x8x1024, .f32⟩
  | .hbm, ⟨28, _⟩ => ⟨S16384x8x1024, .f32⟩
  | .hbm, ⟨29, _⟩ => ⟨S_, .f32⟩
  | .hbm, ⟨30, _⟩ => ⟨S16384x1024, .f32⟩
  | .hbm, ⟨31, _⟩ => ⟨S16384x1024, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel6.lean ====
abbrev S16384x512 : Shape := ⟨2, ![16384, 512]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1x1024 : Shape := ⟨2, ![1, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S16384x128 : Shape := ⟨2, ![16384, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .bf16⟩
  | .hbm, ⟨5, _⟩ => ⟨S1024x1024, .bf16⟩
  | .hbm, ⟨6, _⟩ => ⟨S1x1024, .f32⟩
  | .hbm, ⟨7, _⟩ => ⟨S1x1024x8, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x128, .bf16⟩
  | .hbm, ⟨13, _⟩ => ⟨S16384x1024, .f32⟩
  | .hbm, ⟨14, _⟩ => ⟨S16384x1024, .bf16⟩
  | .hbm, ⟨15, _⟩ => ⟨S16384x128, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x128, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S16384x512 : Shape := ⟨2, ![16384, 512]⟩
abbrev S16384x1024 : Shape := ⟨2, ![16384, 1024]⟩
abbrev S16384x6144 : Shape := ⟨2, ![16384, 6144]⟩
abbrev S512x1024 : Shape := ⟨2, ![512, 1024]⟩
abbrev S1024x1024 : Shape := ⟨2, ![1024, 1024]⟩
abbrev S1x1024 : Shape := ⟨2, ![1, 1024]⟩
abbrev S1x1024x8 : Shape := ⟨3, ![1, 1024, 8]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1024x8 : Shape := ⟨2, ![1024, 8]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x128 : Shape := ⟨2, ![16384, 128]⟩

abbrev nBuf : Space → Nat
  | .hbm => 78
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .bf16⟩
  | .hbm, ⟨2, _⟩ => ⟨S16384x6144, .bf16⟩
  | .hbm, ⟨3, _⟩ => ⟨S16384x1024, .f32⟩
  | .hbm, ⟨4, _⟩ => ⟨S512x1024, .bf16⟩
  | .hbm, ⟨5, _⟩ => ⟨S1024x1024, .bf16⟩
  | .hbm, ⟨6, _⟩ => ⟨S1x1024, .f32⟩
  | .hbm, ⟨7, _⟩ => ⟨S1x1024x8, .f32⟩
  | .hbm, ⟨8, _⟩ => ⟨S16384x512, .f32⟩
  | .hbm, ⟨9, _⟩ => ⟨S512x1024, .f32⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .bf16⟩
  | .hbm, ⟨45, _⟩ => ⟨S16384x1024, .f32⟩
  | .hbm, ⟨46, _⟩ => ⟨S1024x8, .f32⟩
  | .hbm, ⟨47, _⟩ => ⟨S16384x8, .f32⟩
  | .hbm, ⟨48, _⟩ => ⟨S16384x2, .f32⟩
  | .hbm, ⟨49, _⟩ => ⟨S16384x2, .i32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S16384x1, .f32⟩
  | .hbm, ⟨56, _⟩ => ⟨S16384x2, .f32⟩
  | .hbm, ⟨57, _⟩ => ⟨S16384x2, .f32⟩
  | .hbm, ⟨58, _⟩ => ⟨S16384x2, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x2, .f32⟩
  | .hbm, ⟨63, _⟩ => ⟨S16384x2, .f32⟩
  | .hbm, ⟨64, _⟩ => ⟨S16384x2x1, .i32⟩
  | .hbm, ⟨65, _⟩ => ⟨S1x1x8, .i32⟩
  | .hbm, ⟨66, _⟩ => ⟨S16384x2x8, .i32⟩
  | .hbm, ⟨67, _⟩ => ⟨S16384x2x8, .i32⟩
  | .hbm, ⟨68, _⟩ => ⟨S16384x2x8, .i1⟩
  | .hbm, ⟨69, _⟩ => ⟨S16384x2x8, .f32⟩
  | .hbm, ⟨70, _⟩ => ⟨S16384x2x1, .f32⟩
  | .hbm, ⟨71, _⟩ => ⟨S16384x2x8, .f32⟩
  | .hbm, ⟨72, _⟩ => ⟨S16384x2x8, .f32⟩
  | .hbm, ⟨73, _⟩ => ⟨S_, .f32⟩
  | .hbm, ⟨74, _⟩ => ⟨S16384x8, .f32⟩
  | .hbm, ⟨75, _⟩ => ⟨S_, .i32⟩
  | .hbm, ⟨76, _⟩ => ⟨S_, .f32⟩
  | .hbm, ⟨77, _⟩ => ⟨S16384x128, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_values : Ref sig .tc := ⟨.hbm, 48, rfl⟩
abbrev main_indices : Ref sig .tc := ⟨.hbm, 49, rfl⟩
abbrev main_cst_4 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_c : Ref sig .tc := ⟨.hbm, 75, rfl⟩
abbrev main_call1_v0 : Ref sig .tc := ⟨.hbm, 76, rfl⟩
abbrev main_v51 : Ref sig .tc := ⟨.hbm, 77, rfl⟩

abbrev nD : Nat := 1
abbrev τ : Topo := Topo.v7x

variable {F : FTy → Type} [FloatOps F]
-- ==== Kernel7.lean ====
abbrev S2x1024x6084 : Shape := ⟨3, ![2, 1024, 6084]⟩
abbrev S2x1024x6144 : Shape := ⟨3, ![2, 1024, 6144]⟩
abbrev S1x256x6084 : Shape := ⟨3, ![1, 256, 6084]⟩
abbrev S1x256x6144 : Shape := ⟨3, ![1, 256, 6144]⟩
abbrev S1x256x2560 : Shape := ⟨3, ![1, 256, 2560]⟩
abbrev S256x2560 : Shape := ⟨2, ![256, 2560]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x256x3072 : Shape := ⟨3, ![1, 256, 3072]⟩
abbrev S256x3072 : Shape := ⟨2, ![256, 3072]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x6084, .f32⟩
  | .hbm, ⟨1, _⟩ => ⟨S2x1024x6144, .bf16⟩
  | .local _ .vmem, ⟨0, _⟩ => ⟨S1x256x6084, .f32⟩
  | .local _ .vmem, ⟨1, _⟩ => ⟨S1x256x6084, .f32⟩
  | .local _ .vmem, ⟨2, _⟩ => ⟨S1x256x6144, .bf16⟩
  | .local _ .vmem, ⟨3, _⟩ => ⟨S1x256x6144, .bf16⟩
  | _, _ => ⟨S2x1024x6084, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x6084 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference7Ideal.lean ====
abbrev S2x1024x6084 : Shape := ⟨3, ![2, 1024, 6084]⟩
abbrev S2x1024x512 : Shape := ⟨3, ![2, 1024, 512]⟩
abbrev S2x1024x64 : Shape := ⟨3, ![2, 1024, 64]⟩
abbrev S2x1024x256 : Shape := ⟨3, ![2, 1024, 256]⟩
abbrev S2x1024x4 : Shape := ⟨3, ![2, 1024, 4]⟩
abbrev S2x1024x3072 : Shape := ⟨3, ![2, 1024, 3072]⟩
abbrev S2x1024x60 : Shape := ⟨3, ![2, 1024, 60]⟩
abbrev S2x1024x6144 : Shape := ⟨3, ![2, 1024, 6144]⟩

abbrev nBuf : Space → Nat
  | .hbm => 15
  | .vmem => 0
  | .smem => 0
  | _ => 0

abbrev bufTy : (tb : Table) → Fin (tcTables nBuf tb) → BufTy
  | .hbm, ⟨0, _⟩ => ⟨S2x1024x6084, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x64, .f32⟩
  | .hbm, ⟨7, _⟩ => ⟨S2x1024x64, .f32⟩
  | .hbm, ⟨8, _⟩ => ⟨S2x1024x256, .f32⟩
  | .hbm, ⟨9, _⟩ => ⟨S2x1024x64, .f32⟩
  | .hbm, ⟨10, _⟩ => ⟨S2x1024x4, .f32⟩
  | .hbm, ⟨11, _⟩ => ⟨S2x1024x3072, .f32⟩
  | .hbm, ⟨12, _⟩ => ⟨S2x1024x60, .f32⟩
  | .hbm, ⟨13, _⟩ => ⟨S2x1024x6144, .f32⟩
  | .hbm, ⟨14, _⟩ => ⟨S2x1024x6144, .bf16⟩
  | _, _ => ⟨S2x1024x6084, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]
-- ==== Proof.BitsRun.lean ====
module

public import Idealize.ShloMosaic.Lib.VecWindow
public import Idealize.ShloMosaic.Lib.Pipeline.ValueKit.Acc
public import proofs.«01_k».proof.Proof.Gen.Kernel.Launch
public import proofs.«01_k».proof.Proof.Gen.Kernel.Flash.Runs

/-!
# One grid point of the expert feed-forward

What a point decides from the activity table, and what each of its four ways through the body leaves: the
first half of an active tile puts its product in the scratch, the second half adds its own and stores the sum,
and the second half of an inactive tile stores zeros.
-/

@[expose] public section
noncomputable section
namespace Cert.Kernel.Tiles
open Cert.Kernel Cert.Kernel.Gen
open Idealize.ShloMosaic
open Idealize.ShloMosaic.TcCoe Idealize.ShloMosaic.Tactic
open Idealize.SL Idealize.SL.RA Idealize.SL.BI

/-- The tile of a point, as an index of the tables. -/
def tileIx (i : grid0.Coords) : S72.Idx := fun a => ⟨(i 0).val, by have h := (i 0).isLt; fin_cases a; exact h⟩

theorem off1_eq : ∀ (i : grid0.Coords) (a : Fin 1), k0_off1 i a = (i 0).val := by decide +kernel

/-- The word a point's body loads from a table. -/
abbrev word (T : S72.Idx → Elt Bits .i32) (i : grid0.Coords) : Elt Bits .i32 :=
  View.readAt (Elt Bits) (tbM0_1).view (Rect.unit (s := S72) (k0_off1 i) S1.size (k0_off1_inb i)).toLoadRect T (Shape.Idx.first (numel1_S1.symm ▸ Nat.one_pos))

theorem word_eq (T : S72.Idx → Elt Bits .i32) (i : grid0.Coords) : word T i = T (tileIx i) := by
  unfold word
  rw [View.readAt_apply]
  show T _ = T _
  congr 1
  funext a
  apply Fin.ext
  have h := off1_eq i a
  show k0_off1 i a + 0 * 1 = (i 0).val
  omega

/-- The activity table read at a point's tile by the idle table. -/
theorem atD_eq (pf : pre0.Contents (Elt Bits)) (i : grid0.Coords) : pf.atD 1 (k0_off1 i) = pf 1 (tileIx i) := by
  have h : ∀ a : Fin 1, k0_off1 i a + 1 ≤ S72.size a := fun a => by
    rw [off1_eq]; have := (i 0).isLt; fin_cases a; exact this
  unfold Pipeline.Prefetch.Contents.atD
  refine (dif_pos h).trans ?_
  congr 1
  funext a
  exact Fin.ext (off1_eq i a)

/-- The tile of a point is active. -/
abbrev Live (T : S72.Idx → Elt Bits .i32) (i : grid0.Coords) : Prop := T (tileIx i) = (1#32 : BitVec 32)

theorem cond1_iff (v : BitVec 32) : k0_cond1 v = 1#1 ↔ v = 1#32 := by
  unfold k0_cond1
  by_cases h : v = 1#32
  · subst h; exact iff_of_true (by decide) rfl
  · refine iff_of_false ?_ h
    have hb : Scalar.cmpi .eq v 1#32 = 0#1 := by
      show BitVec.ofBool (v == 1#32) = 0#1
      rw [beq_eq_false_iff_ne.2 h]; rfl
    dsimp only; rw [hb]; decide

theorem cond4_zero (i : grid0.Coords) (h : (i 1).val = 0) : ¬ k0_cond4 i = 1#1 := by
  unfold k0_cond4; rw [h]; decide
theorem cond4_one (i : grid0.Coords) (h : (i 1).val = 1) : k0_cond4 i = 1#1 := by
  unfold k0_cond4; rw [h]; decide

theorem cond5_zero (i : grid0.Coords) (h : (i 1).val = 0) (v : BitVec 32) : ¬ k0_cond5 i v = 1#1 := by
  unfold k0_cond5; rw [h]; dsimp only; generalize Scalar.cmpi _ v _ = b; revert b; decide
theorem cond5_one (i : grid0.Coords) (h : (i 1).val = 1) (v : BitVec 32) : k0_cond5 i v = 1#1 ↔ ¬ v = 1#32 := by
  rw [← cond1_iff]
  unfold k0_cond5 k0_cond1; rw [h]; dsimp only; generalize Scalar.cmpi _ v _ = b; revert b; decide

/-- The first of a tile's two halves, as the body tests it. -/
abbrev firstHalf (i : grid0.Coords) : BitVec 1 := Scalar.cmpi .ne (Scalar.extui (Scalar.cmpi .eq (BitVec.ofNat 32 (i 1).val) 0#32)) 0#32
/-- A later half, as the body tests it. -/
abbrev laterHalf (i : grid0.Coords) : BitVec 1 := Scalar.cmpi .ne (Scalar.extui (Scalar.cmpi .sgt (BitVec.ofNat 32 (i 1).val) 0#32)) 0#32

theorem firstHalf_zero (i : grid0.Coords) (h : (i 1).val = 0) : firstHalf i = 1#1 := by unfold firstHalf; rw [h]; decide
theorem firstHalf_one (i : grid0.Coords) (h : (i 1).val = 1) : ¬ firstHalf i = 1#1 := by unfold firstHalf; rw [h]; decide
theorem laterHalf_zero (i : grid0.Coords) (h : (i 1).val = 0) : ¬ laterHalf i = 1#1 := by unfold laterHalf; rw [h]; decide
theorem laterHalf_one (i : grid0.Coords) (h : (i 1).val = 1) : laterHalf i = 1#1 := by unfold laterHalf; rw [h]; decide

/-- The output's idle table: idle exactly at the first halves. -/
theorem idle4_zero (pf : pre0.Contents (Elt Bits)) (i : grid0.Coords) (h : (i 1).val = 0) : idle0 pf 4 i = true := by
  show (!(k0_cond1 (pf.atD 1 (k0_off1 i)) == 1#1 && k0_cond4 i == 1#1) && !(k0_cond5 i (pf.atD 1 (k0_off1 i)) == 1#1)) = true
  have h4 := cond4_zero i h
  have h5 := cond5_zero i h (pf.atD 1 (k0_off1 i))
  simp [h4, h5]
theorem idle4_one (pf : pre0.Contents (Elt Bits)) (i : grid0.Coords) (h : (i 1).val = 1) : idle0 pf 4 i = false := by
  show (!(k0_cond1 (pf.atD 1 (k0_off1 i)) == 1#1 && k0_cond4 i == 1#1) && !(k0_cond5 i (pf.atD 1 (k0_off1 i)) == 1#1)) = false
  have h4 := cond4_one i h
  have h1 := cond1_iff (pf.atD 1 (k0_off1 i))
  have h5 := cond5_one i h (pf.atD 1 (k0_off1 i))
  by_cases hv : pf.atD 1 (k0_off1 i) = (1#32 : BitVec 32)
  · simp [h4, h1.2 hv]
  · simp [h5.2 hv]

section
variable (c : Dev nD) (i : grid0.Coords)
  (arg4 : Memref sig .tc .vmem S512x1024 .bf16) (harg4 : arg4.IsWhole) (arg5 : Memref sig .tc .vmem S1x1024x1792 .bf16) (harg5 : arg5.IsWhole)
  (arg6 : Memref sig .tc .vmem S1x1024x1792 .bf16) (harg6 : arg6.IsWhole) (arg7 : Memref sig .tc .vmem S1x1792x1024 .f32) (harg7 : arg7.IsWhole)
  (arg8 : Memref sig .tc .vmem S512x1024 .bf16) (harg8 : arg8.IsWhole) (T0 T1 : S72.Idx → Elt Bits .i32)
  (x0 : S512x1024.Idx → Elt Bits .bf16) (x1 x2 : S1x1024x1792.Idx → Elt Bits .bf16) (x3 : S1x1792x1024.Idx → Elt Bits .f32)

set_option maxHeartbeats 2000000 in
/-- The first half of an active tile leaves its product in the scratch. -/
theorem scratch_first (h1 h2 h3 h4 h5) :
    (kernelRun0_A c i arg4 harg4 arg5 harg5 arg6 harg6 arg7 harg7 arg8 harg8 T0 T1 x0 x1 x2 x3 h1 h2 h3 h4 h5).1
      = k0_pay2 x0 x1 x2 x3 := by
  unfold kernelRun0_A
  dsimp only
  sl_unfold_words
  apply (Memref.isWhole_whole _ : scM0_0.IsWhole).read_bijective.1
  refine (View.read_writes_full (View.whole cc0_scratch0) _ (off := ![0, 0]) _ _ _).trans ?_
  have e0 := View.readAt_rep_full (Val := Elt Bits) arg4.view x0 (off := ![0, 0]) inb_S512x1024_S512x1024_0_0
  have e1 := View.readAt_rep_full (Val := Elt Bits) arg5.view x1 (off := ![0, 0, 0]) inb_S1x1024x1792_S1x1024x1792_0_0_0
  have e2 := View.readAt_rep_full (Val := Elt Bits) arg6.view x2 (off := ![0, 0, 0]) inb_S1x1024x1792_S1x1024x1792_0_0_0
  have e3 := View.readAt_rep_full (Val := Elt Bits) arg7.view x3 (off := ![0, 0, 0]) inb_S1x1792x1024_S1x1792x1024_0_0_0
  refine (congr (congr (congr (congrArg k0_pay2 e0) e1) e2) e3).trans ?_
  show _ = View.read (Elt Bits) (View.whole cc0_scratch0) _
  exact (View.read_whole (Val := Elt Bits) cc0_scratch0 _).symm

/-- The second half of an active tile stores the scratch plus its own product. -/
theorem stored_live (xa h1 h2 h3 h4 h5) :
    out0_B_4 c i arg4 harg4 arg5 harg5 arg6 harg6 arg7 harg7 arg8 harg8 T0 T1 x0 x1 x2 x3 xa h1 h2 h3 h4 h5
      = k0_pay4 (k0_pay3 x0 x1 x2 x3 xa) := by
  unfold out0_B_4
  frame_out
  simp only [View.read_rep, View.read_whole]

/-- The second half of an inactive tile stores zeros. -/
theorem stored_dead (xa h1 h2) :
    out0_D_4 c i arg4 harg4 arg5 harg5 arg6 harg6 arg7 harg7 arg8 harg8 T0 T1 x0 x1 x2 x3 xa h1 h2
      = k0_pay5 (F := Bits) := by
  unfold out0_D_4
  frame_out
end

end Cert.Kernel.Tiles
end
-- ==== Proof.BitsFrame.lean ====
module

public import proofs.«01_k».proof.Proof.BitsRun
public import Idealize.ShloMosaic.Lib.Pipeline.Quiescent
public import Idealize.ShloMosaic.Lib.Claim
public import Idealize.ShloMosaic.Adequacy
public import Idealize.ShloMosaic.Init

/-!
# The expert feed-forward's run, at every pair of tables it admits

Point `2k + f` of the grid works at half `f` of tile `k`. The output's block of tile `k` is written back once, after
its second half; between the two halves the scratch holds what the first half computed. So the run ends with every
tile's block at `tileOut`, the arguments unchanged and every semaphore at zero — whatever the two tables hold, as
long as the experts they name exist.
-/

@[expose] public section
set_option maxRecDepth 16384
noncomputable section
namespace Cert.Kernel.Tiles
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- The resources of the pipeline's staging cells. -/
abbrev stagingRes : Emb (UR sig nD τ) 𝕄 := emb₁

variable (a : (pcfg0 (F := Bits)).Adm)

/-- The pipeline at the tables `a`. -/
abbrev pipe : Pipeline.Cfg sig Λ₀ := cfg0 (F := Bits) a
abbrev pipes : Fin 1 → Pipeline.Cfg sig Λ₀ := Pipeline.pin (pcfgs (F := Bits)) fun _ => a

/-- The experts' table and the activity table. -/
abbrev experts : S72.Idx → Elt Bits .i32 := a.1 0
abbrev active : S72.Idx → Elt Bits .i32 := a.1 1

/-! ## The schedule -/

/-- A point's coordinates: its tile and its half. -/
abbrev crd (t : Fin (pipe a).N) : grid0.Coords := grid0.coords t

theorem coords_val : ∀ t : Fin grid0.N, (grid0.coords t 0).val = t.val / 2 ∧ (grid0.coords t 1).val = t.val % 2 := by decide +kernel

/-- The point before. -/
abbrev pred (t : Fin (pipe a).N) : Fin (pipe a).N := ⟨t.val - 1, Nat.lt_of_le_of_lt (Nat.sub_le _ _) t.isLt⟩

/-- The second half of a tile is the same tile as the point before. -/
theorem tileIx_pred (t : Fin (pipe a).N) (h : t.val % 2 = 1) : tileIx (crd a (pred a t)) = tileIx (crd a t) := by
  funext b
  apply Fin.ext
  show (grid0.coords (pred a t) 0).val = (grid0.coords t 0).val
  rw [(coords_val _).1, (coords_val _).1]
  show (t.val - 1) / 2 = t.val / 2
  omega

theorem flush4_tab : ∀ t : Fin grid0.N, Window.flushOf grid0 true cc0_transform_4 t = decide (t.val % 2 = 1) := by decide +kernel
theorem flush4 (t : Fin (pipe a).N) : ((pipe a).win (4 : Fin 5)).flush t = decide (t.val % 2 = 1) :=
  (Window.flush_eq_flushOf _ t).trans (flush4_tab t)

theorem idle4 (t : Fin (pipe a).N) : (pipe a).idle (4 : Fin 5) ((pipe a).grid.coords t) = decide (t.val % 2 = 0) := by
  have hc := (coords_val t).2
  rcases Nat.mod_two_eq_zero_or_one t.val with h | h
  · rw [h] at hc ⊢; exact idle4_zero a.1 (crd a t) hc
  · rw [h] at hc ⊢; exact idle4_one a.1 (crd a t) hc

/-- Nothing stored in the output's buffer is left to write back when a point begins. -/
theorem fresh4 (t : Fin (pipe a).N) : (pipe a).fresh (4 : Fin 5) t.val = true :=
  Pipeline.Cfg.fresh_tab (pipe a) (4 : Fin 5) (fun _ => true) rfl
    (fun t => by rw [flush4, idle4]; rcases Nat.mod_two_eq_zero_or_one t.val with h | h <;> rw [h] <;> rfl) t.val (Nat.le_of_lt t.isLt)

/-! ## What the buffers hold -/

variable (m : (ℓ : Loc nD τ sig) → Buf (Elt Bits) ℓ) (ρ : Dev nD → PrngReg)

/-- Each window's staging buffer at a point. -/
abbrev st0 (t : Fin (pipe a).N) : Memref sig .tc .vmem S512x1024 .bf16 := spec0_0.stage ((pipe a).slots t (0 : Fin 5))
abbrev wh0 (t : Fin (pipe a).N) : (st0 a t).IsWhole := hstage0_0 (((pipe a).slots t (0 : Fin 5)).cast nbuf0_0)
abbrev st1 (t : Fin (pipe a).N) : Memref sig .tc .vmem S1x1024x1792 .bf16 := spec0_1.stage ((pipe a).slots t (1 : Fin 5))
abbrev wh1 (t : Fin (pipe a).N) : (st1 a t).IsWhole := hstage0_1 (((pipe a).slots t (1 : Fin 5)).cast nbuf0_1)
abbrev st2 (t : Fin (pipe a).N) : Memref sig .tc .vmem S1x1024x1792 .bf16 := spec0_2.stage ((pipe a).slots t (2 : Fin 5))
abbrev wh2 (t : Fin (pipe a).N) : (st2 a t).IsWhole := hstage0_2 (((pipe a).slots t (2 : Fin 5)).cast nbuf0_2)
abbrev st3 (t : Fin (pipe a).N) : Memref sig .tc .vmem S1x1792x1024 .f32 := spec0_3.stage ((pipe a).slots t (3 : Fin 5))
abbrev wh3 (t : Fin (pipe a).N) : (st3 a t).IsWhole := hstage0_3 (((pipe a).slots t (3 : Fin 5)).cast nbuf0_3)
abbrev st4 (t : Fin (pipe a).N) : Memref sig .tc .vmem S512x1024 .bf16 := spec0_4.stage ((pipe a).slots t (4 : Fin 5))
abbrev wh4 (t : Fin (pipe a).N) : (st4 a t).IsWhole := hstage0_4 (((pipe a).slots t (4 : Fin 5)).cast nbuf0_4)

/-- Window `w`'s block at point `t`, of its array at launch. -/
def blk (c : Dev nD) (w : Fin (pipe a).W) (t : Fin (pipe a).N) : (((pipe a).win w).xblock ((pipe a).grid.coords t)).Idx → Elt Bits ((pipe a).win w).elt :=
  (((pipe a).win w).blk t).view.read (Elt Bits) ((s₀ m ρ).mem (((pipe a).win w).arr.view.loc (c : Thread nD τ)))

abbrev blk0 (c : Dev nD) (t : Fin (pipe a).N) : S512x1024.Idx → Elt Bits .bf16 := blk a m ρ c (0 : Fin 5) t
abbrev blk1 (c : Dev nD) (t : Fin (pipe a).N) : S1x1024x1792.Idx → Elt Bits .bf16 := blk a m ρ c (1 : Fin 5) t
abbrev blk2 (c : Dev nD) (t : Fin (pipe a).N) : S1x1024x1792.Idx → Elt Bits .bf16 := blk a m ρ c (2 : Fin 5) t
abbrev blk3 (c : Dev nD) (t : Fin (pipe a).N) : S1x1792x1024.Idx → Elt Bits .f32 := blk a m ρ c (3 : Fin 5) t

/-- The product of one half of a tile. -/
def halfOut (c : Dev nD) (t : Fin (pipe a).N) : Buf (Elt Bits) ((c : Thread nD τ).loc cc0_scratch0) :=
  k0_pay2 (blk0 a m ρ c t) (blk1 a m ρ c t) (blk2 a m ρ c t) (blk3 a m ρ c t)

open Classical in
/-- What the second half `t` of a tile stores. -/
def tileOut (c : Dev nD) (t : Fin (pipe a).N) : S512x1024.Idx → Elt Bits .bf16 :=
  if Live (active a) (crd a t) then
    k0_pay4 (k0_pay3 (blk0 a m ρ c t) (blk1 a m ρ c t) (blk2 a m ρ c t) (blk3 a m ρ c t) (halfOut a m ρ c (pred a t)))
  else k0_pay5 (F := Bits)

/-- Before position `n`: the scratch, holding the first half's product between an active tile's halves, and the
    tables. -/
def inv (c : Dev nD) (n : ℕ) : sProp 𝕄 :=
  iprop((∃ x, ⌜∀ t : Fin (pipe a).N, t.val = n → n % 2 = 1 → Live (active a) (crd a t) → x = halfOut a m ρ c (pred a t)⌝
      ∗ (scM0_0.view.loc (c : Thread nD τ) ↦{fullShare} x))
    ∗ (tbM0_0.view.loc (c : Thread nD τ) ↦{fullShare.right} experts a) ∗ (tbM0_1.view.loc (c : Thread nD τ) ↦{fullShare.right} active a))

/-- The proof data of the pipeline on a core. -/
def dats (_ : Fin 1) (c : Dev nD) : Dat τ (Elt Bits) Unit ℕ (UR sig nD τ) ℕ (pipe a) c where
  A w := (s₀ m ρ).mem (((pipe a).win w).arr.view.loc (c : Thread nD τ))
  after w t := match w with
    | ⟨0, _⟩ => blk a m ρ c (0 : Fin 5) t
    | ⟨1, _⟩ => blk a m ρ c (1 : Fin 5) t
    | ⟨2, _⟩ => blk a m ρ c (2 : Fin 5) t
    | ⟨3, _⟩ => blk a m ρ c (3 : Fin 5) t
    | ⟨4, _⟩ => tileOut a m ρ c t
  Φ t := inv a m ρ c t.val
  q _ := fullShare
  owed _ := 0

theorem after_0 (c : Dev nD) (t : Fin (pipe a).N) : (dats a m ρ 0 c).after (0 : Fin 5) t = blk a m ρ c (0 : Fin 5) t := rfl
theorem after_1 (c : Dev nD) (t : Fin (pipe a).N) : (dats a m ρ 0 c).after (1 : Fin 5) t = blk a m ρ c (1 : Fin 5) t := rfl
theorem after_2 (c : Dev nD) (t : Fin (pipe a).N) : (dats a m ρ 0 c).after (2 : Fin 5) t = blk a m ρ c (2 : Fin 5) t := rfl
theorem after_3 (c : Dev nD) (t : Fin (pipe a).N) : (dats a m ρ 0 c).after (3 : Fin 5) t = blk a m ρ c (3 : Fin 5) t := rfl
theorem after_4 (c : Dev nD) (t : Fin (pipe a).N) : (dats a m ρ 0 c).after (4 : Fin 5) t = tileOut a m ρ c t := rfl

theorem before_0 (c : Dev nD) (t : Fin (pipe a).N) (d) : (dats a m ρ 0 c).before (0 : Fin 5) t d = blk a m ρ c (0 : Fin 5) t :=
  ((dats a m ρ 0 c).before_in_eq_fetched (0 : Fin 5) rfl (fun _ => rfl) (fun _ _ _ => rfl) (fun t => by rw [after_0]; unfold Dat.blockOf blk; rfl) t d).trans
    (by unfold Dat.fetched Dat.blockOf blk; rfl)
theorem before_1 (c : Dev nD) (t : Fin (pipe a).N) (d) : (dats a m ρ 0 c).before (1 : Fin 5) t d = blk a m ρ c (1 : Fin 5) t :=
  ((dats a m ρ 0 c).before_in_eq_fetched (1 : Fin 5) rfl (fun _ => rfl) (fun _ _ _ => rfl) (fun t => by rw [after_1]; unfold Dat.blockOf blk; rfl) t d).trans
    (by unfold Dat.fetched Dat.blockOf blk; rfl)
theorem before_2 (c : Dev nD) (t : Fin (pipe a).N) (d) : (dats a m ρ 0 c).before (2 : Fin 5) t d = blk a m ρ c (2 : Fin 5) t :=
  ((dats a m ρ 0 c).before_in_eq_fetched (2 : Fin 5) rfl (fun _ => rfl) (fun _ _ _ => rfl) (fun t => by rw [after_2]; unfold Dat.blockOf blk; rfl) t d).trans
    (by unfold Dat.fetched Dat.blockOf blk; rfl)
theorem before_3 (c : Dev nD) (t : Fin (pipe a).N) (d) : (dats a m ρ 0 c).before (3 : Fin 5) t d = blk a m ρ c (3 : Fin 5) t :=
  ((dats a m ρ 0 c).before_in_eq_fetched (3 : Fin 5) rfl (fun _ => rfl) (fun _ _ _ => rfl) (fun t => by rw [after_3]; unfold Dat.blockOf blk; rfl) t d).trans
    (by unfold Dat.fetched Dat.blockOf blk; rfl)

/-- The output's buffer holds nothing of value when a point begins. -/
theorem before_4 (c : Dev nD) (t : Fin (pipe a).N) (d) : (dats a m ρ 0 c).before (4 : Fin 5) t d = d := by
  rw [(dats a m ρ 0 c).before_out_traj (4 : Fin 5) rfl (fun _ _ => rfl)
    (fun t _ _ hf => absurd hf (by rw [fresh4]; decide)) t.val t rfl d, fresh4]
  rfl

/-! ## One point -/

/-- The body at a point, as the pipeline calls it. -/
abbrev bodyAt (t : Fin (pipe a).N) : Prog (TpuEff nD τ sig (Elt Bits) Λ₀ .tc) PUnit :=
  cc0_moe_expert_ffn (crd a t) (Memref.whole main_arg0) (Memref.isWhole_whole _) (Memref.whole main_arg1) (Memref.isWhole_whole _) (st0 a t) (wh0 a t) (st1 a t) (wh1 a t) (st2 a t) (wh2 a t) (st3 a t) (wh3 a t) (st4 a t) (wh4 a t) (Memref.whole cc0_scratch0) (Memref.isWhole_whole _)

/-- What a point starts from. -/
abbrev Pre1 (c : Dev nD) (t : Fin (pipe a).N) : sProp 𝕄 :=
  iprop((dats a m ρ 0 c).Φ t.castSucc ∗ (dats a m ρ 0 c).owesAt () t.castSucc
    ∗ (∃ d, owns (c : Thread nD τ) (st0 a t) fullShare ((dats a m ρ 0 c).before (0 : Fin 5) t d))
    ∗ (∃ d, owns (c : Thread nD τ) (st1 a t) fullShare ((dats a m ρ 0 c).before (1 : Fin 5) t d))
    ∗ (∃ d, owns (c : Thread nD τ) (st2 a t) fullShare ((dats a m ρ 0 c).before (2 : Fin 5) t d))
    ∗ (∃ d, owns (c : Thread nD τ) (st3 a t) fullShare ((dats a m ρ 0 c).before (3 : Fin 5) t d))
    ∗ (∃ d, owns (c : Thread nD τ) (st4 a t) fullShare ((dats a m ρ 0 c).before (4 : Fin 5) t d)))

/-- What a point leaves. -/
abbrev Post1 (c : Dev nD) (t : Fin (pipe a).N) : sProp 𝕄 :=
  iprop((dats a m ρ 0 c).Φ t.succ ∗ (dats a m ρ 0 c).owesAt () t.succ
    ∗ bigSep Finset.univ fun w : Fin (pipe a).W =>
        match (pipe a).idle w ((pipe a).grid.coords t) with
        | true =>
          match ((pipe a).win w).flush t with
          | false => iprop(∃ d, owns (c : Thread nD τ) (((pipe a).win w).stage ((pipe a).slots t w)) fullShare ((dats a m ρ 0 c).before w t d))
          | true => owns (c : Thread nD τ) (((pipe a).win w).stage ((pipe a).slots t w)) fullShare ((dats a m ρ 0 c).after w t)
        | false => owns (c : Thread nD τ) (((pipe a).win w).stage ((pipe a).slots t w)) fullShare ((dats a m ρ 0 c).after w t))

set_option maxHeartbeats 4000000 in
/-- The first half of an active tile. -/
theorem body_live_first (c : Dev nD) (t : Fin (pipe a).N) (hf : t.val % 2 = 0) (q : Live (active a) (crd a t)) :
    Pre1 a m ρ c t ⊢ wp frame (wpE (defs₀ (F := Bits)) Variants.none c none) Set.univ (bodyAt a t) fun _ => Post1 a m ρ c t := by
  have hc := (coords_val t).2
  rw [hf] at hc
  have h1 : k0_cond1 (word (active a) (crd a t)) = 1#1 := (cond1_iff _).2 ((word_eq _ _).trans q)
  have h5 : ¬ k0_cond5 (crd a t) (word (active a) (crd a t)) = 1#1 := cond5_zero _ hc _
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_A c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) h1 (firstHalf_zero _ hc) (laterHalf_zero _ hc) (cond4_zero _ hc) h5).2 _ x _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ _
        have e : t = pred a s := Fin.ext (show t.val = s.val - 1 by omega)
        rw [← e]; exact scratch_first ..
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The second half of an active tile. -/
theorem body_live_second (c : Dev nD) (t : Fin (pipe a).N) (hf : t.val % 2 = 1) (q : Live (active a) (crd a t)) :
    Pre1 a m ρ c t ⊢ wp frame (wpE (defs₀ (F := Bits)) Variants.none c none) Set.univ (bodyAt a t) fun _ => Post1 a m ρ c t := by
  have hc := (coords_val t).2
  rw [hf] at hc
  have h1 : k0_cond1 (word (active a) (crd a t)) = 1#1 := (cond1_iff _).2 ((word_eq _ _).trans q)
  have h5 : ¬ k0_cond5 (crd a t) (word (active a) (crd a t)) = 1#1 := fun h => (cond5_one _ hc _).1 h ((word_eq _ _).trans q)
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_B c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 (firstHalf_one _ hc) (laterHalf_one _ hc) (cond4_one _ hc) h5).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs h; exact absurd h (by omega)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_B_4 c _ _ _ _ _ _ _ _ _ _ _ _ _ _ _ _ _ _ _ _ _ _ _)).trans ?_
    refine (stored_live ..).trans ?_
    rw [hx t rfl hf q]
    exact (if_pos q).symm

set_option maxHeartbeats 4000000 in
/-- The first half of an inactive tile. -/
theorem body_dead_first (c : Dev nD) (t : Fin (pipe a).N) (hf : t.val % 2 = 0) (q : ¬ Live (active a) (crd a t)) :
    Pre1 a m ρ c t ⊢ wp frame (wpE (defs₀ (F := Bits)) Variants.none c none) Set.univ (bodyAt a t) fun _ => Post1 a m ρ c t := by
  have hc := (coords_val t).2
  rw [hf] at hc
  have h1 : ¬ k0_cond1 (word (active a) (crd a t)) = 1#1 := fun h => q ((word_eq _ _).symm.trans ((cond1_iff _).1 h))
  have h5 : ¬ k0_cond5 (crd a t) (word (active a) (crd a t)) = 1#1 := cond5_zero _ hc _
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_C c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 h5).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ hl
        have e : t = pred a s := Fin.ext (show t.val = s.val - 1 by omega)
        exact absurd ((congrArg (active a) (e ▸ tileIx_pred a s (by omega))).trans hl) q
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The second half of an inactive tile. -/
theorem body_dead_second (c : Dev nD) (t : Fin (pipe a).N) (hf : t.val % 2 = 1) (q : ¬ Live (active a) (crd a t)) :
    Pre1 a m ρ c t ⊢ wp frame (wpE (defs₀ (F := Bits)) Variants.none c none) Set.univ (bodyAt a t) fun _ => Post1 a m ρ c t := by
  have hc := (coords_val t).2
  rw [hf] at hc
  have h1 : ¬ k0_cond1 (word (active a) (crd a t)) = 1#1 := fun h => q ((word_eq _ _).symm.trans ((cond1_iff _).1 h))
  have h5 : k0_cond5 (crd a t) (word (active a) (crd a t)) = 1#1 := (cond5_one _ hc _).2 (fun h => q ((word_eq _ _).symm.trans h))
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_D c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 h5).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs h; exact absurd h (by omega)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_D_4 c _ _ _ _ _ _ _ _ _ _ _ _ _ _ _ _ _ _ _ _)).trans ?_
    exact (stored_dead ..).trans (if_neg q).symm

/-- The body at any point. -/
theorem body_at (c : Dev nD) (t : Fin (pipe a).N) :
    Pre1 a m ρ c t ⊢ wp frame (wpE (defs₀ (F := Bits)) Variants.none c none) Set.univ (bodyAt a t) fun _ => Post1 a m ρ c t := by
  by_cases q : Live (active a) (crd a t) <;> rcases Nat.mod_two_eq_zero_or_one t.val with h | h
  · exact body_live_first a m ρ c t h q
  · exact body_live_second a m ρ c t h q
  · exact body_dead_first a m ρ c t h q
  · exact body_dead_second a m ρ c t h q

/-- The library's body obligation, at every point. -/
theorem body_obligation (c : Dev nD) : BodyObligation (dats a m ρ 0 c) (defs₀ (F := Bits)) Variants.none () Set.univ := fun t => by
  rw [bigSep_W0]
  exact body_at a m ρ c t

/-! ## The launch -/

/-- The launch element of the staging cells. -/
def u₀ : UR sig nD τ :=
  initOf (Pipeline.cells (pipes a) ((launch0 (F := Bits)).cellOf_inj fun _ => a))
    (Pipeline.launchToks (pipes a) ((launch0 (F := Bits)).cellOf_inj fun _ => a))

theorem share_eq (c : Dev nD) (w : Fin (pipe a).W) : (dats a m ρ 0 c).share w = fullShare := by unfold Dat.share; split <;> rfl

/-- The tables, one by one. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem inv_start (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = inv a m ρ c 0 from rfl]
  unfold inv
  iintro ⟨-, ⟨HT0, HT1⟩, ⟨%a0, HS0⟩⟩
  isplitl [HS0]
  · iexists a0; isplitr; swap
    · iexact HS0
    · ipureintro; intro t ht h; exact absurd h (by decide)
  isplitl [HT0]
  · iexact HT0
  iexact HT1

theorem inv_end (c : Dev nD) : (dats a m ρ 0 c).Φ (Fin.last (pipe a).N) ⊢ iprop(BI.emp ∗ Pipeline.scopedRest spec0 c) := by
  rw [scopedRest0_eq, show (dats a m ρ 0 c).Φ (Fin.last (pipe a).N) = inv a m ρ c (pipe a).N from rfl]
  unfold inv
  iintro ⟨⟨%a0, -, HS0⟩, -, -⟩
  isplitr; · iempintro
  iexists a0; iexact HS0

/-- The run's end: every array at what the pipeline writes, the tables as they were. -/
def Ends : PUnit × MemSt nD τ sig (Elt Bits) → Prop := fun r =>
  ∀ c : Dev nD, (∀ w : Fin (pipe a).W, r.2.mem (((pipe a).win w).arr.view.loc (c : Thread nD τ)) = (dats a m ρ 0 c).arrAt w (pipe a).N)
    ∧ ∀ j, r.2.mem ((c : Thread nD τ).loc (pre0.ref j)) = a.1 j

set_option backward.isDefEq.respectTransparency.types false in
set_option maxHeartbeats 4000000 in
/-- From a memory whose tables are `a`, every execution ends as `Ends` says, every semaphore at zero. -/
theorem run_ends (hp : ∀ (c : Dev nD) (j : Fin 2), m ((c : Thread nD τ).loc (pre0.ref j)) = a.1 j) :
    θ_run (defs (F := Bits)) (onTc (τ := τ) (main (F := Bits))) (s₀ m ρ) (fun r => Ends a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre stagingRes defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_start a m ρ)
    (hout := inv_end a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- A core's arguments at the end of a run. -/
abbrev ArgsKept (r : PUnit × MemSt nD τ sig (Elt Bits)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem args_kept (hp : ∀ (c : Dev nD) (j : Fin 2), m ((c : Thread nD τ).loc (pre0.ref j)) = a.1 j) (r) (h : Ends a m ρ r) (c : Dev nD) : ArgsKept m r c :=
  ⟨((h c).2 0).trans (hp c 0).symm, ((h c).2 1).trans (hp c 1).symm,
    ((h c).1 (0 : Fin 5)).trans ((dats a m ρ 0 c).arrAt_in (0 : Fin 5) rfl _),
    ((h c).1 (1 : Fin 5)).trans ((dats a m ρ 0 c).arrAt_in (1 : Fin 5) rfl _),
    ((h c).1 (2 : Fin 5)).trans ((dats a m ρ 0 c).arrAt_in (2 : Fin 5) rfl _),
    ((h c).1 (3 : Fin 5)).trans ((dats a m ρ 0 c).arrAt_in (3 : Fin 5) rfl _)⟩

/-- The frame: the arguments end unchanged, every semaphore at zero. -/
theorem frame (hp : ∀ (c : Dev nD) (j : Fin 2), m ((c : Thread nD τ).loc (pre0.ref j)) = a.1 j) :
    θ_run (defs (F := Bits)) (onTc (τ := τ) (main (F := Bits))) ⟨m, fun _ => 0, ρ⟩ (fun r => (∀ c : Dev nD, ArgsKept m r c) ∧ r.2.sem = fun _ => 0) :=
  (θ_run defs _ _).mono (fun r h => ⟨args_kept a m ρ hp r h.1, h.2⟩) (run_ends a m ρ hp)

end Cert.Kernel.Tiles
end
-- ==== Proof.Tables.lean ====
module

public import proofs.«01_k».proof.Pre_experts_in_range
public import Idealize.ShloMosaic.Lib.ReduceAll

/-!
# What the precondition says

The precondition reduces, by `and`, the test `0 ≤ e < 8` over the experts' table: every expert named is one of the
eight.
-/

@[expose] public section

namespace Cert.Tables
open Idealize.ShloMosaic Cert.Pre_experts_in_range

/-- A word between 0 and 8, compared signed, is a number below 8. -/
theorem word_lt (v : BitVec 32) (h0 : IntOp.cmpi .sge v 0#32 = 1#1) (h8 : IntOp.cmpi .slt v 8#32 = 1#1) : v.toNat < 8 := by
  have a : (0#32).sle v = true := by revert h0; show BitVec.ofBool _ = 1#1 → _; cases (0#32).sle v <;> simp
  have b : v.slt 8#32 = true := by revert h8; show BitVec.ofBool _ = 1#1 → _; cases v.slt 8#32 <;> simp
  have p : 0 ≤ v.toInt := by simpa [BitVec.sle] using a
  have q : v.toInt < 8 := by simpa [BitVec.slt] using b
  have := v.isLt
  rw [BitVec.toInt_eq_toNat_cond] at p q
  split at p <;> omega

variable [Facts] {F : FTy → Type} [FloatOps F]

theorem experts_lt (a0 a1 : IVec S72 32) (a2 : FVec F S36864x1024 .bf16) (a3 a4 : FVec F S8x1024x3584 .bf16) (a5 : FVec F S8x3584x1024 .f32)
    (h : fn (F := F) a0 a1 a2 a3 a4 a5 = fun _ => 1#1) (x : S72.Idx) : (a0 x).toNat < 8 := by
  have e := Host.reduce_andi_all _ _ Facts.reducesTo_S72_S_d0 Facts.h_S_ (Shape.Idx.first Facts.h_S_) (congrFun h _) x
  have e' : IntOp.andi (IntOp.cmpi .sge (a0 x) 0#32) (IntOp.cmpi .slt (a0 x) 8#32) = 1#1 := e
  generalize hp : IntOp.cmpi .sge (a0 x) 0#32 = p at e'
  generalize hq : IntOp.cmpi .slt (a0 x) 8#32 = q at e'
  have : p = 1#1 ∧ q = 1#1 := by revert e'; clear hp hq; revert p q; decide
  exact word_lt _ (hp.trans this.1) (hq.trans this.2)

end Cert.Tables
end
-- ==== Proof.BitsOk.lean ====
module

public import proofs.«01_k».proof.Proof.BitsFrame
public import proofs.«01_k».proof.Proof.Tables
public import proofs.«01_k».proof.Proof.Gen.Pre_experts_in_range
public import Idealize.ShloMosaic.Lib.Affine

/-!
# The tables the precondition admits

Where every expert named is one of the eight, each block of weights lies inside its array, so the run's end holds.
-/

@[expose] public section
set_option maxRecDepth 16384
noncomputable section
namespace Cert.Kernel.Tiles
open Cert.Kernel Cert.Kernel.Gen
open Idealize.ShloMosaic
open Idealize.ShloMosaic.TcCoe
open Idealize.SL Idealize.SL.Sem

theorem at_eq (pf : pre0.Contents (Elt Bits)) (i : grid0.Coords) :
    pf.at 0 (Rect.unit (s := S72) (k0_off1 i) S1.size (k0_off1_inb i)) numel1_S1 = pf 0 (tileIx i) := by
  show pf 0 _ = pf 0 _
  congr 1
  funext a
  apply Fin.ext
  have h := off1_eq i a
  show k0_off1 i a + 1 * _ = _
  rw [h]
  fin_cases a
  rfl

/-- A block of the weights of an expert that exists, at one of the two halves. -/
theorem inb_cols (e f : ℕ) (he : e < 8) (hf : f < 2) : ∀ a : Fin 3, (![e, 0, f] a + 1) * S1x1024x1792.size a ≤ S8x1024x3584.size a := by
  intro a
  fin_cases a
  · show (e + 1) * 1 ≤ 8; omega
  · show (0 + 1) * 1024 ≤ 1024; omega
  · show (f + 1) * 1792 ≤ 3584; omega
theorem inb_rows (e f : ℕ) (he : e < 8) (hf : f < 2) : ∀ a : Fin 3, (![e, f, 0] a + 1) * S1x1792x1024.size a ≤ S8x3584x1024.size a := by
  intro a
  fin_cases a
  · show (e + 1) * 1 ≤ 8; omega
  · show (f + 1) * 1792 ≤ 3584; omega
  · show (0 + 1) * 1024 ≤ 1024; omega

theorem half_lt (i : grid0.Coords) : (BitVec.ofNat 32 (i 1).val).toNat = (i 1).val ∧ (i 1).val < 2 := by
  have h : (i 1).val < 2 := (i 1).isLt
  refine ⟨?_, h⟩
  rw [BitVec.toNat_ofNat]
  omega

theorem transform_1 (pf : pre0.Contents (Elt Bits)) (i : grid0.Coords) :
    cc0_transform_1 k0_off1_inb numel1_S1 pf i = ![(pf 0 (tileIx i) : BitVec 32).toNat, 0, (i 1).val] := by
  show ![BitVec.toNat (pf.at 0 (Rect.unit (s := S72) (k0_off1 i) S1.size (k0_off1_inb i)) numel1_S1), 0, (BitVec.ofNat 32 (i 1).val).toNat] = _
  rw [(half_lt i).1, at_eq]
theorem transform_2 (pf : pre0.Contents (Elt Bits)) (i : grid0.Coords) :
    cc0_transform_2 k0_off1_inb numel1_S1 pf i = ![(pf 0 (tileIx i) : BitVec 32).toNat, 0, (i 1).val] := by
  show ![BitVec.toNat (pf.at 0 (Rect.unit (s := S72) (k0_off1 i) S1.size (k0_off1_inb i)) numel1_S1), 0, (BitVec.ofNat 32 (i 1).val).toNat] = _
  rw [(half_lt i).1, at_eq]
theorem transform_3 (pf : pre0.Contents (Elt Bits)) (i : grid0.Coords) :
    cc0_transform_3 k0_off1_inb numel1_S1 pf i = ![(pf 0 (tileIx i) : BitVec 32).toNat, (i 1).val, 0] := by
  show ![BitVec.toNat (pf.at 0 (Rect.unit (s := S72) (k0_off1 i) S1.size (k0_off1_inb i)) numel1_S1), (BitVec.ofNat 32 (i 1).val).toNat, 0] = _
  rw [(half_lt i).1, at_eq]

theorem ok_of_lt (pf : pre0.Contents (Elt Bits)) (h : ∀ x : S72.Idx, (pf 0 x : BitVec 32).toNat < 8) : ok0 pf :=
  ⟨fun i => ⟨fun a => by rw [transform_1]; exact inb_cols _ _ (h _) (half_lt i).2 a,
      .inr (Affine.block_words_dvd (s := S8x1024x3584) (p := EltTy.packing .bf16) (by decide) (by decide))⟩,
    fun i => ⟨fun a => by rw [transform_2]; exact inb_cols _ _ (h _) (half_lt i).2 a,
      .inr (Affine.block_words_dvd (s := S8x1024x3584) (p := EltTy.packing .bf16) (by decide) (by decide))⟩,
    fun i => ⟨fun a => by rw [transform_3]; exact inb_rows _ _ (h _) (half_lt i).2 a, .inl rfl⟩⟩

/-- The precondition, of the memory a run starts from. -/
abbrev Adm (m : (ℓ : Loc nD τ sig) → Buf (Elt Bits) ℓ) : Prop :=
  ∀ c : Dev nD, Cert.Pre_experts_in_range.fn (F := Bits) (m (c.tc.loc main_arg0)) (m (c.tc.loc main_arg1)) (m (c.tc.loc main_arg2)) (m (c.tc.loc main_arg3)) (m (c.tc.loc main_arg4)) (m (c.tc.loc main_arg5)) = fun _ => 1#1

variable (m : (ℓ : Loc nD τ sig) → Buf (Elt Bits) ℓ) (ρ : Dev nD → PrngReg) (hm : Adm m)

/-- The tables in memory. -/
def tables : (pcfg0 (F := Bits)).Adm :=
  ⟨fun j => m ((0 : Dev nD).tc.loc (pre0.ref j)), ok_of_lt _ fun x => Cert.Tables.experts_lt _ _ _ _ _ _ (hm 0) x⟩

theorem tables_at (c : Dev nD) (j : Fin 2) : m ((c : Thread nD τ).loc (pre0.ref j)) = (tables m hm).1 j := by
  obtain rfl : c = 0 := Subsingleton.elim _ _
  rfl

end Cert.Kernel.Tiles
end
-- ==== Proof.IdealRun.lean ====
module

public import Idealize.ShloMosaic.Lib.VecWindow
public import Idealize.ShloMosaic.Lib.Pipeline.ValueKit.Acc
public import proofs.«01_k».proof.Proof.Gen.KernelIdeal.Launch
public import proofs.«01_k».proof.Proof.Gen.KernelIdeal.Flash.Runs

/-!
# One grid point of the expert feed-forward

What a point decides from the activity table, and what each of its four ways through the body leaves: the
first half of an active tile puts its product in the scratch, the second half adds its own and stores the sum,
and the second half of an inactive tile stores zeros.
-/

@[expose] public section
noncomputable section
namespace Cert.KernelIdeal.Tiles
open Cert.KernelIdeal Cert.KernelIdeal.Gen
open Idealize.ShloMosaic
open Idealize.ShloMosaic.TcCoe Idealize.ShloMosaic.Tactic
open Idealize.SL Idealize.SL.RA Idealize.SL.BI

/-- The tile of a point, as an index of the tables. -/
def tileIx (i : grid0.Coords) : S72.Idx := fun a => ⟨(i 0).val, by have h := (i 0).isLt; fin_cases a; exact h⟩

theorem off1_eq : ∀ (i : grid0.Coords) (a : Fin 1), k0_off1 i a = (i 0).val := by decide +kernel

/-- The word a point's body loads from a table. -/
abbrev word (T : S72.Idx → Elt Ideal .i32) (i : grid0.Coords) : Elt Ideal .i32 :=
  View.readAt (Elt Ideal) (tbM0_1).view (Rect.unit (s := S72) (k0_off1 i) S1.size (k0_off1_inb i)).toLoadRect T (Shape.Idx.first (numel1_S1.symm ▸ Nat.one_pos))

theorem word_eq (T : S72.Idx → Elt Ideal .i32) (i : grid0.Coords) : word T i = T (tileIx i) := by
  unfold word
  rw [View.readAt_apply]
  show T _ = T _
  congr 1
  funext a
  apply Fin.ext
  have h := off1_eq i a
  show k0_off1 i a + 0 * 1 = (i 0).val
  omega

/-- The activity table read at a point's tile by the idle table. -/
theorem atD_eq (pf : pre0.Contents (Elt Ideal)) (i : grid0.Coords) : pf.atD 1 (k0_off1 i) = pf 1 (tileIx i) := by
  have h : ∀ a : Fin 1, k0_off1 i a + 1 ≤ S72.size a := fun a => by
    rw [off1_eq]; have := (i 0).isLt; fin_cases a; exact this
  unfold Pipeline.Prefetch.Contents.atD
  refine (dif_pos h).trans ?_
  congr 1
  funext a
  exact Fin.ext (off1_eq i a)

/-- The tile of a point is active. -/
abbrev Live (T : S72.Idx → Elt Ideal .i32) (i : grid0.Coords) : Prop := T (tileIx i) = (1#32 : BitVec 32)

theorem cond1_iff (v : BitVec 32) : k0_cond1 v = 1#1 ↔ v = 1#32 := by
  unfold k0_cond1
  by_cases h : v = 1#32
  · subst h; exact iff_of_true (by decide) rfl
  · refine iff_of_false ?_ h
    have hb : Scalar.cmpi .eq v 1#32 = 0#1 := by
      show BitVec.ofBool (v == 1#32) = 0#1
      rw [beq_eq_false_iff_ne.2 h]; rfl
    dsimp only; rw [hb]; decide

theorem cond4_zero (i : grid0.Coords) (h : (i 1).val = 0) : ¬ k0_cond4 i = 1#1 := by
  unfold k0_cond4; rw [h]; decide
theorem cond4_one (i : grid0.Coords) (h : (i 1).val = 1) : k0_cond4 i = 1#1 := by
  unfold k0_cond4; rw [h]; decide

theorem cond5_zero (i : grid0.Coords) (h : (i 1).val = 0) (v : BitVec 32) : ¬ k0_cond5 i v = 1#1 := by
  unfold k0_cond5; rw [h]; dsimp only; generalize Scalar.cmpi _ v _ = b; revert b; decide
theorem cond5_one (i : grid0.Coords) (h : (i 1).val = 1) (v : BitVec 32) : k0_cond5 i v = 1#1 ↔ ¬ v = 1#32 := by
  rw [← cond1_iff]
  unfold k0_cond5 k0_cond1; rw [h]; dsimp only; generalize Scalar.cmpi _ v _ = b; revert b; decide

/-- The first of a tile's two halves, as the body tests it. -/
abbrev firstHalf (i : grid0.Coords) : BitVec 1 := Scalar.cmpi .ne (Scalar.extui (Scalar.cmpi .eq (BitVec.ofNat 32 (i 1).val) 0#32)) 0#32
/-- A later half, as the body tests it. -/
abbrev laterHalf (i : grid0.Coords) : BitVec 1 := Scalar.cmpi .ne (Scalar.extui (Scalar.cmpi .sgt (BitVec.ofNat 32 (i 1).val) 0#32)) 0#32

theorem firstHalf_zero (i : grid0.Coords) (h : (i 1).val = 0) : firstHalf i = 1#1 := by unfold firstHalf; rw [h]; decide
theorem firstHalf_one (i : grid0.Coords) (h : (i 1).val = 1) : ¬ firstHalf i = 1#1 := by unfold firstHalf; rw [h]; decide
theorem laterHalf_zero (i : grid0.Coords) (h : (i 1).val = 0) : ¬ laterHalf i = 1#1 := by unfold laterHalf; rw [h]; decide
theorem laterHalf_one (i : grid0.Coords) (h : (i 1).val = 1) : laterHalf i = 1#1 := by unfold laterHalf; rw [h]; decide

/-- The output's idle table: idle exactly at the first halves. -/
theorem idle4_zero (pf : pre0.Contents (Elt Ideal)) (i : grid0.Coords) (h : (i 1).val = 0) : idle0 pf 4 i = true := by
  show (!(k0_cond1 (pf.atD 1 (k0_off1 i)) == 1#1 && k0_cond4 i == 1#1) && !(k0_cond5 i (pf.atD 1 (k0_off1 i)) == 1#1)) = true
  have h4 := cond4_zero i h
  have h5 := cond5_zero i h (pf.atD 1 (k0_off1 i))
  simp [h4, h5]
theorem idle4_one (pf : pre0.Contents (Elt Ideal)) (i : grid0.Coords) (h : (i 1).val = 1) : idle0 pf 4 i = false := by
  show (!(k0_cond1 (pf.atD 1 (k0_off1 i)) == 1#1 && k0_cond4 i == 1#1) && !(k0_cond5 i (pf.atD 1 (k0_off1 i)) == 1#1)) = false
  have h4 := cond4_one i h
  have h1 := cond1_iff (pf.atD 1 (k0_off1 i))
  have h5 := cond5_one i h (pf.atD 1 (k0_off1 i))
  by_cases hv : pf.atD 1 (k0_off1 i) = (1#32 : BitVec 32)
  · simp [h4, h1.2 hv]
  · simp [h5.2 hv]

section
variable (c : Dev nD) (i : grid0.Coords)
  (arg4 : Memref sig .tc .vmem S512x1024 .bf16) (harg4 : arg4.IsWhole) (arg5 : Memref sig .tc .vmem S1x1024x1792 .bf16) (harg5 : arg5.IsWhole)
  (arg6 : Memref sig .tc .vmem S1x1024x1792 .bf16) (harg6 : arg6.IsWhole) (arg7 : Memref sig .tc .vmem S1x1792x1024 .f32) (harg7 : arg7.IsWhole)
  (arg8 : Memref sig .tc .vmem S512x1024 .bf16) (harg8 : arg8.IsWhole) (T0 T1 : S72.Idx → Elt Ideal .i32)
  (x0 : S512x1024.Idx → Elt Ideal .bf16) (x1 x2 : S1x1024x1792.Idx → Elt Ideal .bf16) (x3 : S1x1792x1024.Idx → Elt Ideal .f32)

set_option maxHeartbeats 2000000 in
/-- The first half of an active tile leaves its product in the scratch. -/
theorem scratch_first (h1 h2 h3 h4 h5) :
    (kernelRun0_A c i arg4 harg4 arg5 harg5 arg6 harg6 arg7 harg7 arg8 harg8 T0 T1 x0 x1 x2 x3 h1 h2 h3 h4 h5).1
      = k0_pay2 x0 x1 x2 x3 := by
  unfold kernelRun0_A
  dsimp only
  sl_unfold_words
  apply (Memref.isWhole_whole _ : scM0_0.IsWhole).read_bijective.1
  refine (View.read_writes_full (View.whole cc0_scratch0) _ (off := ![0, 0]) _ _ _).trans ?_
  have e0 := View.readAt_rep_full (Val := Elt Ideal) arg4.view x0 (off := ![0, 0]) inb_S512x1024_S512x1024_0_0
  have e1 := View.readAt_rep_full (Val := Elt Ideal) arg5.view x1 (off := ![0, 0, 0]) inb_S1x1024x1792_S1x1024x1792_0_0_0
  have e2 := View.readAt_rep_full (Val := Elt Ideal) arg6.view x2 (off := ![0, 0, 0]) inb_S1x1024x1792_S1x1024x1792_0_0_0
  have e3 := View.readAt_rep_full (Val := Elt Ideal) arg7.view x3 (off := ![0, 0, 0]) inb_S1x1792x1024_S1x1792x1024_0_0_0
  refine (congr (congr (congr (congrArg k0_pay2 e0) e1) e2) e3).trans ?_
  show _ = View.read (Elt Ideal) (View.whole cc0_scratch0) _
  exact (View.read_whole (Val := Elt Ideal) cc0_scratch0 _).symm

/-- The second half of an active tile stores the scratch plus its own product. -/
theorem stored_live (xa h1 h2 h3 h4 h5) :
    out0_B_4 c i arg4 harg4 arg5 harg5 arg6 harg6 arg7 harg7 arg8 harg8 T0 T1 x0 x1 x2 x3 xa h1 h2 h3 h4 h5
      = k0_pay4 (k0_pay3 x0 x1 x2 x3 xa) := by
  unfold out0_B_4
  frame_out
  simp only [View.read_rep, View.read_whole]

/-- The second half of an inactive tile stores zeros. -/
theorem stored_dead (xa h1 h2) :
    out0_D_4 c i arg4 harg4 arg5 harg5 arg6 harg6 arg7 harg7 arg8 harg8 T0 T1 x0 x1 x2 x3 xa h1 h2
      = k0_pay5 (F := Ideal) := by
  unfold out0_D_4
  frame_out
end

end Cert.KernelIdeal.Tiles
end
-- ==== Proof.IdealFrame.lean ====
module

public import proofs.«01_k».proof.Proof.IdealRun
public import Idealize.ShloMosaic.Lib.Pipeline.Quiescent
public import Idealize.ShloMosaic.Lib.Claim
public import Idealize.ShloMosaic.Adequacy
public import Idealize.ShloMosaic.Init

/-!
# The expert feed-forward's run, at every pair of tables it admits

Point `2k + f` of the grid works at half `f` of tile `k`. The output's block of tile `k` is written back once, after
its second half; between the two halves the scratch holds what the first half computed. So the run ends with every
tile's block at `tileOut`, the arguments unchanged and every semaphore at zero — whatever the two tables hold, as
long as the experts they name exist.
-/

@[expose] public section
set_option maxRecDepth 16384
noncomputable section
namespace Cert.KernelIdeal.Tiles
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The resources of the pipeline's staging cells. -/
abbrev stagingRes : Emb (UR sig nD τ) 𝕄 := emb₁

variable (a : (pcfg0 (F := Ideal)).Adm)

/-- The pipeline at the tables `a`. -/
abbrev pipe : Pipeline.Cfg sig Λ₀ := cfg0 (F := Ideal) a
abbrev pipes : Fin 1 → Pipeline.Cfg sig Λ₀ := Pipeline.pin (pcfgs (F := Ideal)) fun _ => a

/-- The experts' table and the activity table. -/
abbrev experts : S72.Idx → Elt Ideal .i32 := a.1 0
abbrev active : S72.Idx → Elt Ideal .i32 := a.1 1

/-! ## The schedule -/

/-- A point's coordinates: its tile and its half. -/
abbrev crd (t : Fin (pipe a).N) : grid0.Coords := grid0.coords t

theorem coords_val : ∀ t : Fin grid0.N, (grid0.coords t 0).val = t.val / 2 ∧ (grid0.coords t 1).val = t.val % 2 := by decide +kernel

/-- The point before. -/
abbrev pred (t : Fin (pipe a).N) : Fin (pipe a).N := ⟨t.val - 1, Nat.lt_of_le_of_lt (Nat.sub_le _ _) t.isLt⟩

/-- The second half of a tile is the same tile as the point before. -/
theorem tileIx_pred (t : Fin (pipe a).N) (h : t.val % 2 = 1) : tileIx (crd a (pred a t)) = tileIx (crd a t) := by
  funext b
  apply Fin.ext
  show (grid0.coords (pred a t) 0).val = (grid0.coords t 0).val
  rw [(coords_val _).1, (coords_val _).1]
  show (t.val - 1) / 2 = t.val / 2
  omega

theorem flush4_tab : ∀ t : Fin grid0.N, Window.flushOf grid0 true cc0_transform_4 t = decide (t.val % 2 = 1) := by decide +kernel
theorem flush4 (t : Fin (pipe a).N) : ((pipe a).win (4 : Fin 5)).flush t = decide (t.val % 2 = 1) :=
  (Window.flush_eq_flushOf _ t).trans (flush4_tab t)

theorem idle4 (t : Fin (pipe a).N) : (pipe a).idle (4 : Fin 5) ((pipe a).grid.coords t) = decide (t.val % 2 = 0) := by
  have hc := (coords_val t).2
  rcases Nat.mod_two_eq_zero_or_one t.val with h | h
  · rw [h] at hc ⊢; exact idle4_zero a.1 (crd a t) hc
  · rw [h] at hc ⊢; exact idle4_one a.1 (crd a t) hc

/-- Nothing stored in the output's buffer is left to write back when a point begins. -/
theorem fresh4 (t : Fin (pipe a).N) : (pipe a).fresh (4 : Fin 5) t.val = true :=
  Pipeline.Cfg.fresh_tab (pipe a) (4 : Fin 5) (fun _ => true) rfl
    (fun t => by rw [flush4, idle4]; rcases Nat.mod_two_eq_zero_or_one t.val with h | h <;> rw [h] <;> rfl) t.val (Nat.le_of_lt t.isLt)

/-! ## What the buffers hold -/

variable (m : (ℓ : Loc nD τ sig) → Buf (Elt Ideal) ℓ) (ρ : Dev nD → PrngReg)

/-- Each window's staging buffer at a point. -/
abbrev st0 (t : Fin (pipe a).N) : Memref sig .tc .vmem S512x1024 .bf16 := spec0_0.stage ((pipe a).slots t (0 : Fin 5))
abbrev wh0 (t : Fin (pipe a).N) : (st0 a t).IsWhole := hstage0_0 (((pipe a).slots t (0 : Fin 5)).cast nbuf0_0)
abbrev st1 (t : Fin (pipe a).N) : Memref sig .tc .vmem S1x1024x1792 .bf16 := spec0_1.stage ((pipe a).slots t (1 : Fin 5))
abbrev wh1 (t : Fin (pipe a).N) : (st1 a t).IsWhole := hstage0_1 (((pipe a).slots t (1 : Fin 5)).cast nbuf0_1)
abbrev st2 (t : Fin (pipe a).N) : Memref sig .tc .vmem S1x1024x1792 .bf16 := spec0_2.stage ((pipe a).slots t (2 : Fin 5))
abbrev wh2 (t : Fin (pipe a).N) : (st2 a t).IsWhole := hstage0_2 (((pipe a).slots t (2 : Fin 5)).cast nbuf0_2)
abbrev st3 (t : Fin (pipe a).N) : Memref sig .tc .vmem S1x1792x1024 .f32 := spec0_3.stage ((pipe a).slots t (3 : Fin 5))
abbrev wh3 (t : Fin (pipe a).N) : (st3 a t).IsWhole := hstage0_3 (((pipe a).slots t (3 : Fin 5)).cast nbuf0_3)
abbrev st4 (t : Fin (pipe a).N) : Memref sig .tc .vmem S512x1024 .bf16 := spec0_4.stage ((pipe a).slots t (4 : Fin 5))
abbrev wh4 (t : Fin (pipe a).N) : (st4 a t).IsWhole := hstage0_4 (((pipe a).slots t (4 : Fin 5)).cast nbuf0_4)

/-- Window `w`'s block at point `t`, of its array at launch. -/
def blk (c : Dev nD) (w : Fin (pipe a).W) (t : Fin (pipe a).N) : (((pipe a).win w).xblock ((pipe a).grid.coords t)).Idx → Elt Ideal ((pipe a).win w).elt :=
  (((pipe a).win w).blk t).view.read (Elt Ideal) ((s₀ m ρ).mem (((pipe a).win w).arr.view.loc (c : Thread nD τ)))

abbrev blk0 (c : Dev nD) (t : Fin (pipe a).N) : S512x1024.Idx → Elt Ideal .bf16 := blk a m ρ c (0 : Fin 5) t
abbrev blk1 (c : Dev nD) (t : Fin (pipe a).N) : S1x1024x1792.Idx → Elt Ideal .bf16 := blk a m ρ c (1 : Fin 5) t
abbrev blk2 (c : Dev nD) (t : Fin (pipe a).N) : S1x1024x1792.Idx → Elt Ideal .bf16 := blk a m ρ c (2 : Fin 5) t
abbrev blk3 (c : Dev nD) (t : Fin (pipe a).N) : S1x1792x1024.Idx → Elt Ideal .f32 := blk a m ρ c (3 : Fin 5) t

/-- The product of one half of a tile. -/
def halfOut (c : Dev nD) (t : Fin (pipe a).N) : Buf (Elt Ideal) ((c : Thread nD τ).loc cc0_scratch0) :=
  k0_pay2 (blk0 a m ρ c t) (blk1 a m ρ c t) (blk2 a m ρ c t) (blk3 a m ρ c t)

open Classical in
/-- What the second half `t` of a tile stores. -/
def tileOut (c : Dev nD) (t : Fin (pipe a).N) : S512x1024.Idx → Elt Ideal .bf16 :=
  if Live (active a) (crd a t) then
    k0_pay4 (k0_pay3 (blk0 a m ρ c t) (blk1 a m ρ c t) (blk2 a m ρ c t) (blk3 a m ρ c t) (halfOut a m ρ c (pred a t)))
  else k0_pay5 (F := Ideal)

/-- Before position `n`: the scratch, holding the first half's product between an active tile's halves, and the
    tables. -/
def inv (c : Dev nD) (n : ℕ) : sProp 𝕄 :=
  iprop((∃ x, ⌜∀ t : Fin (pipe a).N, t.val = n → n % 2 = 1 → Live (active a) (crd a t) → x = halfOut a m ρ c (pred a t)⌝
      ∗ (scM0_0.view.loc (c : Thread nD τ) ↦{fullShare} x))
    ∗ (tbM0_0.view.loc (c : Thread nD τ) ↦{fullShare.right} experts a) ∗ (tbM0_1.view.loc (c : Thread nD τ) ↦{fullShare.right} active a))

/-- The proof data of the pipeline on a core. -/
def dats (_ : Fin 1) (c : Dev nD) : Dat τ (Elt Ideal) Unit ℕ (UR sig nD τ) ℕ (pipe a) c where
  A w := (s₀ m ρ).mem (((pipe a).win w).arr.view.loc (c : Thread nD τ))
  after w t := match w with
    | ⟨0, _⟩ => blk a m ρ c (0 : Fin 5) t
    | ⟨1, _⟩ => blk a m ρ c (1 : Fin 5) t
    | ⟨2, _⟩ => blk a m ρ c (2 : Fin 5) t
    | ⟨3, _⟩ => blk a m ρ c (3 : Fin 5) t
    | ⟨4, _⟩ => tileOut a m ρ c t
  Φ t := inv a m ρ c t.val
  q _ := fullShare
  owed _ := 0

theorem after_0 (c : Dev nD) (t : Fin (pipe a).N) : (dats a m ρ 0 c).after (0 : Fin 5) t = blk a m ρ c (0 : Fin 5) t := rfl
theorem after_1 (c : Dev nD) (t : Fin (pipe a).N) : (dats a m ρ 0 c).after (1 : Fin 5) t = blk a m ρ c (1 : Fin 5) t := rfl
theorem after_2 (c : Dev nD) (t : Fin (pipe a).N) : (dats a m ρ 0 c).after (2 : Fin 5) t = blk a m ρ c (2 : Fin 5) t := rfl
theorem after_3 (c : Dev nD) (t : Fin (pipe a).N) : (dats a m ρ 0 c).after (3 : Fin 5) t = blk a m ρ c (3 : Fin 5) t := rfl
theorem after_4 (c : Dev nD) (t : Fin (pipe a).N) : (dats a m ρ 0 c).after (4 : Fin 5) t = tileOut a m ρ c t := rfl

theorem before_0 (c : Dev nD) (t : Fin (pipe a).N) (d) : (dats a m ρ 0 c).before (0 : Fin 5) t d = blk a m ρ c (0 : Fin 5) t :=
  ((dats a m ρ 0 c).before_in_eq_fetched (0 : Fin 5) rfl (fun _ => rfl) (fun _ _ _ => rfl) (fun t => by rw [after_0]; unfold Dat.blockOf blk; rfl) t d).trans
    (by unfold Dat.fetched Dat.blockOf blk; rfl)
theorem before_1 (c : Dev nD) (t : Fin (pipe a).N) (d) : (dats a m ρ 0 c).before (1 : Fin 5) t d = blk a m ρ c (1 : Fin 5) t :=
  ((dats a m ρ 0 c).before_in_eq_fetched (1 : Fin 5) rfl (fun _ => rfl) (fun _ _ _ => rfl) (fun t => by rw [after_1]; unfold Dat.blockOf blk; rfl) t d).trans
    (by unfold Dat.fetched Dat.blockOf blk; rfl)
theorem before_2 (c : Dev nD) (t : Fin (pipe a).N) (d) : (dats a m ρ 0 c).before (2 : Fin 5) t d = blk a m ρ c (2 : Fin 5) t :=
  ((dats a m ρ 0 c).before_in_eq_fetched (2 : Fin 5) rfl (fun _ => rfl) (fun _ _ _ => rfl) (fun t => by rw [after_2]; unfold Dat.blockOf blk; rfl) t d).trans
    (by unfold Dat.fetched Dat.blockOf blk; rfl)
theorem before_3 (c : Dev nD) (t : Fin (pipe a).N) (d) : (dats a m ρ 0 c).before (3 : Fin 5) t d = blk a m ρ c (3 : Fin 5) t :=
  ((dats a m ρ 0 c).before_in_eq_fetched (3 : Fin 5) rfl (fun _ => rfl) (fun _ _ _ => rfl) (fun t => by rw [after_3]; unfold Dat.blockOf blk; rfl) t d).trans
    (by unfold Dat.fetched Dat.blockOf blk; rfl)

/-- The output's buffer holds nothing of value when a point begins. -/
theorem before_4 (c : Dev nD) (t : Fin (pipe a).N) (d) : (dats a m ρ 0 c).before (4 : Fin 5) t d = d := by
  rw [(dats a m ρ 0 c).before_out_traj (4 : Fin 5) rfl (fun _ _ => rfl)
    (fun t _ _ hf => absurd hf (by rw [fresh4]; decide)) t.val t rfl d, fresh4]
  rfl

/-! ## One point -/

/-- The body at a point, as the pipeline calls it. -/
abbrev bodyAt (t : Fin (pipe a).N) : Prog (TpuEff nD τ sig (Elt Ideal) Λ₀ .tc) PUnit :=
  cc0_moe_expert_ffn (crd a t) (Memref.whole main_arg0) (Memref.isWhole_whole _) (Memref.whole main_arg1) (Memref.isWhole_whole _) (st0 a t) (wh0 a t) (st1 a t) (wh1 a t) (st2 a t) (wh2 a t) (st3 a t) (wh3 a t) (st4 a t) (wh4 a t) (Memref.whole cc0_scratch0) (Memref.isWhole_whole _)

/-- What a point starts from. -/
abbrev Pre1 (c : Dev nD) (t : Fin (pipe a).N) : sProp 𝕄 :=
  iprop((dats a m ρ 0 c).Φ t.castSucc ∗ (dats a m ρ 0 c).owesAt () t.castSucc
    ∗ (∃ d, owns (c : Thread nD τ) (st0 a t) fullShare ((dats a m ρ 0 c).before (0 : Fin 5) t d))
    ∗ (∃ d, owns (c : Thread nD τ) (st1 a t) fullShare ((dats a m ρ 0 c).before (1 : Fin 5) t d))
    ∗ (∃ d, owns (c : Thread nD τ) (st2 a t) fullShare ((dats a m ρ 0 c).before (2 : Fin 5) t d))
    ∗ (∃ d, owns (c : Thread nD τ) (st3 a t) fullShare ((dats a m ρ 0 c).before (3 : Fin 5) t d))
    ∗ (∃ d, owns (c : Thread nD τ) (st4 a t) fullShare ((dats a m ρ 0 c).before (4 : Fin 5) t d)))

/-- What a point leaves. -/
abbrev Post1 (c : Dev nD) (t : Fin (pipe a).N) : sProp 𝕄 :=
  iprop((dats a m ρ 0 c).Φ t.succ ∗ (dats a m ρ 0 c).owesAt () t.succ
    ∗ bigSep Finset.univ fun w : Fin (pipe a).W =>
        match (pipe a).idle w ((pipe a).grid.coords t) with
        | true =>
          match ((pipe a).win w).flush t with
          | false => iprop(∃ d, owns (c : Thread nD τ) (((pipe a).win w).stage ((pipe a).slots t w)) fullShare ((dats a m ρ 0 c).before w t d))
          | true => owns (c : Thread nD τ) (((pipe a).win w).stage ((pipe a).slots t w)) fullShare ((dats a m ρ 0 c).after w t)
        | false => owns (c : Thread nD τ) (((pipe a).win w).stage ((pipe a).slots t w)) fullShare ((dats a m ρ 0 c).after w t))

set_option maxHeartbeats 4000000 in
/-- The first half of an active tile. -/
theorem body_live_first (c : Dev nD) (t : Fin (pipe a).N) (hf : t.val % 2 = 0) (q : Live (active a) (crd a t)) :
    Pre1 a m ρ c t ⊢ wp frame (wpE (defs₀ (F := Ideal)) Variants.none c none) Set.univ (bodyAt a t) fun _ => Post1 a m ρ c t := by
  have hc := (coords_val t).2
  rw [hf] at hc
  have h1 : k0_cond1 (word (active a) (crd a t)) = 1#1 := (cond1_iff _).2 ((word_eq _ _).trans q)
  have h5 : ¬ k0_cond5 (crd a t) (word (active a) (crd a t)) = 1#1 := cond5_zero _ hc _
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_A c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) h1 (firstHalf_zero _ hc) (laterHalf_zero _ hc) (cond4_zero _ hc) h5).2 _ x _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ _
        have e : t = pred a s := Fin.ext (show t.val = s.val - 1 by omega)
        rw [← e]; exact scratch_first ..
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The second half of an active tile. -/
theorem body_live_second (c : Dev nD) (t : Fin (pipe a).N) (hf : t.val % 2 = 1) (q : Live (active a) (crd a t)) :
    Pre1 a m ρ c t ⊢ wp frame (wpE (defs₀ (F := Ideal)) Variants.none c none) Set.univ (bodyAt a t) fun _ => Post1 a m ρ c t := by
  have hc := (coords_val t).2
  rw [hf] at hc
  have h1 : k0_cond1 (word (active a) (crd a t)) = 1#1 := (cond1_iff _).2 ((word_eq _ _).trans q)
  have h5 : ¬ k0_cond5 (crd a t) (word (active a) (crd a t)) = 1#1 := fun h => (cond5_one _ hc _).1 h ((word_eq _ _).trans q)
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_B c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 (firstHalf_one _ hc) (laterHalf_one _ hc) (cond4_one _ hc) h5).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs h; exact absurd h (by omega)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_B_4 c _ _ _ _ _ _ _ _ _ _ _ _ _ _ _ _ _ _ _ _ _ _ _)).trans ?_
    refine (stored_live ..).trans ?_
    rw [hx t rfl hf q]
    exact (if_pos q).symm

set_option maxHeartbeats 4000000 in
/-- The first half of an inactive tile. -/
theorem body_dead_first (c : Dev nD) (t : Fin (pipe a).N) (hf : t.val % 2 = 0) (q : ¬ Live (active a) (crd a t)) :
    Pre1 a m ρ c t ⊢ wp frame (wpE (defs₀ (F := Ideal)) Variants.none c none) Set.univ (bodyAt a t) fun _ => Post1 a m ρ c t := by
  have hc := (coords_val t).2
  rw [hf] at hc
  have h1 : ¬ k0_cond1 (word (active a) (crd a t)) = 1#1 := fun h => q ((word_eq _ _).symm.trans ((cond1_iff _).1 h))
  have h5 : ¬ k0_cond5 (crd a t) (word (active a) (crd a t)) = 1#1 := cond5_zero _ hc _
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_C c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 h5).2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  iintro ⟨H0, H1, H2, H3, HT0, HT1, H4, HS0⟩
  isplitl [HS0 HT0 HT1]
  · isplitl [HS0]
    · iexists _; isplitr; swap
      · iexact HS0
      · ipureintro
        intro s hs _ hl
        have e : t = pred a s := Fin.ext (show t.val = s.val - 1 by omega)
        exact absurd ((congrArg (active a) (e ▸ tileIx_pred a s (by omega))).trans hl) q
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexists d4; iexact H4

set_option maxHeartbeats 4000000 in
/-- The second half of an inactive tile. -/
theorem body_dead_second (c : Dev nD) (t : Fin (pipe a).N) (hf : t.val % 2 = 1) (q : ¬ Live (active a) (crd a t)) :
    Pre1 a m ρ c t ⊢ wp frame (wpE (defs₀ (F := Ideal)) Variants.none c none) Set.univ (bodyAt a t) fun _ => Post1 a m ρ c t := by
  have hc := (coords_val t).2
  rw [hf] at hc
  have h1 : ¬ k0_cond1 (word (active a) (crd a t)) = 1#1 := fun h => q ((word_eq _ _).symm.trans ((cond1_iff _).1 h))
  have h5 : k0_cond5 (crd a t) (word (active a) (crd a t)) = 1#1 := (cond5_one _ hc _).2 (fun h => q ((word_eq _ _).symm.trans h))
  unfold Pre1 Post1
  rw [bigSep_W0]
  have hi := idle4 a t
  have hfl := flush4 a t
  rw [hf] at hi hfl
  rewrite [hi]
  simp only [before_0, before_1, before_2, before_3, before_4, after_0, after_1, after_2, after_3, after_4, hfl]
  simp only [reduceCtorEq, decide_false, decide_true, Nat.one_ne_zero, Nat.zero_ne_one]
  rewrite [show (dats a m ρ 0 c).Φ t.succ = inv a m ρ c (t.val + 1) from rfl, show (dats a m ρ 0 c).Φ t.castSucc = inv a m ρ c t.val from rfl,
    show (dats a m ρ 0 c).owesAt () t.succ = (dats a m ρ 0 c).owesAt () t.castSucc from rfl]
  unfold inv
  iintro ⟨⟨⟨%x, %hx, HS0⟩, HT0, HT1⟩, Ho, ⟨%d0, H0⟩, ⟨%d1, H1⟩, ⟨%d2, H2⟩, ⟨%d3, H3⟩, ⟨%d4, H4⟩⟩
  iapply ((kernelRun0_D c (crd a t) (st0 a t) (wh0 a t) (st1 a t) (wh1 a t) (st2 a t) (wh2 a t) (st3 a t) (wh3 a t) (st4 a t) (wh4 a t) (experts a) (active a) (blk0 a m ρ c t) (blk1 a m ρ c t) (blk2 a m ρ c t) (blk3 a m ρ c t) x h1 h5).2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexists _; iexact H4
  isplitl [HS0]; · iexact HS0
  iintro ⟨H0, H1, H2, H3, HT0, HT1, ⟨%e4, H4⟩, HS0⟩
  isplitl [HS0 HT0 HT1]
  · isplitl [HS0]
    · iexists _; isplitr; swap
      · iexact HS0
      · ipureintro
        intro s hs h; exact absurd h (by omega)
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro
    refine (View.read_writes_of_cover _ _ VO0_4 VO0_4.junk _ (cover0_D_4 c _ _ _ _ _ _ _ _ _ _ _ _ _ _ _ _ _ _ _ _)).trans ?_
    exact (stored_dead ..).trans (if_neg q).symm

/-- The body at any point. -/
theorem body_at (c : Dev nD) (t : Fin (pipe a).N) :
    Pre1 a m ρ c t ⊢ wp frame (wpE (defs₀ (F := Ideal)) Variants.none c none) Set.univ (bodyAt a t) fun _ => Post1 a m ρ c t := by
  by_cases q : Live (active a) (crd a t) <;> rcases Nat.mod_two_eq_zero_or_one t.val with h | h
  · exact body_live_first a m ρ c t h q
  · exact body_live_second a m ρ c t h q
  · exact body_dead_first a m ρ c t h q
  · exact body_dead_second a m ρ c t h q

/-- The library's body obligation, at every point. -/
theorem body_obligation (c : Dev nD) : BodyObligation (dats a m ρ 0 c) (defs₀ (F := Ideal)) Variants.none () Set.univ := fun t => by
  rw [bigSep_W0]
  exact body_at a m ρ c t

/-! ## The launch -/

/-- The launch element of the staging cells. -/
def u₀ : UR sig nD τ :=
  initOf (Pipeline.cells (pipes a) ((launch0 (F := Ideal)).cellOf_inj fun _ => a))
    (Pipeline.launchToks (pipes a) ((launch0 (F := Ideal)).cellOf_inj fun _ => a))

theorem share_eq (c : Dev nD) (w : Fin (pipe a).W) : (dats a m ρ 0 c).share w = fullShare := by unfold Dat.share; split <;> rfl

/-- The tables, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem inv_start (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = inv a m ρ c 0 from rfl]
  unfold inv
  iintro ⟨-, ⟨HT0, HT1⟩, ⟨%a0, HS0⟩⟩
  isplitl [HS0]
  · iexists a0; isplitr; swap
    · iexact HS0
    · ipureintro; intro t ht h; exact absurd h (by decide)
  isplitl [HT0]
  · iexact HT0
  iexact HT1

theorem inv_end (c : Dev nD) : (dats a m ρ 0 c).Φ (Fin.last (pipe a).N) ⊢ iprop(BI.emp ∗ Pipeline.scopedRest spec0 c) := by
  rw [scopedRest0_eq, show (dats a m ρ 0 c).Φ (Fin.last (pipe a).N) = inv a m ρ c (pipe a).N from rfl]
  unfold inv
  iintro ⟨⟨%a0, -, HS0⟩, -, -⟩
  isplitr; · iempintro
  iexists a0; iexact HS0

/-- The run's end: every array at what the pipeline writes, the tables as they were. -/
def Ends : PUnit × MemSt nD τ sig (Elt Ideal) → Prop := fun r =>
  ∀ c : Dev nD, (∀ w : Fin (pipe a).W, r.2.mem (((pipe a).win w).arr.view.loc (c : Thread nD τ)) = (dats a m ρ 0 c).arrAt w (pipe a).N)
    ∧ ∀ j, r.2.mem ((c : Thread nD τ).loc (pre0.ref j)) = a.1 j

set_option backward.isDefEq.respectTransparency.types false in
set_option maxHeartbeats 4000000 in
/-- From a memory whose tables are `a`, every execution ends as `Ends` says, every semaphore at zero. -/
theorem run_ends (hp : ∀ (c : Dev nD) (j : Fin 2), m ((c : Thread nD τ).loc (pre0.ref j)) = a.1 j) :
    θ_run (defs (F := Ideal)) (onTc (τ := τ) (main (F := Ideal))) (s₀ m ρ) (fun r => Ends a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre stagingRes defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pipes a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_start a m ρ)
    (hout := inv_end a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- A core's arguments at the end of a run. -/
abbrev ArgsKept (r : PUnit × MemSt nD τ sig (Elt Ideal)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)

theorem args_kept (hp : ∀ (c : Dev nD) (j : Fin 2), m ((c : Thread nD τ).loc (pre0.ref j)) = a.1 j) (r) (h : Ends a m ρ r) (c : Dev nD) : ArgsKept m r c :=
  ⟨((h c).2 0).trans (hp c 0).symm, ((h c).2 1).trans (hp c 1).symm,
    ((h c).1 (0 : Fin 5)).trans ((dats a m ρ 0 c).arrAt_in (0 : Fin 5) rfl _),
    ((h c).1 (1 : Fin 5)).trans ((dats a m ρ 0 c).arrAt_in (1 : Fin 5) rfl _),
    ((h c).1 (2 : Fin 5)).trans ((dats a m ρ 0 c).arrAt_in (2 : Fin 5) rfl _),
    ((h c).1 (3 : Fin 5)).trans ((dats a m ρ 0 c).arrAt_in (3 : Fin 5) rfl _)⟩

/-- The frame: the arguments end unchanged, every semaphore at zero. -/
theorem frame (hp : ∀ (c : Dev nD) (j : Fin 2), m ((c : Thread nD τ).loc (pre0.ref j)) = a.1 j) :
    θ_run (defs (F := Ideal)) (onTc (τ := τ) (main (F := Ideal))) ⟨m, fun _ => 0, ρ⟩ (fun r => (∀ c : Dev nD, ArgsKept m r c) ∧ r.2.sem = fun _ => 0) :=
  (θ_run defs _ _).mono (fun r h => ⟨args_kept a m ρ hp r h.1, h.2⟩) (run_ends a m ρ hp)

end Cert.KernelIdeal.Tiles
end
-- ==== Proof.IdealOk.lean ====
module

public import proofs.«01_k».proof.Proof.IdealFrame
public import proofs.«01_k».proof.Proof.Tables
public import proofs.«01_k».proof.Proof.Gen.Pre_experts_in_range
public import Idealize.ShloMosaic.Lib.Affine

/-!
# The tables the precondition admits

Where every expert named is one of the eight, each block of weights lies inside its array, so the run's end holds.
-/

@[expose] public section
set_option maxRecDepth 16384
noncomputable section
namespace Cert.KernelIdeal.Tiles
open Cert.KernelIdeal Cert.KernelIdeal.Gen
open Idealize.ShloMosaic
open Idealize.ShloMosaic.TcCoe
open Idealize.SL Idealize.SL.Sem

theorem at_eq (pf : pre0.Contents (Elt Ideal)) (i : grid0.Coords) :
    pf.at 0 (Rect.unit (s := S72) (k0_off1 i) S1.size (k0_off1_inb i)) numel1_S1 = pf 0 (tileIx i) := by
  show pf 0 _ = pf 0 _
  congr 1
  funext a
  apply Fin.ext
  have h := off1_eq i a
  show k0_off1 i a + 1 * _ = _
  rw [h]
  fin_cases a
  rfl

/-- A block of the weights of an expert that exists, at one of the two halves. -/
theorem inb_cols (e f : ℕ) (he : e < 8) (hf : f < 2) : ∀ a : Fin 3, (![e, 0, f] a + 1) * S1x1024x1792.size a ≤ S8x1024x3584.size a := by
  intro a
  fin_cases a
  · show (e + 1) * 1 ≤ 8; omega
  · show (0 + 1) * 1024 ≤ 1024; omega
  · show (f + 1) * 1792 ≤ 3584; omega
theorem inb_rows (e f : ℕ) (he : e < 8) (hf : f < 2) : ∀ a : Fin 3, (![e, f, 0] a + 1) * S1x1792x1024.size a ≤ S8x3584x1024.size a := by
  intro a
  fin_cases a
  · show (e + 1) * 1 ≤ 8; omega
  · show (f + 1) * 1792 ≤ 3584; omega
  · show (0 + 1) * 1024 ≤ 1024; omega

theorem half_lt (i : grid0.Coords) : (BitVec.ofNat 32 (i 1).val).toNat = (i 1).val ∧ (i 1).val < 2 := by
  have h : (i 1).val < 2 := (i 1).isLt
  refine ⟨?_, h⟩
  rw [BitVec.toNat_ofNat]
  omega

theorem transform_1 (pf : pre0.Contents (Elt Ideal)) (i : grid0.Coords) :
    cc0_transform_1 k0_off1_inb numel1_S1 pf i = ![(pf 0 (tileIx i) : BitVec 32).toNat, 0, (i 1).val] := by
  show ![BitVec.toNat (pf.at 0 (Rect.unit (s := S72) (k0_off1 i) S1.size (k0_off1_inb i)) numel1_S1), 0, (BitVec.ofNat 32 (i 1).val).toNat] = _
  rw [(half_lt i).1, at_eq]
theorem transform_2 (pf : pre0.Contents (Elt Ideal)) (i : grid0.Coords) :
    cc0_transform_2 k0_off1_inb numel1_S1 pf i = ![(pf 0 (tileIx i) : BitVec 32).toNat, 0, (i 1).val] := by
  show ![BitVec.toNat (pf.at 0 (Rect.unit (s := S72) (k0_off1 i) S1.size (k0_off1_inb i)) numel1_S1), 0, (BitVec.ofNat 32 (i 1).val).toNat] = _
  rw [(half_lt i).1, at_eq]
theorem transform_3 (pf : pre0.Contents (Elt Ideal)) (i : grid0.Coords) :
    cc0_transform_3 k0_off1_inb numel1_S1 pf i = ![(pf 0 (tileIx i) : BitVec 32).toNat, (i 1).val, 0] := by
  show ![BitVec.toNat (pf.at 0 (Rect.unit (s := S72) (k0_off1 i) S1.size (k0_off1_inb i)) numel1_S1), (BitVec.ofNat 32 (i 1).val).toNat, 0] = _
  rw [(half_lt i).1, at_eq]

theorem ok_of_lt (pf : pre0.Contents (Elt Ideal)) (h : ∀ x : S72.Idx, (pf 0 x : BitVec 32).toNat < 8) : ok0 pf :=
  ⟨fun i => ⟨fun a => by rw [transform_1]; exact inb_cols _ _ (h _) (half_lt i).2 a,
      .inr (Affine.block_words_dvd (s := S8x1024x3584) (p := EltTy.packing .bf16) (by decide) (by decide))⟩,
    fun i => ⟨fun a => by rw [transform_2]; exact inb_cols _ _ (h _) (half_lt i).2 a,
      .inr (Affine.block_words_dvd (s := S8x1024x3584) (p := EltTy.packing .bf16) (by decide) (by decide))⟩,
    fun i => ⟨fun a => by rw [transform_3]; exact inb_rows _ _ (h _) (half_lt i).2 a, .inl rfl⟩⟩

/-- The precondition, of the memory a run starts from. -/
abbrev Adm (m : (ℓ : Loc nD τ sig) → Buf (Elt Ideal) ℓ) : Prop :=
  ∀ c : Dev nD, Cert.Pre_experts_in_range.fn (F := Ideal) (m (c.tc.loc main_arg0)) (m (c.tc.loc main_arg1)) (m (c.tc.loc main_arg2)) (m (c.tc.loc main_arg3)) (m (c.tc.loc main_arg4)) (m (c.tc.loc main_arg5)) = fun _ => 1#1

variable (m : (ℓ : Loc nD τ sig) → Buf (Elt Ideal) ℓ) (ρ : Dev nD → PrngReg) (hm : Adm m)

/-- The tables in memory. -/
def tables : (pcfg0 (F := Ideal)).Adm :=
  ⟨fun j => m ((0 : Dev nD).tc.loc (pre0.ref j)), ok_of_lt _ fun x => Cert.Tables.experts_lt _ _ _ _ _ _ (hm 0) x⟩

theorem tables_at (c : Dev nD) (j : Fin 2) : m ((c : Thread nD τ).loc (pre0.ref j)) = (tables m hm).1 j := by
  obtain rfl : c = 0 := Subsingleton.elim _ _
  rfl

end Cert.KernelIdeal.Tiles
end
-- ==== Proof.Swiglu.lean ====
module

public import Idealize.ShloMosaic.Lib.Pointwise

/-!
# The routed expert feed-forward

Row `R` of the gathered rows belongs to tile `R / 512`. An active tile's rows go through its expert: two products
with the hidden width 3584, the gate `a · 1 / (1 + exp (-a))` of the first times the second, and a product back. An
inactive tile's rows are zero. A sum over the hidden width is the sum over its two halves of 1792.
-/

@[expose] public section
noncomputable section
namespace Cert.Swiglu
open Idealize.ShloMosaic

/-- The hidden value of the two products `a` and `b`. -/
def hidden (a b : EReal) : EReal := a * Ideal.div 1 (1 + Ideal.exp (-a)) * b

/-- A row's product with a column of an expert's weights. -/
def proj (x : (⟨2, ![36864, 1024]⟩ : Shape).Idx → EReal) (w : (⟨3, ![8, 1024, 3584]⟩ : Shape).Idx → EReal) (R : Fin 36864) (e : Fin 8) (f : Fin 3584) : EReal :=
  ∑ k : Fin 1024, x (ix2 R k) * w (ix3 e k f)

/-- The value at hidden position `f`. -/
def term (x : (⟨2, ![36864, 1024]⟩ : Shape).Idx → EReal) (w1 w3 : (⟨3, ![8, 1024, 3584]⟩ : Shape).Idx → EReal) (w2 : (⟨3, ![8, 3584, 1024]⟩ : Shape).Idx → EReal)
    (R : Fin 36864) (e : Fin 8) (d : Fin 1024) (f : Fin 3584) : EReal :=
  hidden (proj x w1 R e f) (proj x w3 R e f) * w2 (ix3 e f d)

/-- A row's tile. -/
def tileOf (R : Fin 36864) : (⟨1, ![72]⟩ : Shape).Idx := ix1 ⟨R.val / 512, by have := R.isLt; omega⟩

/-- The feed-forward of the rows `x` through the tiles' experts `te`, where `ta` says the tile is active. -/
def routed (te ta : (⟨1, ![72]⟩ : Shape).Idx → BitVec 32) (h : ∀ i, (te i).toNat < 8)
    (x : (⟨2, ![36864, 1024]⟩ : Shape).Idx → EReal) (w1 w3 : (⟨3, ![8, 1024, 3584]⟩ : Shape).Idx → EReal) (w2 : (⟨3, ![8, 3584, 1024]⟩ : Shape).Idx → EReal) :
    (⟨2, ![36864, 1024]⟩ : Shape).Idx → EReal := fun j =>
  if ta (tileOf (j 0)) = 1#32 then ∑ f, term x w1 w3 w2 (j 0) ⟨(te (tileOf (j 0))).toNat, h _⟩ (j 1) f else 0

/-- The hidden position at place `j` of a half. -/
def pos (half : Fin 2) (j : Fin 1792) : Fin 3584 := ⟨half.val * 1792 + j.val, by have := half.isLt; have := j.isLt; omega⟩

theorem sum_halves (g : Fin 3584 → EReal) : (∑ j, g (pos 0 j)) + (∑ j, g (pos 1 j)) = ∑ f, g f := by
  rw [Fin.sum_univ_two_halves 1792 1792 rfl g]
  congr 1

/-- A sum over the experts weighted by whether each is the one named, the name being a number below 8. -/
theorem sum_onehot (v : BitVec 32) (hv : v.toNat < 8) (y : Fin 8 → EReal) :
    (∑ e : Fin 8, FloatOps.uitofp (F := Ideal) .f32 (IntOp.cmpi .eq v (BitVec.ofNat 32 e.val)) * y e) = y ⟨v.toNat, hv⟩ := by
  rw [Finset.sum_eq_single ⟨v.toNat, hv⟩]
  · have : IntOp.cmpi .eq v (BitVec.ofNat 32 v.toNat) = 1#1 := by simp [IntOp.cmpi]
    show FloatOps.uitofp (F := Ideal) .f32 (IntOp.cmpi .eq v (BitVec.ofNat 32 v.toNat)) * _ = _
    rw [this, show FloatOps.uitofp (F := Ideal) .f32 1#1 = (1 : EReal) from by simp [FloatOps.uitofp], one_mul]
  · intro e _ he
    have : IntOp.cmpi .eq v (BitVec.ofNat 32 e.val) = 0#1 := by
      have hne : v ≠ BitVec.ofNat 32 e.val := fun q => he (Fin.ext (by
        have p := congrArg BitVec.toNat q
        rw [BitVec.toNat_ofNat] at p
        have := e.isLt
        show e.val = v.toNat
        omega))
      show BitVec.ofBool (v == BitVec.ofNat 32 e.val) = 0#1
      rw [beq_false_of_ne hne]; rfl
    rw [this, show FloatOps.uitofp (F := Ideal) .f32 0#1 = (0 : EReal) from by simp [FloatOps.uitofp], zero_mul]
  · intro q; exact absurd (Finset.mem_univ _) q

/-- The same sum where the name is `-1`: no expert has it. -/
theorem sum_onehot_none (y : Fin 8 → EReal) :
    (∑ e : Fin 8, FloatOps.uitofp (F := Ideal) .f32 (IntOp.cmpi .eq 4294967295#32 (BitVec.ofNat 32 e.val)) * y e) = 0 := by
  refine Finset.sum_eq_zero fun e _ => ?_
  have : ∀ e : Fin 8, IntOp.cmpi .eq 4294967295#32 (BitVec.ofNat 32 e.val) = 0#1 := by decide
  rw [this, show FloatOps.uitofp (F := Ideal) .f32 0#1 = (0 : EReal) from by simp [FloatOps.uitofp], zero_mul]

end Cert.Swiglu
end
-- ==== Proof.TileValue.lean ====
module

public import proofs.«01_k».proof.Proof.IdealOk
public import proofs.«01_k».proof.Proof.Swiglu
public import Idealize.ShloMosaic.Lib.Pipeline.ValueKit

/-!
# The kernel computes the routed feed-forward
-/

@[expose] public section
set_option maxRecDepth 16384
noncomputable section
namespace Cert.KernelIdeal.Tiles
open Cert.KernelIdeal Cert.KernelIdeal.Gen
open Idealize.ShloMosaic Cert.Swiglu
open Idealize.ShloMosaic.TcCoe
open Idealize.SL Idealize.SL.Sem

/-- One half's product, at an element. -/
theorem pay1_apply (x : Vec Ideal S512x1024 .bf16) (w1 w3 : Vec Ideal S1x1024x1792 .bf16) (w2 : Vec Ideal S1x1792x1024 .f32) (r : Fin 512) (d : Fin 1024) :
    k0_pay1 x w1 w3 w2 (ix2 r d) = ∑ j : Fin 1792, Swiglu.hidden (∑ k : Fin 1024, x (ix2 r k) * w1 (ix3 0 k j)) (∑ k : Fin 1024, x (ix2 r k) * w3 (ix3 0 k j)) * w2 (ix3 0 j d) := by
  pointwise [k0_pay1, Swiglu.hidden]
  simp only [zero_sub]

variable (a : (pcfg0 (F := Ideal)).Adm) (m : (ℓ : Loc nD τ sig) → Buf (Elt Ideal) ℓ) (ρ : Dev nD → PrngReg) (c : Dev nD)

/-- The row of the array a point's block holds at `r`. -/
abbrev row (t : Fin (pipe a).N) (r : Fin 512) : Fin 36864 := ⟨t.val / 2 * 512 + r.val, by have h : t.val < 144 := t.isLt; have := r.isLt; omega⟩
abbrev halfOf (t : Fin (pipe a).N) : Fin 2 := ⟨t.val % 2, by omega⟩

theorem transform_0 : ∀ t : Fin grid0.N, cc0_transform_0 (grid0.coords t) = ![t.val / 2, 0] := by decide +kernel
theorem transform_4 : ∀ t : Fin grid0.N, cc0_transform_4 (grid0.coords t) = ![t.val / 2, 0] := by decide +kernel

/-- The word naming a point's expert. -/
abbrev expertWord (t : Fin (pipe a).N) : BitVec 32 := experts a (tileIx (crd a t))

theorem index_0 (t : Fin (pipe a).N) : ((pipe a).win (0 : Fin 5)).index t = ![t.val / 2, 0] := transform_0 t
theorem index_1 (t : Fin (pipe a).N) : ((pipe a).win (1 : Fin 5)).index t = ![(expertWord a t).toNat, 0, t.val % 2] :=
  (transform_1 a.1 (crd a t)).trans (by rw [(coords_val t).2])
theorem index_2 (t : Fin (pipe a).N) : ((pipe a).win (2 : Fin 5)).index t = ![(expertWord a t).toNat, 0, t.val % 2] :=
  (transform_2 a.1 (crd a t)).trans (by rw [(coords_val t).2])
theorem index_3 (t : Fin (pipe a).N) : ((pipe a).win (3 : Fin 5)).index t = ![(expertWord a t).toNat, t.val % 2, 0] :=
  (transform_3 a.1 (crd a t)).trans (by rw [(coords_val t).2])
theorem index_4 (t : Fin (pipe a).N) : ((pipe a).win (4 : Fin 5)).index t = ![t.val / 2, 0] := transform_4 t

/-! ## The blocks, at their places in the arrays -/

abbrev rows : S36864x1024.Idx → EReal := m ((c : Thread nD τ).loc main_arg2)
abbrev gateW : S8x1024x3584.Idx → EReal := m ((c : Thread nD τ).loc main_arg3)
abbrev upW : S8x1024x3584.Idx → EReal := m ((c : Thread nD τ).loc main_arg4)
abbrev downW : S8x3584x1024.Idx → EReal := m ((c : Thread nD τ).loc main_arg5)

theorem blk0_apply (t : Fin (pipe a).N) (r : Fin 512) (k : Fin 1024) :
    blk0 a m ρ c t (ix2 r k) = rows m c (ix2 (row a t r) k) := by
  show rows m c ((((pipe a).win (0 : Fin 5)).blk t).view.emb (ix2 r k)) = _
  congr 1
  funext b
  apply Fin.ext
  fin_cases b
  · blk_simp; rw [index_0]; rfl
  · blk_simp; rw [index_0]; exact Nat.zero_add _

variable (h : ∀ i : S72.Idx, (experts a i : BitVec 32).toNat < 8)

/-- A point's expert. -/
abbrev expertOf (t : Fin (pipe a).N) : Fin 8 := ⟨(expertWord a t).toNat, h _⟩

theorem blk1_apply (t : Fin (pipe a).N) (k : Fin 1024) (j : Fin 1792) :
    blk1 a m ρ c t (ix3 0 k j) = gateW m c (ix3 (expertOf a h t) k (pos (halfOf a t) j)) := by
  show gateW m c ((((pipe a).win (1 : Fin 5)).blk t).view.emb (ix3 0 k j)) = _
  congr 1
  funext b
  apply Fin.ext
  fin_cases b
  · blk_simp; rw [index_1]; rfl
  · blk_simp; rw [index_1]; exact Nat.zero_add _
  · blk_simp; rw [index_1]; rfl
theorem blk2_apply (t : Fin (pipe a).N) (k : Fin 1024) (j : Fin 1792) :
    blk2 a m ρ c t (ix3 0 k j) = upW m c (ix3 (expertOf a h t) k (pos (halfOf a t) j)) := by
  show upW m c ((((pipe a).win (2 : Fin 5)).blk t).view.emb (ix3 0 k j)) = _
  congr 1
  funext b
  apply Fin.ext
  fin_cases b
  · blk_simp; rw [index_2]; rfl
  · blk_simp; rw [index_2]; exact Nat.zero_add _
  · blk_simp; rw [index_2]; rfl
theorem blk3_apply (t : Fin (pipe a).N) (j : Fin 1792) (d : Fin 1024) :
    blk3 a m ρ c t (ix3 0 j d) = downW m c (ix3 (expertOf a h t) (pos (halfOf a t) j) d) := by
  show downW m c ((((pipe a).win (3 : Fin 5)).blk t).view.emb (ix3 0 j d)) = _
  congr 1
  funext b
  apply Fin.ext
  fin_cases b
  · blk_simp; rw [index_3]; rfl
  · blk_simp; rw [index_3]; rfl
  · blk_simp; rw [index_3]; exact Nat.zero_add _

/-! ## The output -/

/-- A half's product, of the arrays. -/
theorem half_apply (t : Fin (pipe a).N) (r : Fin 512) (d : Fin 1024) :
    k0_pay1 (blk0 a m ρ c t) (blk1 a m ρ c t) (blk2 a m ρ c t) (blk3 a m ρ c t) (ix2 r d)
      = ∑ j, term (rows m c) (gateW m c) (upW m c) (downW m c) (row a t r) (expertOf a h t) d (pos (halfOf a t) j) := by
  rw [pay1_apply]
  refine Finset.sum_congr rfl fun j _ => ?_
  unfold term proj
  rw [blk3_apply a m ρ c h]
  congr 2
  · exact Finset.sum_congr rfl fun k _ => by rw [blk0_apply, blk1_apply a m ρ c h]
  · exact Finset.sum_congr rfl fun k _ => by rw [blk0_apply, blk2_apply a m ρ c h]

theorem tileIx_eq (t : Fin (pipe a).N) (r : Fin 512) : tileIx (crd a t) = tileOf (row a t r) := by
  funext b
  apply Fin.ext
  have e := (coords_val t).1
  have := r.isLt
  fin_cases b
  show (grid0.coords t 0).val = (t.val / 2 * 512 + r.val) / 512
  rw [e]
  omega

/-- What the second half of a tile stores, at an element. -/
theorem tileOut_apply (t : Fin (pipe a).N) (ht : t.val % 2 = 1) (r : Fin 512) (d : Fin 1024) :
    tileOut a m ρ c t (ix2 r d) = routed (experts a) (active a) h (rows m c) (gateW m c) (upW m c) (downW m c) (ix2 (row a t r) d) := by
  unfold tileOut routed
  change _ = if active a (tileOf (row a t r)) = 1#32 then ∑ f, term (rows m c) (gateW m c) (upW m c) (downW m c) (row a t r) ⟨(experts a (tileOf (row a t r)) : BitVec 32).toNat, h _⟩ d f else 0
  simp only [← tileIx_eq a t r]
  by_cases q : active a (tileIx (crd a t)) = 1#32
  · rw [if_pos q, if_pos q]
    have e3 : ∀ acc : Vec Ideal S512x1024 .f32, k0_pay4 (k0_pay3 (blk0 a m ρ c t) (blk1 a m ρ c t) (blk2 a m ρ c t) (blk3 a m ρ c t) acc) (ix2 r d)
        = acc (ix2 r d) + k0_pay1 (blk0 a m ρ c t) (blk1 a m ρ c t) (blk2 a m ρ c t) (blk3 a m ρ c t) (ix2 r d) := fun acc => by pointwise [k0_pay4, k0_pay3]
    have e2 : halfOut a m ρ c (pred a t) (ix2 r d)
        = k0_pay1 (blk0 a m ρ c (pred a t)) (blk1 a m ρ c (pred a t)) (blk2 a m ρ c (pred a t)) (blk3 a m ρ c (pred a t)) (ix2 r d) := by
      unfold halfOut; pointwise [k0_pay2]
    refine (e3 _).trans ?_
    rw [e2, half_apply a m ρ c h, half_apply a m ρ c h]
    have f0 : halfOf a (pred a t) = 0 := Fin.ext (show (t.val - 1) % 2 = 0 by omega)
    have f1 : halfOf a t = 1 := Fin.ext ht
    have g0 : row a (pred a t) r = row a t r := Fin.ext (show (t.val - 1) / 2 * 512 + r.val = t.val / 2 * 512 + r.val by omega)
    have h0 : expertOf a h (pred a t) = expertOf a h t := Fin.ext (show (experts a _ : BitVec 32).toNat = _ by rw [tileIx_pred a t ht])
    rw [f0, f1, g0, h0]
    exact sum_halves _
  · rw [if_neg q, if_neg q]
    pointwise [k0_pay5]

/-- The output array, once the run is over. -/
theorem out_eq : (dats a m ρ 0 c).arrAt (4 : Fin 5) (pipe a).N
    = routed (experts a) (active a) h (rows m c) (gateW m c) (upW m c) (downW m c) := by
  refine (dats a m ρ 0 c).arrAt_eq_of_covers (4 : Fin 5) _ ⟨?_, ?_⟩ fun t hf y => ?_
  · intro b; fin_cases b
    · exact (by decide : 0 < 512)
    · exact (by decide : 0 < 1024)
  · intro ix
    have h0 : (ix (0 : Fin 2)).val < 72 := lt_of_lt_of_eq (ix (0 : Fin 2)).isLt (show (36864 + 512 - 1) / 512 = 72 from by norm_num)
    have h1 : (ix (1 : Fin 2)).val < 1 := lt_of_lt_of_eq (ix (1 : Fin 2)).isLt (show (1024 + 1024 - 1) / 1024 = 1 from by norm_num)
    have hlt : 2 * (ix (0 : Fin 2)).val + 1 < 144 := by omega
    refine ⟨⟨2 * (ix (0 : Fin 2)).val + 1, hlt⟩, ?_, fun b => ⟨?_, .inl rfl⟩⟩
    · rw [flush4]
      exact decide_eq_true (show (2 * (ix (0 : Fin 2)).val + 1) % 2 = 1 by omega)
    · rw [index_4]
      fin_cases b
      · show (2 * (ix (0 : Fin 2)).val + 1) / 2 = (ix (0 : Fin 2)).val
        omega
      · show 0 = (ix (1 : Fin 2)).val
        omega
  · have ht : t.val % 2 = 1 := by rw [flush4] at hf; exact of_decide_eq_true hf
    blk_simp
    rw [after_4]
    obtain ⟨r, d, rfl⟩ : ∃ (r : Fin 512) (d : Fin 1024), y = ix2 r d := ⟨y 0, y 1, eq_ix2 y⟩
    refine (tileOut_apply a m ρ c h t ht r d).trans ?_
    congr 1
    funext b
    apply Fin.ext
    fin_cases b
    · blk_simp; rw [index_4]; rfl
    · blk_simp; rw [index_4]; exact (Nat.zero_add _).symm

end Cert.KernelIdeal.Tiles
end
-- ==== Proof.RefValue.lean ====
module

public import proofs.«01_k».proof.Proof.Swiglu
public import proofs.«01_k».proof.Proof.Gen.ReferenceIdeal.Run

/-!
# The reference computes the routed feed-forward

The reference runs every row through every expert and weighs the results by the one-hot row of the tile's expert,
`-1` standing for an inactive tile.
-/

@[expose] public section
set_option maxRecDepth 16384
noncomputable section
namespace Cert.ReferenceIdeal.Tiles
open Cert.ReferenceIdeal Cert.ReferenceIdeal.Gen Idealize.ShloMosaic Cert.Swiglu

variable (te ta : IVec S72 32) (x : FVec Ideal S36864x1024 .bf16) (w1 w3 : FVec Ideal S8x1024x3584 .bf16) (w2 : FVec Ideal S8x3584x1024 .f32)

/-- The expert of each row, `-1` where its tile is inactive. -/
abbrev expertOfRow : IVec S36864 32 :=
  shapeCast _ (broadcastInDim S72x512 ![0, 1] bcast_S72x1_S72x512_0_1 (broadcastInDim S72x1 ![0] bcast_S72_S72x1_0
    (select (cmpi .eq ta (broadcastInDim S72 ![] bcast_S_S72 (constantI S_ 32 1#32))) te (broadcastInDim S72 ![] bcast_S_S72 (id (constantI S_ 32 4294967295#32)))))) shapeCasts_S72x512_S36864

/-- The one-hot weights. -/
abbrev weights : FVec Ideal S36864x8 .f32 :=
  uitofp .f32 (cmpi .eq (broadcastInDim S36864x8 ![0, 1] bcast_S36864x1_S36864x8_0_1 (broadcastInDim S36864x1 ![0] bcast_S36864_S36864x1_0 (expertOfRow te ta)))
    (broadcastInDim S36864x8 ![0, 1] bcast_S1x8_S36864x8_0_1 (iotaInDim S1x8 32 1)))

/-- Every row's product with every expert's weights. -/
abbrev through (w : FVec Ideal S8x1024x3584 .bf16) : FVec Ideal S36864x8x3584 .f32 :=
  Host.dotGeneral dot_S36864x1024_S8x1024x3584_S36864x8x3584_1_1_0_02_n_n none (extf .f32 x bitsLt_bf16_f32) (extf .f32 w bitsLt_bf16_f32)

/-- What the reference's result holds. -/
abbrev result : FVec Ideal S36864x1024 .bf16 :=
  truncf .bf16 (Host.reduceAdd (mulf
      (broadcastInDim S8x36864x1024 ![0, 1, 2] bcast_S8x36864x1_S8x36864x1024_0_1_2 (broadcastInDim S8x36864x1 ![0, 1] bcast_S8x36864_S8x36864x1_0_1 (transpose S8x36864 [1, 0] (weights te ta) transposes_S36864x8_S8x36864_1_0)))
      (Host.dotGeneral dot_S36864x8x3584_S8x3584x1024_S8x36864x1024_2_1_0_2_1_0 none
        (mulf (mulf (through x w1) (Host.divf (broadcastInDim S36864x8x3584 ![] bcast_S_S36864x8x3584 (constant S_ .f32 0x3F800000#32))
            (addf (broadcastInDim S36864x8x3584 ![] bcast_S_S36864x8x3584 (constant S_ .f32 0x3F800000#32)) (Host.exp (Host.negf (through x w1)))))) (through x w3)) w2))
    (constant S_ .f32 0x00000000#32) reducesTo_S8x36864x1024_S36864x1024_d0 h_S_) bitsLt_bf16_f32

theorem result_eq (h : ∀ i, (te i).toNat < 8) : result te ta x w1 w3 w2 = routed te ta h x w1 w3 w2 := by
  funext j
  obtain ⟨R, d, rfl⟩ : ∃ (R : Fin 36864) (d : Fin 1024), j = ix2 R d := ⟨j 0, j 1, eq_ix2 j⟩
  pointwise
  change _ = if ta (tileOf R) = 1#32 then ∑ f, term x w1 w3 w2 R ⟨(te (tileOf R)).toNat, h _⟩ d f else 0
  by_cases q : ta (tileOf R) = 1#32
  · rw [if_pos q]
    refine Eq.trans ?_ (sum_onehot (te (tileOf R)) (h _) fun e => ∑ f, term x w1 w3 w2 R e d f)
    refine Finset.sum_congr rfl fun e _ => ?_
    have s : Scalar.select (IntOp.cmpi .eq (ta (tileOf R)) 1#32) (te (tileOf R)) (4294967295#32) = te (tileOf R) := by rw [q]; rfl
    exact congrArg (fun v => FloatOps.uitofp (F := Ideal) .f32 (IntOp.cmpi .eq v (BitVec.ofNat 32 e.val)) * ∑ f, term x w1 w3 w2 R e d f) s
  · rw [if_neg q]
    refine Eq.trans ?_ (sum_onehot_none fun e => ∑ f, term x w1 w3 w2 R e d f)
    refine Finset.sum_congr rfl fun e _ => ?_
    have s : Scalar.select (IntOp.cmpi .eq (ta (tileOf R)) 1#32) (te (tileOf R)) (4294967295#32) = 4294967295#32 := by
      rw [show IntOp.cmpi .eq (ta (tileOf R)) 1#32 = 0#1 from by
        show BitVec.ofBool (ta (tileOf R) == 1#32) = 0#1
        rw [beq_false_of_ne q]; rfl]; rfl
    exact congrArg (fun v => FloatOps.uitofp (F := Ideal) .f32 (IntOp.cmpi .eq v (BitVec.ofNat 32 e.val)) * ∑ f, term x w1 w3 w2 R e d f) s

end Cert.ReferenceIdeal.Tiles
end
-- ==== Proof.Dense.lean ====
module

public import proofs.«01_k».proof.Proof.Swiglu

/-!
# The dense feed-forward

A row goes through two products with the hidden width 2816, the gate of the first times the second, and a product back,
added to the row of the residual. The hidden width is taken in two halves of 1408.
-/

@[expose] public section
noncomputable section
namespace Cert.Dense
open Idealize.ShloMosaic

/-- The value of row `R` and column `d` at hidden position `f`. -/
def term (h : (⟨2, ![16384, 1024]⟩ : Shape).Idx → EReal) (w1 w3 : (⟨2, ![1024, 2816]⟩ : Shape).Idx → EReal) (w2 : (⟨2, ![2816, 1024]⟩ : Shape).Idx → EReal)
    (R : Fin 16384) (d : Fin 1024) (f : Fin 2816) : EReal :=
  Swiglu.hidden (∑ k : Fin 1024, h (ix2 R k) * w1 (ix2 k f)) (∑ k : Fin 1024, h (ix2 R k) * w3 (ix2 k f)) * w2 (ix2 f d)

/-- The feed-forward of the rows `h`, added to the residual `x`. -/
def ffn (h x : (⟨2, ![16384, 1024]⟩ : Shape).Idx → EReal) (w1 w3 : (⟨2, ![1024, 2816]⟩ : Shape).Idx → EReal) (w2 : (⟨2, ![2816, 1024]⟩ : Shape).Idx → EReal) :
    (⟨2, ![16384, 1024]⟩ : Shape).Idx → EReal := fun j => x j + ∑ f, term h w1 w3 w2 (j 0) (j 1) f

/-- The hidden position at place `j` of a half. -/
def pos (half : Fin 2) (j : Fin 1408) : Fin 2816 := ⟨half.val * 1408 + j.val, by have := half.isLt; have := j.isLt; omega⟩

theorem sum_halves (g : Fin 2816 → EReal) : (∑ j, g (pos 0 j)) + (∑ j, g (pos 1 j)) = ∑ f, g f := by
  rw [Fin.sum_univ_two_halves 1408 1408 rfl g]
  congr 1

end Cert.Dense
end
-- ==== Proof.DenseValue.lean ====
module

public import proofs.«01_k».proof.Proof.Dense
public import proofs.«01_k».proof.Proof.Gen.Kernel2Ideal.Value
public import Idealize.ShloMosaic.Lib.Pipeline.ValueKit

/-!
# The kernel computes the dense feed-forward

Point `t` of the grid works on the tile `t / 2` of 512 rows and on the half `t % 2` of the hidden width.
-/

@[expose] public section
set_option maxRecDepth 16384
noncomputable section
namespace Cert.Kernel2Ideal.Rows
open Cert.Kernel2Ideal Cert.Kernel2Ideal.Gen Cert.Kernel2Ideal.Value
open Idealize.ShloMosaic Cert.Dense
open Idealize.ShloMosaic.TcCoe
open Idealize.SL Idealize.SL.Sem

/-- One half's product added to what the block holds, at an element. -/
theorem pay1_apply (acc : Vec Ideal S512x1024 .f32) (h : Vec Ideal S512x1024 .bf16) (w1 w3 : Vec Ideal S1024x1408 .bf16) (w2 : Vec Ideal S1408x1024 .bf16) (r : Fin 512) (d : Fin 1024) :
    k0_pay1 acc h w1 w3 w2 (ix2 r d)
      = acc (ix2 r d) + ∑ j : Fin 1408, Swiglu.hidden (∑ k : Fin 1024, h (ix2 r k) * w1 (ix2 k j)) (∑ k : Fin 1024, h (ix2 r k) * w3 (ix2 k j)) * w2 (ix2 j d) := by
  pointwise [k0_pay1, Swiglu.hidden]
  simp only [zero_sub]

variable (m : (ℓ : Loc nD τ sig) → Buf (Elt Ideal) ℓ) (c : Dev nD)

/-- The row of the array a point's block holds at `r`. -/
abbrev row (t : Fin cfg0.N) (r : Fin 512) : Fin 16384 := ⟨t.val / 2 * 512 + r.val, by have h : t.val < 64 := t.isLt; have := r.isLt; omega⟩
abbrev halfOf (t : Fin cfg0.N) : Fin 2 := ⟨t.val % 2, by omega⟩

theorem index_0 : ∀ t : Fin cfg0.N, (cfg0.win 0).index t = ![t.val / 2, 0] := (by decide +kernel : ∀ t : Fin grid0.N, win0_0.index t = ![t.val / 2, 0])
theorem index_1 : ∀ t : Fin cfg0.N, (cfg0.win 1).index t = ![t.val / 2, 0] := (by decide +kernel : ∀ t : Fin grid0.N, win0_1.index t = ![t.val / 2, 0])
theorem index_2 : ∀ t : Fin cfg0.N, (cfg0.win 2).index t = ![0, t.val % 2] := (by decide +kernel : ∀ t : Fin grid0.N, win0_2.index t = ![0, t.val % 2])
theorem index_3 : ∀ t : Fin cfg0.N, (cfg0.win 3).index t = ![0, t.val % 2] := (by decide +kernel : ∀ t : Fin grid0.N, win0_3.index t = ![0, t.val % 2])
theorem index_4 : ∀ t : Fin cfg0.N, (cfg0.win 4).index t = ![t.val % 2, 0] := (by decide +kernel : ∀ t : Fin grid0.N, win0_4.index t = ![t.val % 2, 0])

/-! ## The blocks, at their places in the arrays -/

abbrev rows : S16384x1024.Idx → EReal := m ((c : Thread nD τ).loc main_arg0)
abbrev resid : S16384x1024.Idx → EReal := m ((c : Thread nD τ).loc main_arg1)
abbrev gateW : S1024x2816.Idx → EReal := m ((c : Thread nD τ).loc main_arg2)
abbrev upW : S1024x2816.Idx → EReal := m ((c : Thread nD τ).loc main_arg3)
abbrev downW : S2816x1024.Idx → EReal := m ((c : Thread nD τ).loc main_arg4)

theorem blk0_apply (t : Fin cfg0.N) (r : Fin 512) (k : Fin 1024) : iblk m c 0 t (ix2 r k) = rows m c (ix2 (row t r) k) := by
  show rows m c (((cfg0.win 0).blk t).view.emb (ix2 r k)) = _
  congr 1
  funext b
  apply Fin.ext
  fin_cases b
  · blk_simp; rw [index_0]; rfl
  · blk_simp; rw [index_0]; exact Nat.zero_add _
theorem blk1_apply (t : Fin cfg0.N) (r : Fin 512) (k : Fin 1024) : iblk m c 1 t (ix2 r k) = resid m c (ix2 (row t r) k) := by
  show resid m c (((cfg0.win 1).blk t).view.emb (ix2 r k)) = _
  congr 1
  funext b
  apply Fin.ext
  fin_cases b
  · blk_simp; rw [index_1]; rfl
  · blk_simp; rw [index_1]; exact Nat.zero_add _
theorem blk2_apply (t : Fin cfg0.N) (k : Fin 1024) (j : Fin 1408) : iblk m c 2 t (ix2 k j) = gateW m c (ix2 k (pos (halfOf t) j)) := by
  show gateW m c (((cfg0.win 2).blk t).view.emb (ix2 k j)) = _
  congr 1
  funext b
  apply Fin.ext
  fin_cases b
  · blk_simp; rw [index_2]; exact Nat.zero_add _
  · blk_simp; rw [index_2]; rfl
theorem blk3_apply (t : Fin cfg0.N) (k : Fin 1024) (j : Fin 1408) : iblk m c 3 t (ix2 k j) = upW m c (ix2 k (pos (halfOf t) j)) := by
  show upW m c (((cfg0.win 3).blk t).view.emb (ix2 k j)) = _
  congr 1
  funext b
  apply Fin.ext
  fin_cases b
  · blk_simp; rw [index_3]; exact Nat.zero_add _
  · blk_simp; rw [index_3]; rfl
theorem blk4_apply (t : Fin cfg0.N) (j : Fin 1408) (d : Fin 1024) : iblk m c 4 t (ix2 j d) = downW m c (ix2 (pos (halfOf t) j) d) := by
  show downW m c (((cfg0.win 4).blk t).view.emb (ix2 j d)) = _
  congr 1
  funext b
  apply Fin.ext
  fin_cases b
  · blk_simp; rw [index_4]; rfl
  · blk_simp; rw [index_4]; exact Nat.zero_add _

/-! ## The output -/

/-- A point's product added to `acc`, of the arrays. -/
theorem half_apply (t : Fin cfg0.N) (acc : Vec Ideal S512x1024 .f32) (r : Fin 512) (d : Fin 1024) :
    k0_pay1 acc (iblk m c 0 t) (iblk m c 2 t) (iblk m c 3 t) (iblk m c 4 t) (ix2 r d)
      = acc (ix2 r d) + ∑ j, term (rows m c) (gateW m c) (upW m c) (downW m c) (row t r) d (pos (halfOf t) j) := by
  refine (pay1_apply acc (iblk m c 0 t) (iblk m c 2 t) (iblk m c 3 t) (iblk m c 4 t) r d).trans ?_
  refine congrArg (acc (ix2 r d) + ·) (Finset.sum_congr rfl fun j _ => ?_)
  unfold term
  rw [blk4_apply]
  congr 2
  · exact Finset.sum_congr rfl fun k _ => by rw [blk0_apply, blk2_apply]
  · exact Finset.sum_congr rfl fun k _ => by rw [blk0_apply, blk3_apply]

/-- What a tile's two points leave in its block. -/
theorem tile_apply (q : ℕ) (hq : 2 * q + 1 < cfg0.N) (r : Fin 512) (d : Fin 1024) :
    Pipeline.accAt (reset5 m c) (step5 m c) (2 * q) 1 hq (ix2 r d)
      = ffn (rows m c) (resid m c) (gateW m c) (upW m c) (downW m c) (ix2 (row ⟨2 * q + 1, hq⟩ r) d) := by
  refine (half_apply m c ⟨2 * q + 1, hq⟩ _ r d).trans ?_
  have h0 : 2 * q < cfg0.N := Nat.lt_of_succ_lt hq
  have e0 := half_apply m c ⟨2 * q, h0⟩ (iblk m c 1 ⟨2 * q, h0⟩) r d
  refine (congrArg (· + _) e0).trans ?_
  rw [blk1_apply]
  have f0 : halfOf (⟨2 * q, h0⟩ : Fin cfg0.N) = 0 := Fin.ext (show 2 * q % 2 = 0 by omega)
  have f1 : halfOf (⟨2 * q + 1, hq⟩ : Fin cfg0.N) = 1 := Fin.ext (show (2 * q + 1) % 2 = 1 by omega)
  have g0 : row (⟨2 * q, h0⟩ : Fin cfg0.N) r = row (⟨2 * q + 1, hq⟩ : Fin cfg0.N) r := Fin.ext (show 2 * q / 2 * 512 + r.val = (2 * q + 1) / 2 * 512 + r.val by omega)
  rw [f0, f1, g0, add_assoc, sum_halves]
  rfl

/-- The output array, once the run is over. -/
theorem out_eq : G5 m c = ffn (rows m c) (resid m c) (gateW m c) (upW m c) (downW m c) := by
  funext i
  have h0 : (i (0 : Fin 2)).val < 16384 := (i (0 : Fin 2)).isLt
  have h1 : (i (1 : Fin 2)).val < 1024 := (i (1 : Fin 2)).isLt
  have hr : run5Of i = (i (0 : Fin 2)).val / 512 := by
    show 1 * ((i (0 : Fin 2)).val / 512 - 0) + 1 * ((i (1 : Fin 2)).val / 1024 - 0) = _
    omega
  have hlt : 2 * run5Of i + 1 < cfg0.N := by
    show 2 * run5Of i + 1 < 64
    omega
  unfold G5
  rw [dif_pos hlt]
  refine (congrArg (Pipeline.accAt (reset5 m c) (step5 m c) (2 * run5Of i) 1 hlt) (eq_ix2 (loc5Of i))).trans ?_
  refine (tile_apply m c (run5Of i) hlt (loc5Of i 0) (loc5Of i 1)).trans ?_
  congr 1
  funext b
  apply Fin.ext
  fin_cases b
  · show (2 * run5Of i + 1) / 2 * 512 + (i (0 : Fin 2)).val % 512 = (i (0 : Fin 2)).val
    omega
  · show (i (1 : Fin 2)).val % 1024 = (i (1 : Fin 2)).val
    omega

end Cert.Kernel2Ideal.Rows
end
-- ==== Proof.DenseRef.lean ====
module

public import proofs.«01_k».proof.Proof.Dense
public import proofs.«01_k».proof.Proof.Gen.Reference2Ideal.Run

/-!
# The reference computes the dense feed-forward
-/

@[expose] public section
set_option maxRecDepth 16384
noncomputable section
namespace Cert.Reference2Ideal.Rows
open Cert.Reference2Ideal Cert.Reference2Ideal.Gen Idealize.ShloMosaic

variable (h : FVec Ideal S16384x1024 .bf16) (x : FVec Ideal S16384x1024 .f32) (w1 w3 : FVec Ideal S1024x2816 .bf16) (w2 : FVec Ideal S2816x1024 .bf16)

/-- A product with the hidden width. -/
abbrev through (w : FVec Ideal S1024x2816 .bf16) : FVec Ideal S16384x2816 .f32 :=
  Host.dotGeneral dot_S16384x1024_S1024x2816_S16384x2816_1_0_0_1_n_n none (extf .f32 h bitsLt_bf16_f32) (extf .f32 w bitsLt_bf16_f32)

/-- What the reference's result holds. -/
abbrev result : FVec Ideal S16384x1024 .f32 :=
  addf x (Host.dotGeneral dot_S16384x2816_S2816x1024_S16384x1024_1_0_0_1_n_n none
    (mulf (mulf (through h w1) (Host.divf (broadcastInDim S16384x2816 ![] bcast_S_S16384x2816 (constant S_ .f32 0x3F800000#32))
      (addf (broadcastInDim S16384x2816 ![] bcast_S_S16384x2816 (constant S_ .f32 0x3F800000#32)) (Host.exp (Host.negf (through h w1)))))) (through h w3))
    (extf .f32 w2 bitsLt_bf16_f32))

theorem result_eq : result h x w1 w3 w2 = Dense.ffn h x w1 w3 w2 := by
  funext j
  obtain ⟨R, d, rfl⟩ : ∃ (R : Fin 16384) (d : Fin 1024), j = ix2 R d := ⟨j 0, j 1, eq_ix2 j⟩
  pointwise
  rfl

end Cert.Reference2Ideal.Rows
end
-- ==== Proof.Merge.lean ====
module

public import Idealize.ShloMosaic.Lib.Pointwise

/-!
# The merge of the branches

The attention's heads go through an output projection, are gated by the logistic function of the gate columns and added
to the sum of the other two branches; a second projection of the result is added to the residual (`merged`). The row is
then divided by its root mean square and scaled (`normed`).
-/

@[expose] public section
noncomputable section
namespace Cert.Merge
open Idealize.ShloMosaic

/-- The three branches' sum, gated, from the other two branches `b`, the gate's argument `g` and the attention's product `y`. -/
def gated (b g y : EReal) : EReal := b + Ideal.div 1 (1 + Ideal.exp (-g)) * y

/-- The gate columns of the input projection: its last 1024. -/
def col (e : Fin 1024) : Fin 6144 := ⟨5120 + e.val, by have := e.isLt; omega⟩

/-- The residual with the merged branches added. -/
def merged (at' : (⟨2, ![16384, 512]⟩ : Shape).Idx → EReal) (ab : (⟨2, ![16384, 1024]⟩ : Shape).Idx → EReal) (pr : (⟨2, ![16384, 6144]⟩ : Shape).Idx → EReal)
    (x : (⟨2, ![16384, 1024]⟩ : Shape).Idx → EReal) (wc : (⟨2, ![512, 1024]⟩ : Shape).Idx → EReal) (wo : (⟨2, ![1024, 1024]⟩ : Shape).Idx → EReal) :
    (⟨2, ![16384, 1024]⟩ : Shape).Idx → EReal := fun j =>
  x j + ∑ e : Fin 1024, gated (ab (ix2 (j 0) e)) (pr (ix2 (j 0) (col e))) (∑ k : Fin 512, at' (ix2 (j 0) k) * wc (ix2 k e)) * wo (ix2 e (j 1))

/-- A row's entry `v` divided by the root mean square of the row `u` (1024 entries, a millionth added to the mean), times `l`. -/
def scaled (u : Fin 1024 → EReal) (v l : EReal) : EReal :=
  v * Ideal.rsqrt (Ideal.div (∑ k : Fin 1024, u k * u k) (Ideal.ofBits FTy.f32 1149239296#32) + Ideal.ofBits FTy.f32 897988541#32) * l

/-- The rows of `x` divided by their root mean square and scaled by `l`. -/
def normed (x : (⟨2, ![16384, 1024]⟩ : Shape).Idx → EReal) (l : (⟨2, ![1, 1024]⟩ : Shape).Idx → EReal) : (⟨2, ![16384, 1024]⟩ : Shape).Idx → EReal :=
  fun j => scaled (fun k => x (ix2 (j 0) k)) (x j) (l (ix2 0 (j 1)))

end Cert.Merge
end
-- ==== Proof.MergeValue.lean ====
module

public import proofs.«01_k».proof.Proof.Merge
public import proofs.«01_k».proof.Proof.Gen.Kernel3Ideal.Value
public import Idealize.ShloMosaic.Lib.Pipeline.ValueKit

/-!
# The kernel computes the merge of the branches

Point `t` of the grid works on the tile `t` of 512 rows.
-/

@[expose] public section
set_option maxRecDepth 16384
noncomputable section
namespace Cert.Kernel3Ideal.Rows
open Cert.Kernel3Ideal Cert.Kernel3Ideal.Gen Cert.Kernel3Ideal.Value
open Idealize.ShloMosaic Cert.Merge
open Idealize.ShloMosaic.TcCoe
open Idealize.SL Idealize.SL.Sem

/-- The first output's block, at an element. -/
theorem pay2_apply (a : Vec Ideal S512x512 .bf16) (wc : Vec Ideal S512x1024 .bf16) (ab g : Vec Ideal S512x1024 .bf16) (x : Vec Ideal S512x1024 .f32) (wo : Vec Ideal S1024x1024 .bf16) (r : Fin 512) (d : Fin 1024) :
    k0_pay2 a wc ab g x wo (ix2 r d)
      = x (ix2 r d) + ∑ e : Fin 1024, gated (ab (ix2 r e)) (g (ix2 r e)) (∑ k : Fin 512, a (ix2 r k) * wc (ix2 k e)) * wo (ix2 e d) := by
  pointwise [k0_pay2, gated]
  simp only [zero_sub]

/-- The second output's block, at an element. -/
theorem pay1_apply (a : Vec Ideal S512x512 .bf16) (wc : Vec Ideal S512x1024 .bf16) (ab g : Vec Ideal S512x1024 .bf16) (x : Vec Ideal S512x1024 .f32) (wo : Vec Ideal S1024x1024 .bf16) (l : Vec Ideal S1x1024 .f32) (r : Fin 512) (d : Fin 1024) :
    k0_pay1 (k0_pay3 a wc ab g x wo) (k0_pay4 l) (ix2 r d)
      = scaled (fun k => k0_pay2 a wc ab g x wo (ix2 r k)) (k0_pay2 a wc ab g x wo (ix2 r d)) (l (ix2 0 d)) := by
  pointwise [k0_pay1, k0_pay3, k0_pay4, scaled]

variable (m : (ℓ : Loc nD τ sig) → Buf (Elt Ideal) ℓ) (c : Dev nD)

/-- The row of the array a point's block holds at `r`. -/
abbrev row (t : Fin cfg0.N) (r : Fin 512) : Fin 16384 := ⟨t.val * 512 + r.val, by have h : t.val < 32 := t.isLt; have := r.isLt; omega⟩

theorem index_0 : ∀ t : Fin cfg0.N, (cfg0.win 0).index t = ![t.val, 0] := (by decide +kernel : ∀ t : Fin grid0.N, win0_0.index t = ![t.val, 0])
theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![t.val, 5] := (by decide +kernel : ∀ t : Fin grid0.N, win0_2.index t = ![t.val, 5])
theorem index_3 : ∀ t : Fin cfg0.N, (cfg0.win 3).index t = ![t.val, 0] := (by decide +kernel : ∀ t : Fin grid0.N, win0_3.index t = ![t.val, 0])
theorem index_4 : ∀ t : Fin cfg0.N, (cfg0.win 4).index t = ![0, 0] := (by decide +kernel : ∀ t : Fin grid0.N, win0_4.index t = ![0, 0])
theorem index_5 : ∀ t : Fin cfg0.N, (cfg0.win 5).index t = ![0, 0] := (by decide +kernel : ∀ t : Fin grid0.N, win0_5.index t = ![0, 0])
theorem index_6 : ∀ t : Fin cfg0.N, (cfg0.win 6).index t = ![0, 0] := (by decide +kernel : ∀ t : Fin grid0.N, win0_6.index t = ![0, 0])
theorem index_7 : ∀ t : Fin cfg0.N, (cfg0.win 7).index t = ![t.val, 0] := (by decide +kernel : ∀ t : Fin grid0.N, win0_7.index t = ![t.val, 0])
theorem index_8 : ∀ t : Fin cfg0.N, (cfg0.win 8).index t = ![t.val, 0] := (by decide +kernel : ∀ t : Fin grid0.N, win0_8.index t = ![t.val, 0])

/-! ## The blocks, at their places in the arrays -/

abbrev heads : S16384x512.Idx → EReal := m ((c : Thread nD τ).loc main_arg0)
abbrev branches : S16384x1024.Idx → EReal := m ((c : Thread nD τ).loc main_arg1)
abbrev proj : S16384x6144.Idx → EReal := m ((c : Thread nD τ).loc main_arg2)
abbrev resid : S16384x1024.Idx → EReal := m ((c : Thread nD τ).loc main_arg3)
abbrev headsW : S512x1024.Idx → EReal := m ((c : Thread nD τ).loc main_arg4)
abbrev outW : S1024x1024.Idx → EReal := m ((c : Thread nD τ).loc main_arg5)
abbrev scale : S1x1024.Idx → EReal := m ((c : Thread nD τ).loc main_arg6)

theorem blk0_apply (t : Fin cfg0.N) (r : Fin 512) (k : Fin 512) : iblk m c 0 t (ix2 r k) = heads m c (ix2 (row t r) k) := by
  show heads m c (((cfg0.win 0).blk t).view.emb (ix2 r k)) = _
  congr 1
  funext b
  apply Fin.ext
  fin_cases b
  · blk_simp; rw [index_0]; rfl
  · blk_simp; rw [index_0]; exact Nat.zero_add _
theorem blk1_apply (t : Fin cfg0.N) (r : Fin 512) (k : Fin 1024) : iblk m c 1 t (ix2 r k) = branches m c (ix2 (row t r) k) := by
  show branches m c (((cfg0.win 1).blk t).view.emb (ix2 r k)) = _
  congr 1
  funext b
  apply Fin.ext
  fin_cases b
  · blk_simp; rw [index_1]; rfl
  · blk_simp; rw [index_1]; exact Nat.zero_add _
theorem blk2_apply (t : Fin cfg0.N) (r : Fin 512) (k : Fin 1024) : iblk m c 2 t (ix2 r k) = proj m c (ix2 (row t r) (col k)) := by
  show proj m c (((cfg0.win 2).blk t).view.emb (ix2 r k)) = _
  congr 1
  funext b
  apply Fin.ext
  fin_cases b
  · blk_simp; rw [index_2]; rfl
  · blk_simp; rw [index_2]; rfl
theorem blk3_apply (t : Fin cfg0.N) (r : Fin 512) (k : Fin 1024) : iblk m c 3 t (ix2 r k) = resid m c (ix2 (row t r) k) := by
  show resid m c (((cfg0.win 3).blk t).view.emb (ix2 r k)) = _
  congr 1
  funext b
  apply Fin.ext
  fin_cases b
  · blk_simp; rw [index_3]; rfl
  · blk_simp; rw [index_3]; exact Nat.zero_add _
theorem blk4_apply (t : Fin cfg0.N) (k : Fin 512) (e : Fin 1024) : iblk m c 4 t (ix2 k e) = headsW m c (ix2 k e) := by
  show headsW m c (((cfg0.win 4).blk t).view.emb (ix2 k e)) = _
  congr 1
  funext b
  apply Fin.ext
  fin_cases b
  · blk_simp; rw [index_4]; exact Nat.zero_add _
  · blk_simp; rw [index_4]; exact Nat.zero_add _
theorem blk5_apply (t : Fin cfg0.N) (e d : Fin 1024) : iblk m c 5 t (ix2 e d) = outW m c (ix2 e d) := by
  show outW m c (((cfg0.win 5).blk t).view.emb (ix2 e d)) = _
  congr 1
  funext b
  apply Fin.ext
  fin_cases b
  · blk_simp; rw [index_5]; exact Nat.zero_add _
  · blk_simp; rw [index_5]; exact Nat.zero_add _
theorem blk6_apply (t : Fin cfg0.N) (d : Fin 1024) : iblk m c 6 t (ix2 0 d) = scale m c (ix2 0 d) := by
  show scale m c (((cfg0.win 6).blk t).view.emb (ix2 0 d)) = _
  congr 1
  funext b
  apply Fin.ext
  fin_cases b
  · blk_simp; rw [index_6]; rfl
  · blk_simp; rw [index_6]; exact Nat.zero_add _

/-! ## The outputs -/

/-- The residual with the merged branches added, of the arrays. -/
abbrev sum : S16384x1024.Idx → EReal := merged (heads m c) (branches m c) (proj m c) (resid m c) (headsW m c) (outW m c)

/-- A point's first block. -/
theorem sum_apply (t : Fin cfg0.N) (r : Fin 512) (d : Fin 1024) :
    k0_pay2 (iblk m c 0 t) (iblk m c 4 t) (iblk m c 1 t) (iblk m c 2 t) (iblk m c 3 t) (iblk m c 5 t) (ix2 r d) = sum m c (ix2 (row t r) d) := by
  refine (pay2_apply (iblk m c 0 t) (iblk m c 4 t) (iblk m c 1 t) (iblk m c 2 t) (iblk m c 3 t) (iblk m c 5 t) r d).trans ?_
  refine congrArg₂ (· + ·) (blk3_apply m c t r d) (Finset.sum_congr rfl fun e _ => ?_)
  rw [blk1_apply, blk2_apply, blk5_apply]
  refine congrArg (fun y => gated _ _ y * _) (Finset.sum_congr rfl fun k _ => ?_)
  rw [blk0_apply, blk4_apply]
  rfl

/-- A point's second block. -/
theorem norm_apply (t : Fin cfg0.N) (r : Fin 512) (d : Fin 1024) :
    k0_pay1 (k0_pay3 (iblk m c 0 t) (iblk m c 4 t) (iblk m c 1 t) (iblk m c 2 t) (iblk m c 3 t) (iblk m c 5 t)) (k0_pay4 (iblk m c 6 t)) (ix2 r d)
      = normed (sum m c) (scale m c) (ix2 (row t r) d) := by
  refine (pay1_apply (iblk m c 0 t) (iblk m c 4 t) (iblk m c 1 t) (iblk m c 2 t) (iblk m c 3 t) (iblk m c 5 t) (iblk m c 6 t) r d).trans ?_
  simp only [sum_apply]
  rw [blk6_apply]
  rfl

/-- The first output array, once the run is over. -/
theorem out7_eq : (dats m 0 c).arrAt 7 cfg0.N = sum m c := by
  refine (dats m 0 c).arrAt_eq_of_covers 7 _ ⟨?_, ?_⟩ fun t hf y => ?_
  · intro b; fin_cases b
    · exact (by decide : 0 < 512)
    · exact (by decide : 0 < 1024)
  · intro ix
    have h0 : (ix (0 : Fin 2)).val < 32 := lt_of_lt_of_eq (ix (0 : Fin 2)).isLt (show (16384 + 512 - 1) / 512 = 32 from by norm_num)
    have h1 : (ix (1 : Fin 2)).val < 1 := lt_of_lt_of_eq (ix (1 : Fin 2)).isLt (show (1024 + 1024 - 1) / 1024 = 1 from by norm_num)
    refine ⟨⟨(ix (0 : Fin 2)).val, h0⟩, flush0_7 _, fun b => ⟨?_, .inl rfl⟩⟩
    rw [index_7]
    fin_cases b
    · rfl
    · show 0 = (ix (1 : Fin 2)).val
      omega
  · blk_simp
    rw [after0_7]
    frame_out
    obtain ⟨r, d, rfl⟩ : ∃ (r : Fin 512) (d : Fin 1024), y = ix2 r d := ⟨y 0, y 1, eq_ix2 y⟩
    refine (sum_apply m c t r d).trans ?_
    congr 1
    funext b
    apply Fin.ext
    fin_cases b
    · blk_simp; rw [index_7]; rfl
    · blk_simp; rw [index_7]; exact (Nat.zero_add _).symm

/-- The second output array, once the run is over. -/
theorem out8_eq : (dats m 0 c).arrAt 8 cfg0.N = normed (sum m c) (scale m c) := by
  refine (dats m 0 c).arrAt_eq_of_covers 8 _ ⟨?_, ?_⟩ fun t hf y => ?_
  · intro b; fin_cases b
    · exact (by decide : 0 < 512)
    · exact (by decide : 0 < 1024)
  · intro ix
    have h0 : (ix (0 : Fin 2)).val < 32 := lt_of_lt_of_eq (ix (0 : Fin 2)).isLt (show (16384 + 512 - 1) / 512 = 32 from by norm_num)
    have h1 : (ix (1 : Fin 2)).val < 1 := lt_of_lt_of_eq (ix (1 : Fin 2)).isLt (show (1024 + 1024 - 1) / 1024 = 1 from by norm_num)
    refine ⟨⟨(ix (0 : Fin 2)).val, h0⟩, flush0_8 _, fun b => ⟨?_, .inl rfl⟩⟩
    rw [index_8]
    fin_cases b
    · rfl
    · show 0 = (ix (1 : Fin 2)).val
      omega
  · blk_simp
    rw [after0_8]
    frame_out
    obtain ⟨r, d, rfl⟩ : ∃ (r : Fin 512) (d : Fin 1024), y = ix2 r d := ⟨y 0, y 1, eq_ix2 y⟩
    refine (norm_apply m c t r d).trans ?_
    congr 1
    funext b
    apply Fin.ext
    fin_cases b
    · blk_simp; rw [index_8]; rfl
    · blk_simp; rw [index_8]; exact (Nat.zero_add _).symm

end Cert.Kernel3Ideal.Rows
end
-- ==== Proof.MergeRef.lean ====
module

public import proofs.«01_k».proof.Proof.Merge
public import proofs.«01_k».proof.Proof.Gen.Reference3Ideal.Run

/-!
# The reference computes the merge of the branches
-/

@[expose] public section
set_option maxRecDepth 16384
noncomputable section
namespace Cert.Reference3Ideal.Rows
open Cert.Reference3Ideal Cert.Reference3Ideal.Gen Idealize.ShloMosaic

variable (at' : FVec Ideal S16384x512 .bf16) (ab : FVec Ideal S16384x1024 .bf16) (pr : FVec Ideal S16384x6144 .bf16) (x : FVec Ideal S16384x1024 .f32)
  (wc : FVec Ideal S512x1024 .bf16) (wo : FVec Ideal S1024x1024 .bf16) (l : FVec Ideal S1x1024 .f32)

/-- The first result. -/
abbrev result0 : FVec Ideal S16384x1024 .f32 :=
  addf x (Host.dotGeneral dot_S16384x1024_S1024x1024_S16384x1024_1_0_0_1_n_n none (addf (extf .f32 ab bitsLt_bf16_f32)
    (mulf (Host.divf (broadcastInDim S16384x1024 ![] bcast_S_S16384x1024 (constant S_ .f32 0x3F800000#32)) (addf (broadcastInDim S16384x1024 ![] bcast_S_S16384x1024 (constant S_ .f32 0x3F800000#32))
        (Host.exp (Host.negf (extf .f32 (extractStridedSlice S16384x1024 ![0, 5120] pr slices_S16384x6144_S16384x1024_0_5120) bitsLt_bf16_f32)))))
      (Host.dotGeneral dot_S16384x512_S512x1024_S16384x1024_1_0_0_1_n_n none (extf .f32 at' bitsLt_bf16_f32) (extf .f32 wc bitsLt_bf16_f32)))) (extf .f32 wo bitsLt_bf16_f32))

/-- The second result, of the first and the scale. -/
abbrev result1 (y : FVec Ideal S16384x1024 .f32) : FVec Ideal S16384x1024 .bf16 :=
  truncf .bf16 (mulf (mulf y (broadcastInDim S16384x1024 ![0, 1] bcast_S16384x1_S16384x1024_0_1
      (Host.rsqrt (addf (Host.divf (broadcastInDim S16384x1 ![0] bcast_S16384_S16384x1_0 (Host.reduceAdd (mulf y y) (constant S_ .f32 0x00000000#32) reducesTo_S16384x1024_S16384_d1 h_S_))
        (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ l shapeCasts_S1x1024_S1024)))) bitsLt_bf16_f32

theorem result0_eq : result0 at' ab pr x wc wo = Merge.merged at' ab pr x wc wo := by
  funext j
  obtain ⟨R, d, rfl⟩ : ∃ (R : Fin 16384) (d : Fin 1024), j = ix2 R d := ⟨j 0, j 1, eq_ix2 j⟩
  pointwise
  rfl

theorem result1_eq (y : FVec Ideal S16384x1024 .f32) : result1 l y = Merge.normed y l := by
  funext j
  obtain ⟨R, d, rfl⟩ : ∃ (R : Fin 16384) (d : Fin 1024), j = ix2 R d := ⟨j 0, j 1, eq_ix2 j⟩
  pointwise
  rfl

end Cert.Reference3Ideal.Rows
end
-- ==== Proof.Inproj.lean ====
module

public import proofs.«01_k».proof.Proof.Merge

/-!
# The input projection

The rows are divided by their root mean square, scaled and multiplied by the weight (`proj`). Of the 6144 columns of the
product, the heads of the queries (columns 2048 to 2559) and of the keys (2816 to 2879) are again divided by their root mean
square and scaled (`headNorm`), and these, the indexer's queries (2560 to 2815) and the indexer's keys (2944 to 3007) are
turned by the position's angles (`turned`); the queries are multiplied by a constant (`result`).
-/

@[expose] public section
noncomputable section
namespace Cert.Inproj
open Idealize.ShloMosaic

/-- The angle of position `p` in plane `i` of the 32. -/
def angle (p : Fin 2048) (i : Fin 32) : EReal :=
  (((BitVec.ofNat 32 p.val).toInt : ℝ) : EReal) *
    Ideal.pow (Ideal.ofBits FTy.f32 1176256512#32) (Ideal.div (-(((BitVec.ofNat 32 i.val).toInt : ℝ) : EReal)) (Ideal.ofBits FTy.f32 1107296256#32))

/-- A lane's plane: lanes `d` and `d + 32` of a head share plane `d`. -/
def plane (d : Fin 64) : Fin 32 := ⟨d.val % 32, Nat.mod_lt _ (by decide)⟩

/-- The other lane of a lane's plane. -/
def mate (d : Fin 64) : Fin 64 := ⟨(d.val + 32) % 64, Nat.mod_lt _ (by decide)⟩

/-- A head's 64 lanes turned by the angles of position `p`. -/
def turned (u : Fin 64 → EReal) (p : Fin 2048) (d : Fin 64) : EReal :=
  if d.val < 32 then u d * Ideal.cos (angle p (plane d)) - u (mate d) * Ideal.sin (angle p (plane d))
  else u d * Ideal.cos (angle p (plane d)) + u (mate d) * Ideal.sin (angle p (plane d))

/-- A head's 64 lanes divided by their root mean square (a millionth added to the mean) and scaled by `g`. -/
def headNorm (u g : Fin 64 → EReal) (d : Fin 64) : EReal :=
  u d * Ideal.rsqrt (Ideal.div (∑ e : Fin 64, u e * u e) (Ideal.ofBits FTy.f32 1115684864#32) + Ideal.ofBits FTy.f32 897988541#32) * g d

/-- The 64 columns of head `n`. -/
def head (P : Fin 6144 → EReal) (n : Fin 96) (e : Fin 64) : EReal := P ⟨n.val * 64 + e.val, by have := n.isLt; have := e.isLt; omega⟩

/-- The head of a column. -/
def headOf (C : Fin 6144) : Fin 96 := ⟨C.val / 64, by have := C.isLt; omega⟩

/-- A column's lane in its head. -/
def laneOf (C : Fin 6144) : Fin 64 := ⟨C.val % 64, Nat.mod_lt _ (by decide)⟩

/-- A row of the result, from the row `P` of the product, the row's position and the gains of queries and keys. -/
def finished (P : Fin 6144 → EReal) (p : Fin 2048) (gq gk : Fin 64 → EReal) (C : Fin 6144) : EReal :=
  if C.val < 2048 then P C
  else if C.val < 2560 then turned (headNorm (head P (headOf C)) gq) p (laneOf C) * Ideal.ofBits FTy.f32 1043900987#32
  else if C.val < 2816 then turned (head P (headOf C)) p (laneOf C)
  else if C.val < 2880 then turned (headNorm (head P (headOf C)) gk) p (laneOf C)
  else if C.val < 2944 then P C
  else if C.val < 3008 then turned (head P (headOf C)) p (laneOf C)
  else P C

section
variable (P : Fin 6144 → EReal) (p : Fin 2048) (gq gk : Fin 64 → EReal) (C : Fin 6144)

theorem finished_mixers (h : C.val < 2048) : finished P p gq gk C = P C := by
  unfold finished
  rw [if_pos h]
theorem finished_queries (h1 : 2048 ≤ C.val) (h2 : C.val < 2560) :
    finished P p gq gk C = turned (headNorm (head P (headOf C)) gq) p (laneOf C) * Ideal.ofBits FTy.f32 1043900987#32 := by
  unfold finished
  rw [if_neg (by omega), if_pos h2]
theorem finished_indexQueries (h1 : 2560 ≤ C.val) (h2 : C.val < 2816) : finished P p gq gk C = turned (head P (headOf C)) p (laneOf C) := by
  unfold finished
  rw [if_neg (by omega), if_neg (by omega), if_pos h2]
theorem finished_keys (h1 : 2816 ≤ C.val) (h2 : C.val < 2880) : finished P p gq gk C = turned (headNorm (head P (headOf C)) gk) p (laneOf C) := by
  unfold finished
  rw [if_neg (by omega), if_neg (by omega), if_neg (by omega), if_pos h2]
theorem finished_values (h1 : 2880 ≤ C.val) (h2 : C.val < 2944) : finished P p gq gk C = P C := by
  unfold finished
  rw [if_neg (by omega), if_neg (by omega), if_neg (by omega), if_neg (by omega), if_pos h2]
theorem finished_indexKeys (h1 : 2944 ≤ C.val) (h2 : C.val < 3008) : finished P p gq gk C = turned (head P (headOf C)) p (laneOf C) := by
  unfold finished
  rw [if_neg (by omega), if_neg (by omega), if_neg (by omega), if_neg (by omega), if_neg (by omega), if_pos h2]
theorem finished_rest (h : 3008 ≤ C.val) : finished P p gq gk C = P C := by
  unfold finished
  rw [if_neg (by omega), if_neg (by omega), if_neg (by omega), if_neg (by omega), if_neg (by omega), if_neg (by omega)]

end

variable (x : (⟨2, ![16384, 1024]⟩ : Shape).Idx → EReal) (l : (⟨2, ![2, 1024]⟩ : Shape).Idx → EReal) (w : (⟨3, ![2, 1024, 6144]⟩ : Shape).Idx → EReal)
  (gq gk : (⟨2, ![2, 64]⟩ : Shape).Idx → EReal)

/-- A row of the input, divided by its root mean square and scaled by the first layer's gain. -/
def scaledRow (R : Fin 16384) (k : Fin 1024) : EReal := Merge.scaled (fun k => x (ix2 R k)) (x (ix2 R k)) (l (ix2 0 k))

/-- A row of the product with the first layer's weight. -/
def proj (R : Fin 16384) (C : Fin 6144) : EReal := ∑ k : Fin 1024, scaledRow x l R k * w (ix3 0 k C)

/-- A row's position in its sequence. -/
def pos (R : Fin 16384) : Fin 2048 := ⟨R.val % 2048, Nat.mod_lt _ (by decide)⟩

/-- The result. -/
def result : (⟨2, ![16384, 6144]⟩ : Shape).Idx → EReal := fun j =>
  finished (proj x l w (j 0)) (pos (j 0)) (fun d => gq (ix2 0 d)) (fun d => gk (ix2 0 d)) (j 1)

/-! ## The values are numbers -/

theorem bits_1024 : Ideal.ofBits FTy.f32 1149239296#32 = ((1024 : ℝ) : EReal) := by
  simp [Ideal.ofBits, Ideal.ieee, -EReal.coe_mul]; norm_num
theorem bits_64 : Ideal.ofBits FTy.f32 1115684864#32 = ((64 : ℝ) : EReal) := by
  simp [Ideal.ofBits, Ideal.ieee, -EReal.coe_mul]; norm_num
theorem bits_64th : Ideal.ofBits FTy.f32 1015021568#32 = ((64⁻¹ : ℝ) : EReal) := by
  simp [Ideal.ofBits, Ideal.ieee, -EReal.coe_mul]; norm_num
theorem bits_eps : ∃ e : ℝ, 0 < e ∧ Ideal.ofBits FTy.f32 897988541#32 = (e : EReal) := by
  refine ⟨_, ?_, by simp [Ideal.ofBits, Ideal.ieee]; rfl⟩
  norm_num

/-- A 64th of a value is the value divided by 64. -/
theorem mul_64th (s : EReal) : s * Ideal.ofBits FTy.f32 1015021568#32 = Ideal.div s (Ideal.ofBits FTy.f32 1115684864#32) := by
  rw [bits_64, bits_64th]
  unfold Ideal.div
  rw [if_neg (by norm_num), EReal.coe_inv]

/-- The scaled row is a number if the gain is: an infinite row is scaled by zero. -/
theorem scaled_real (u : Fin 1024 → EReal) (i : Fin 1024) (l : EReal) (hl : ∃ r : ℝ, l = r) : ∃ r : ℝ, Merge.scaled u (u i) l = r := by
  obtain ⟨l, rfl⟩ := hl
  obtain ⟨e, he, h⟩ := bits_eps
  unfold Merge.scaled
  rw [bits_1024, h]
  have hsq : ∀ k, 0 ≤ u k * u k := fun k => by
    induction u k with
    | bot => simp
    | top => simp
    | coe r => exact_mod_cast mul_self_nonneg r
  have h0 : 0 ≤ ∑ k : Fin 1024, u k * u k := Finset.sum_nonneg fun k _ => hsq k
  by_cases ht : ∑ k : Fin 1024, u k * u k = ⊤
  · refine ⟨0, ?_⟩
    rw [ht]
    have : Ideal.div ⊤ ((1024 : ℝ) : EReal) = ⊤ := by
      unfold Ideal.div
      rw [if_neg (by norm_num), ← EReal.coe_inv]
      exact EReal.top_mul_coe_of_pos (by norm_num)
    rw [this, EReal.top_add_coe]
    have : Ideal.rsqrt ⊤ = 0 := rfl
    rw [this, mul_zero, zero_mul, EReal.coe_zero]
  · have hi : u i * u i ≠ ⊤ := fun h => ht (top_le_iff.mp (h ▸ Finset.single_le_sum (fun k _ => hsq k) (Finset.mem_univ i)))
    obtain ⟨S, hS⟩ : ∃ S : ℝ, ∑ k : Fin 1024, u k * u k = S := ⟨_, (EReal.coe_toReal ht (ne_of_gt (lt_of_lt_of_le EReal.bot_lt_zero h0))).symm⟩
    obtain ⟨v, hv⟩ : ∃ v : ℝ, u i = v := by
      revert hi
      induction u i with
      | bot => simp
      | top => simp
      | coe r => exact fun _ => ⟨r, rfl⟩
    rw [hS] at h0 ⊢
    have hS0 : (0 : ℝ) ≤ S := by exact_mod_cast h0
    rw [hv]
    have hd : Ideal.div (S : EReal) ((1024 : ℝ) : EReal) + (e : EReal) = ((S * 1024⁻¹ + e : ℝ) : EReal) := by
      unfold Ideal.div
      rw [if_neg (by norm_num), ← EReal.coe_inv, ← EReal.coe_mul, ← EReal.coe_add]
    have hp : 0 < S * 1024⁻¹ + e := by positivity
    refine ⟨v * (Real.sqrt (S * 1024⁻¹ + e))⁻¹ * l, ?_⟩
    rw [hd]
    show _ * (if _ then _ else if _ then _ else _) * _ = _
    rw [if_neg (not_lt.mpr hp.le), if_neg hp.ne']
    push_cast
    rfl

/-- A sum of numbers, as an extended real. -/
theorem sum_real {n : Nat} (f : Fin n → ℝ) : ((∑ i, f i : ℝ) : EReal) = ∑ i, (f i : EReal) := by
  induction n with
  | zero => simp
  | succ n ih => rw [Fin.sum_univ_succ, Fin.sum_univ_succ, EReal.coe_add, ih]

/-- The product is a number if the gain and the weight are. -/
theorem proj_real (hl : ∀ k, ∃ r : ℝ, l (ix2 0 k) = r) (hw : ∀ k C, ∃ r : ℝ, w (ix3 0 k C) = r) (R : Fin 16384) (C : Fin 6144) : ∃ r : ℝ, proj x l w R C = r := by
  choose a ha using fun k => scaled_real (fun k => x (ix2 R k)) k (l (ix2 0 k)) (hl _)
  choose b hb using hw
  refine ⟨∑ k, a k * b k C, ?_⟩
  unfold proj scaledRow
  simp only [ha, hb, sum_real, EReal.coe_mul]

/-- A number's square less itself is zero. -/
theorem sq_sub_sq (u : EReal) (h : ∃ r : ℝ, u = r) : u * u - u * u = 0 := by
  obtain ⟨r, rfl⟩ := h
  rw [← EReal.coe_mul, ← EReal.coe_sub, sub_self, EReal.coe_zero]

end Cert.Inproj
end
-- ==== Proof.InprojLanes.lean ====
module

public import proofs.«01_k».proof.Proof.Inproj
public import proofs.«01_k».proof.Proof.Gen.Kernel4Ideal.Value
public import Idealize.ShloMosaic.Lib.Pipeline.ValueKit

/-!
# Two heads side by side

The kernel finishes 128 lanes at a time, two heads of 64. A head's sum of squares is a product with a table of ones and
zeros (`normLanes`); the other lane of a plane is a rotation of the lanes by 32, one way or the other (`turnLanes`).
-/

@[expose] public section
set_option maxRecDepth 16384
noncomputable section
namespace Cert.Kernel4Ideal.Rows
open Cert.Kernel4Ideal Cert.Kernel4Ideal.Gen
open Idealize.ShloMosaic

/-- Lane `d` of the head that lane `j` is in. -/
def beside (j : Fin 128) (d : Fin 64) : Fin 128 := ⟨j.val / 64 * 64 + d.val, by have := j.isLt; have := d.isLt; omega⟩

/-- A lane's place in its head. -/
def lane (j : Fin 128) : Fin 64 := ⟨j.val % 64, Nat.mod_lt _ (by decide)⟩

theorem beside_lane (j : Fin 128) : beside j (lane j) = j := Fin.ext (by show j.val / 64 * 64 + j.val % 64 = j.val; omega)

/-- The lanes' places in their heads, as the kernel computes them: a signed remainder, made positive. -/
abbrev places : IVec S512x128 32 :=
  remsi (iota .tc S512x128 32 [1] iota_S512x128_d1_w32) (broadcast S512x128 (Scalar.select (Scalar.cmpi .eq 64#32 0#32) 1#32 64#32))

/-- Whether a lane is in the first half of its head. -/
abbrev firstHalf : IVec S512x128 1 :=
  cmpi .slt (select (andi (xori (cmpi .slt places (broadcast S512x128 0#32))
        (broadcastTo S512x128 (broadcast S512x128 (Scalar.cmpi .slt (Scalar.select (Scalar.cmpi .eq 64#32 0#32) 1#32 64#32) 0#32)) broadcasts_S512x128_S512x128))
      (cmpi .ne places (broadcast S512x128 0#32)))
    (addi places (broadcast S512x128 (Scalar.select (Scalar.cmpi .eq 64#32 0#32) 1#32 64#32))) places) (broadcast S512x128 32#32)

/-- The lanes `y` times the cosines `c`, and the lanes' mates times the signed sines `s`. -/
abbrev turnLanes (y c s : FVec Ideal S512x128 .f32) : FVec Ideal S512x128 .f32 :=
  addf (mulf y c) (mulf (select firstHalf (dynamicRotate 1 96#32 none y rotates_S512x128_d1) (dynamicRotate 1 32#32 none y rotates_S512x128_d1)) s)

/-- The squares' sums by heads: the squares, and what rounding left of them, times the table `t`. -/
abbrev sumLanes (q : FVec Ideal S512x128 .f32) (t : FVec Ideal S128x128 .bf16) : FVec Ideal S512x128 .f32 :=
  addf (matmul dot_S512x128_S128x128_S512x128_1_0_0_1_n_n none (truncf .bf16 q bitsLt_bf16_f32) t (constant S512x128 .f32 0x00000000#32))
    (matmul dot_S512x128_S128x128_S512x128_1_0_0_1_n_n none (truncf .bf16 (subf q (extf .f32 (truncf .bf16 q bitsLt_bf16_f32) bitsLt_bf16_f32)) bitsLt_bf16_f32) t (constant S512x128 .f32 0x00000000#32))

/-- The lanes divided by the root mean squares of their heads and scaled by `g`. -/
abbrev normLanes (y : FVec Ideal S512x128 .f32) (t : FVec Ideal S128x128 .bf16) (g : Vec Ideal S1x128 .f32) : FVec Ideal S512x128 .f32 :=
  mulf (mulf y (rsqrt (addf (mulf (sumLanes (mulf y y) t) (broadcast S512x128 (Scalar.ofBits .f32 0x3C800000#32 : Ideal .f32))) (broadcast S512x128 (Scalar.ofBits .f32 0x358637BD#32 : Ideal .f32)))))
    (broadcastTo S512x128 (shapeCast S1x128 g shapeCasts_S1x128_S1x128) broadcasts_S1x128_S512x128)

theorem firstHalf_word : ∀ j : Fin 128,
    (let v := IntOp.remsi .vector (BitVec.ofNat 32 j.val) 64#32
     IntOp.cmpi .slt (Scalar.select (IntOp.andi (IntOp.xori (IntOp.cmpi .slt v 0#32) (IntOp.cmpi .slt 64#32 0#32)) (IntOp.cmpi .ne v 0#32)) (IntOp.addi v 64#32) v) 32#32)
      = BitVec.ofBool (decide (j.val % 64 < 32)) := by
  decide +kernel

theorem firstHalf_apply (r : Fin 512) (j : Fin 128) : firstHalf (ix2 r j) = BitVec.ofBool (decide (j.val % 64 < 32)) := by
  refine Eq.trans ?_ (firstHalf_word j)
  pointwise
  rfl

theorem turnLanes_apply (y c s : FVec Ideal S512x128 .f32) (r : Fin 512) (j : Fin 128) :
    turnLanes y c s (ix2 r j) = y (ix2 r j) * c (ix2 r j) + y (ix2 r (beside j (Inproj.mate (lane j)))) * s (ix2 r j) := by
  have e : (select firstHalf (dynamicRotate 1 96#32 none y rotates_S512x128_d1) (dynamicRotate 1 32#32 none y rotates_S512x128_d1)) (ix2 r j)
      = y (ix2 r (beside j (Inproj.mate (lane j)))) := by
    show Scalar.select (firstHalf (ix2 r j)) _ _ = _
    rw [firstHalf_apply]
    pointwise
    split
    all_goals
      refine congrArg y (congrArg (ix2 r) (Fin.ext ?_))
      show _ = j.val / 64 * 64 + (j.val % 64 + 32) % 64
      have := j.isLt
      simp only
      omega
  show y (ix2 r j) * c (ix2 r j) + _ * s (ix2 r j) = _
  rw [e]

/-- The sum over the lanes that the table picks is the sum over a head. -/
theorem sum_picked (q : Fin 128 → EReal) (j : Fin 128) :
    ∑ i : Fin 128, q i * (if i.val / 64 = j.val / 64 then 1 else 0) = ∑ d : Fin 64, q (beside j d) := by
  symm
  refine Finset.sum_of_injOn (beside j) (fun d _ e _ h => Fin.ext ?_) (fun _ _ => Finset.mem_coe.mpr (Finset.mem_univ _)) (fun i _ hi => ?_) fun d _ => ?_
  · have h := congrArg Fin.val h
    simp only [beside] at h
    omega
  · rw [if_neg, mul_zero]
    intro h
    refine hi ⟨lane i, Finset.mem_coe.mpr (Finset.mem_univ _), Fin.ext ?_⟩
    simp only [beside, lane]
    omega
  · rw [if_pos, mul_one]
    have := d.isLt
    simp only [beside]
    omega

theorem normLanes_apply (y : FVec Ideal S512x128 .f32) (t : FVec Ideal S128x128 .bf16) (g : Vec Ideal S1x128 .f32) (r : Fin 512) (j : Fin 128)
    (ht : ∀ i j : Fin 128, t (ix2 i j) = if i.val / 64 = j.val / 64 then 1 else 0) (hy : ∀ i, ∃ v : ℝ, y (ix2 r i) = v) :
    normLanes y t g (ix2 r j) = Inproj.headNorm (fun d => y (ix2 r (beside j d))) (fun d => g (ix2 0 (beside j d))) (lane j) := by
  have e : sumLanes (mulf y y) t (ix2 r j) = ∑ d : Fin 64, y (ix2 r (beside j d)) * y (ix2 r (beside j d)) := by
    pointwise
    simp only [ht]
    rw [sum_picked (fun i => y (ix2 r i) * y (ix2 r i)), Finset.sum_eq_zero (s := Finset.univ) (f := fun i : Fin 128 => (y (ix2 r i) * y (ix2 r i) - y (ix2 r i) * y (ix2 r i)) * _), add_zero]
    intro i _
    rw [Inproj.sq_sub_sq _ (hy i), zero_mul]
  have hg : broadcastTo S512x128 (shapeCast S1x128 g shapeCasts_S1x128_S1x128) broadcasts_S1x128_S512x128 (ix2 r j) = g (ix2 0 j) := by
    pointwise
  show y (ix2 r j) * Ideal.rsqrt (sumLanes (mulf y y) t (ix2 r j) * Ideal.ofBits FTy.f32 1015021568#32 + Ideal.ofBits FTy.f32 897988541#32) * _ = _
  rw [e, hg, Inproj.mul_64th]
  unfold Inproj.headNorm
  simp only [beside_lane]

end Cert.Kernel4Ideal.Rows
end
-- ==== Proof.InprojTables.lean ====
module

public import proofs.«01_k».proof.Proof.InprojLanes
public import Idealize.ShloMosaic.Lib.StableHlo.RunRead

/-!
# The tables that the call's host code prepares

The cosines and signed sines of the angles, by position and lane, once for two heads that are both turned and once for a
head that is turned beside one that is not; the table of ones and zeros that sums a head's squares; the gains, twice side
by side.
-/

@[expose] public section
set_option maxRecDepth 16384
noncomputable section
namespace Cert.Kernel4Ideal.Rows
open Cert.Kernel4Ideal Cert.Kernel4Ideal.Gen
open Idealize.ShloMosaic
open Idealize.ShloMosaic.TcCoe
open Idealize.SL Idealize.SL.Sem

/-- The cosine of a lane's angle. -/
def cosAt (p : Fin 2048) (d : Fin 64) : EReal := Ideal.cos (Inproj.angle p (Inproj.plane d))

/-- The sine of a lane's angle, negative in the first half. -/
def sinAt (p : Fin 2048) (d : Fin 64) : EReal :=
  if d.val < 32 then -Ideal.sin (Inproj.angle p (Inproj.plane d)) else Ideal.sin (Inproj.angle p (Inproj.plane d))

/-- The tables' columns: the first 128 hold the cosines, the last 128 the signed sines. -/
def lo (j : Fin 128) : Fin 256 := ⟨j.val, by have := j.isLt; omega⟩
def hi (j : Fin 128) : Fin 256 := ⟨128 + j.val, by have := j.isLt; omega⟩

variable (m : (ℓ : Loc nD τ sig) → Buf (Elt Ideal) ℓ) (c : Dev nD)

/-- The host code. -/
abbrev line : List (HloOp τ sig (Elt Ideal)) := hostOps0 ++ (hostOps0_1 ++ (hostOps0_2 ++ (hostOps0_3 ++ (hostOps0_4 ++ []))))

theorem gain_at (k : Fin 1024) : (V m c main_v41 : S1x1024.Idx → EReal) (ix2 0 k) = (m ((c : Thread nD τ).loc main_arg1) : S2x1024.Idx → EReal) (ix2 0 k) := by
  show (StableHlo.after line (fun b => m (c, b)) (Proc.devRef .tc main_v41) : S1x1024.Idx → EReal) (ix2 0 k) = _
  after_reads_simp
  pointwise

theorem qGain_at (k : Fin 128) : (V m c main_v32 : S1x128.Idx → EReal) (ix2 0 k) = (m ((c : Thread nD τ).loc main_arg3) : S2x64.Idx → EReal) (ix2 0 (lane k)) := by
  show (StableHlo.after line (fun b => m (c, b)) (Proc.devRef .tc main_v32) : S1x128.Idx → EReal) (ix2 0 k) = _
  after_reads_simp
  pointwise
  rfl

theorem kGain_at (k : Fin 128) : (V m c main_v38 : S1x128.Idx → EReal) (ix2 0 k) = (m ((c : Thread nD τ).loc main_arg4) : S2x64.Idx → EReal) (ix2 0 (lane k)) := by
  show (StableHlo.after line (fun b => m (c, b)) (Proc.devRef .tc main_v38) : S1x128.Idx → EReal) (ix2 0 k) = _
  after_reads_simp
  pointwise
  rfl

/-- The angle in plane `n`, as the host code computes it. -/
abbrev angleAt (p : Fin 2048) (n : Nat) : EReal :=
  FloatOps.sitofp (F := Ideal) FTy.f32 (BitVec.ofNat 32 p.val) *
    Ideal.pow (Ideal.ofBits FTy.f32 1176256512#32) (Ideal.div (-FloatOps.sitofp (F := Ideal) FTy.f32 (BitVec.ofNat 32 n)) (Ideal.ofBits FTy.f32 1107296256#32))

theorem cos_angleAt (p : Fin 2048) (j : Fin 128) (n : Nat) (h : n = j.val % 64 % 32) : Ideal.cos (angleAt p n) = cosAt p (lane j) := by
  subst h
  rfl

theorem sin_angleAt (p : Fin 2048) (j : Fin 128) (n : Nat) (h : n = j.val % 64 % 32) (hj : ¬j.val % 64 < 32) : Ideal.sin (angleAt p n) = sinAt p (lane j) := by
  subst h
  exact (if_neg hj).symm

theorem neg_sin_angleAt (p : Fin 2048) (j : Fin 128) (n : Nat) (h : n = j.val % 64 % 32) (hj : j.val % 64 < 32) : -Ideal.sin (angleAt p n) = sinAt p (lane j) := by
  subst h
  exact (if_pos hj).symm

theorem cosA_at (p : Fin 2048) (j : Fin 128) : (V m c main_v19 : S2048x256.Idx → EReal) (ix2 p (lo j)) = cosAt p (lane j) := by
  show (StableHlo.after line (fun b => m (c, b)) (Proc.devRef .tc main_v19) : S2048x256.Idx → EReal) (ix2 p (lo j)) = _
  after_reads_simp
  pointwise [lo]
  after_reads_simp
  pointwise
  have := j.isLt
  split_ifs <;> first | exact cos_angleAt p j _ (by omega) | (exfalso; omega)

theorem sinA_at (p : Fin 2048) (j : Fin 128) : (V m c main_v19 : S2048x256.Idx → EReal) (ix2 p (hi j)) = sinAt p (lane j) := by
  show (StableHlo.after line (fun b => m (c, b)) (Proc.devRef .tc main_v19) : S2048x256.Idx → EReal) (ix2 p (hi j)) = _
  after_reads_simp
  pointwise [hi]
  after_reads_simp
  pointwise
  have := j.isLt
  split_ifs <;> first | exact sin_angleAt p j _ (by omega) (by omega) | exact neg_sin_angleAt p j _ (by omega) (by omega) | (exfalso; omega)

theorem cosB_at (p : Fin 2048) (j : Fin 128) : (V m c main_v20 : S2048x256.Idx → EReal) (ix2 p (lo j)) = if j.val < 64 then cosAt p (lane j) else (1 : EReal) := by
  show (StableHlo.after line (fun b => m (c, b)) (Proc.devRef .tc main_v20) : S2048x256.Idx → EReal) (ix2 p (lo j)) = _
  after_reads_simp
  pointwise [lo]
  after_reads_simp
  pointwise
  have := j.isLt
  split_ifs <;> first | rfl | exact cos_angleAt p j _ (by omega) | (exfalso; omega)

theorem sinB_at (p : Fin 2048) (j : Fin 128) : (V m c main_v20 : S2048x256.Idx → EReal) (ix2 p (hi j)) = if j.val < 64 then sinAt p (lane j) else (0 : EReal) := by
  show (StableHlo.after line (fun b => m (c, b)) (Proc.devRef .tc main_v20) : S2048x256.Idx → EReal) (ix2 p (hi j)) = _
  after_reads_simp
  pointwise [hi]
  after_reads_simp
  pointwise
  have := j.isLt
  split_ifs <;> first | rfl | exact sin_angleAt p j _ (by omega) (by omega) | exact neg_sin_angleAt p j _ (by omega) (by omega) | (exfalso; omega)

/-- The sign of a word. -/
abbrev wordSign (x : BitVec 32) : BitVec 32 := if x = 0 then 0 else if x.msb then -1 else 1

/-- The word 64, and the quotient by 64, rounded down, of a signed word. -/
abbrev sixtyFour : IVec S128x128 32 := broadcastInDim S128x128 ![] bcast_S_S128x128 (constantI S_ 32 64#32)
abbrev byHead (x : IVec S128x128 32) : IVec S128x128 32 :=
  select (andi (cmpi .ne (signi x) (broadcastInDim S128x128 ![] bcast_S_S128x128 (signi (constantI S_ 32 64#32)))) (cmpi .ne (Host.remsi x sixtyFour) (broadcastInDim S128x128 ![] bcast_S_S128x128 (constantI S_ 32 0#32))))
    (subi (Host.divsi x sixtyFour) (broadcastInDim S128x128 ![] bcast_S_S128x128 (constantI S_ 32 1#32))) (Host.divsi x sixtyFour)

theorem picks_word : ∀ i : Fin 128,
    (let x := BitVec.ofNat 32 i.val
     let q := IntOp.divsi .host x 64#32
     Scalar.select (IntOp.andi (IntOp.cmpi .ne (wordSign x) (wordSign 64#32)) (IntOp.cmpi .ne (IntOp.remsi .host x 64#32) 0#32)) (IntOp.subi q 1#32) q)
      = BitVec.ofNat 32 (i.val / 64) := by
  decide +kernel

theorem byHead_row (i j : Fin 128) : byHead (iotaInDim S128x128 32 0) (ix2 i j) = BitVec.ofNat 32 (i.val / 64) := by
  refine Eq.trans ?_ (picks_word i)
  rfl

theorem byHead_column (i j : Fin 128) : byHead (iotaInDim S128x128 32 1) (ix2 i j) = BitVec.ofNat 32 (j.val / 64) := by
  refine Eq.trans ?_ (picks_word j)
  rfl

theorem picks_eq : ∀ a b : Fin 2, IntOp.cmpi .eq (BitVec.ofNat 32 a.val) (BitVec.ofNat 32 b.val) = BitVec.ofBool (decide (a.val = b.val)) := by
  decide +kernel

theorem picks_at (i j : Fin 128) : (V m c main_v26 : S128x128.Idx → EReal) (ix2 i j) = if i.val / 64 = j.val / 64 then (1 : EReal) else 0 := by
  have e : (V m c main_v26 : S128x128.Idx → EReal) = (uitofp .bf16 (cmpi .eq (byHead (iotaInDim S128x128 32 0)) (byHead (iotaInDim S128x128 32 1))) : FVec Ideal S128x128 .bf16) := by
    show (StableHlo.after line (fun b => m (c, b)) (Proc.devRef .tc main_v26) : S128x128.Idx → EReal) = _
    after_reads_simp
    rfl
  rw [e]
  show (((IntOp.cmpi .eq (byHead (iotaInDim S128x128 32 0) (ix2 i j)) (byHead (iotaInDim S128x128 32 1) (ix2 i j))).toNat : ℝ) : EReal) = _
  rw [byHead_row, byHead_column, picks_eq ⟨i.val / 64, by have := i.isLt; omega⟩ ⟨j.val / 64, by have := j.isLt; omega⟩]
  by_cases h : i.val / 64 = j.val / 64
  · simp [h]
  · simp [h]

end Cert.Kernel4Ideal.Rows
end
-- ==== Proof.InprojBlocks.lean ====
module

public import proofs.«01_k».proof.Proof.InprojTables

/-!
# The blocks of 128 lanes

What a block of 128 columns holds, if its rows are a row `P` of the product: the queries (`queries_apply`), the indexer's
queries (`indexQueries_apply`), the keys beside the values (`keys_apply`) and the indexer's keys beside the rest
(`indexKeys_apply`). The second half of the last two is turned by no angle.
-/

@[expose] public section
set_option maxRecDepth 16384
noncomputable section
namespace Cert.Kernel4Ideal.Rows
open Cert.Kernel4Ideal Cert.Kernel4Ideal.Gen
open Idealize.ShloMosaic

/-- The column of lane `j` in the block of lanes from column `o`. -/
def colAt (o : Nat) (ho : o + 128 ≤ 6144) (j : Fin 128) : Fin 6144 := ⟨o + j.val, by have := j.isLt; omega⟩

theorem head_colAt (P : Fin 6144 → EReal) (o : Nat) (ho : o + 128 ≤ 6144) (h64 : o % 64 = 0) (j : Fin 128) (d : Fin 64) :
    P (colAt o ho (beside j d)) = Inproj.head P (Inproj.headOf (colAt o ho j)) d := by
  refine congrArg P (Fin.ext ?_)
  show o + (j.val / 64 * 64 + d.val) = (o + j.val) / 64 * 64 + d.val
  omega

theorem lane_colAt (o : Nat) (ho : o + 128 ≤ 6144) (h64 : o % 64 = 0) (j : Fin 128) : Inproj.laneOf (colAt o ho j) = lane j := by
  refine Fin.ext ?_
  show (o + j.val) % 64 = j.val % 64
  omega

theorem beside_beside (j : Fin 128) (e d : Fin 64) : beside (beside j e) d = beside j d := by
  refine Fin.ext ?_
  show (j.val / 64 * 64 + e.val) / 64 * 64 + d.val = j.val / 64 * 64 + d.val
  have := e.isLt
  omega

theorem lane_beside (j : Fin 128) (e : Fin 64) : lane (beside j e) = e := by
  refine Fin.ext ?_
  show (j.val / 64 * 64 + e.val) % 64 = e.val
  have := e.isLt
  omega

/-- The lanes and their mates make the lanes turned. -/
theorem turnLanes_turned (y c s : FVec Ideal S512x128 .f32) (r : Fin 512) (j : Fin 128) (p : Fin 2048) (u : Fin 64 → EReal)
    (hy : ∀ e, y (ix2 r (beside j e)) = u e) (hc : c (ix2 r j) = cosAt p (lane j)) (hs : s (ix2 r j) = sinAt p (lane j)) :
    turnLanes y c s (ix2 r j) = Inproj.turned u p (lane j) := by
  have e := hy (lane j)
  rw [beside_lane] at e
  rw [turnLanes_apply, hy, hc, hs, e]
  unfold Inproj.turned cosAt sinAt
  split
  · rw [mul_neg, sub_eq_add_neg]
  · rfl

/-- Lanes of which a half is turned by no angle. -/
theorem turnLanes_same (y c s : FVec Ideal S512x128 .f32) (r : Fin 512) (j : Fin 128) (hc : c (ix2 r j) = 1) (hs : s (ix2 r j) = 0) :
    turnLanes y c s (ix2 r j) = y (ix2 r j) := by
  rw [turnLanes_apply, hc, hs, mul_one, mul_zero, add_zero]

variable (P : Fin 6144 → EReal) (p : Fin 2048) (gq gk : Fin 64 → EReal) (y c s : FVec Ideal S512x128 .f32) (t : FVec Ideal S128x128 .bf16) (g : Vec Ideal S1x128 .f32)
  (o : Nat) (ho : o + 128 ≤ 6144) (h64 : o % 64 = 0) (r : Fin 512) (j : Fin 128)
  (hy : ∀ i, y (ix2 r i) = P (colAt o ho i))

include hy h64 in
/-- The lanes of a head, normalised. -/
theorem normLanes_head (hP : ∀ C, ∃ v : ℝ, P C = v) (ht : ∀ i j : Fin 128, t (ix2 i j) = if i.val / 64 = j.val / 64 then 1 else 0) (hg : ∀ i, g (ix2 0 i) = gq (lane i)) (e : Fin 64) :
    normLanes y t g (ix2 r (beside j e)) = Inproj.headNorm (Inproj.head P (Inproj.headOf (colAt o ho j))) gq e := by
  rw [normLanes_apply y t g r _ ht fun i => by rw [hy]; exact hP _]
  simp only [hy, hg, beside_beside, lane_beside, head_colAt P o ho h64]

include hy h64 in
theorem queries_apply (hP : ∀ C, ∃ v : ℝ, P C = v) (ht : ∀ i j : Fin 128, t (ix2 i j) = if i.val / 64 = j.val / 64 then 1 else 0) (hg : ∀ i, g (ix2 0 i) = gq (lane i))
    (hc : c (ix2 r j) = cosAt p (lane j)) (hs : s (ix2 r j) = sinAt p (lane j)) (h1 : 2048 ≤ o) (h2 : o + 128 ≤ 2560) :
    (truncf .bf16 (mulf (turnLanes (normLanes y t g) c s) (broadcast S512x128 (Scalar.ofBits .f32 0x3E38AA3B#32 : Ideal .f32))) bitsLt_bf16_f32 : FVec Ideal S512x128 .bf16) (ix2 r j)
      = Inproj.finished P p gq gk (colAt o ho j) := by
  show turnLanes (normLanes y t g) c s (ix2 r j) * Ideal.ofBits FTy.f32 1043900987#32 = _
  rw [turnLanes_turned _ c s r j p _ (normLanes_head P gq y t g o ho h64 r j hy hP ht hg) hc hs]
  have := j.isLt
  rw [Inproj.finished_queries P p gq gk (colAt o ho j) (show 2048 ≤ o + j.val by omega) (show o + j.val < 2560 by omega), lane_colAt o ho h64]

include hy h64 in
theorem indexQueries_apply (hc : c (ix2 r j) = cosAt p (lane j)) (hs : s (ix2 r j) = sinAt p (lane j)) (h1 : 2560 ≤ o) (h2 : o + 128 ≤ 2816) :
    (truncf .bf16 (turnLanes y c s) bitsLt_bf16_f32 : FVec Ideal S512x128 .bf16) (ix2 r j) = Inproj.finished P p gq gk (colAt o ho j) := by
  refine (turnLanes_turned y c s r j p (Inproj.head P (Inproj.headOf (colAt o ho j))) (fun e => ?_) hc hs).trans ?_
  · rw [hy, head_colAt P o ho h64]
  have := j.isLt
  rw [Inproj.finished_indexQueries P p gq gk (colAt o ho j) (show 2560 ≤ o + j.val by omega) (show o + j.val < 2816 by omega), lane_colAt o ho h64]

include hy in
theorem indexKeys_apply (hc : c (ix2 r j) = if j.val < 64 then cosAt p (lane j) else 1) (hs : s (ix2 r j) = if j.val < 64 then sinAt p (lane j) else 0) (h : o = 2944) :
    (truncf .bf16 (turnLanes y c s) bitsLt_bf16_f32 : FVec Ideal S512x128 .bf16) (ix2 r j) = Inproj.finished P p gq gk (colAt o ho j) := by
  subst h
  have := j.isLt
  by_cases hj : j.val < 64
  · rw [if_pos hj] at hc hs
    rw [Inproj.finished_indexKeys P p gq gk (colAt 2944 ho j) (show 2944 ≤ 2944 + j.val by omega) (show 2944 + j.val < 3008 by omega), lane_colAt 2944 ho (by decide)]
    refine turnLanes_turned y c s r j p _ (fun e => ?_) hc hs
    rw [hy, head_colAt P 2944 ho (by decide)]
  · rw [if_neg hj] at hc hs
    rw [Inproj.finished_rest P p gq gk (colAt 2944 ho j) (show 3008 ≤ 2944 + j.val by omega)]
    exact (turnLanes_same y c s r j hc hs).trans (hy j)

theorem key_word : ∀ j : Fin 128, IntOp.cmpi .slt (BitVec.ofNat 32 j.val) 64#32 = BitVec.ofBool (decide (j.val < 64)) := by decide +kernel

/-- The first 64 lanes normalised, the others as they are. -/
abbrev keyLanes : FVec Ideal S512x128 .f32 := select (cmpi .slt (iota .tc S512x128 32 [1] iota_S512x128_d1_w32) (broadcast S512x128 64#32)) (normLanes y t g) y

theorem keyLanes_apply : keyLanes y t g (ix2 r j) = if j.val < 64 then normLanes y t g (ix2 r j) else y (ix2 r j) := by
  have e : (cmpi .slt (iota .tc S512x128 32 [1] iota_S512x128_d1_w32) (broadcast S512x128 64#32) : IVec S512x128 1) (ix2 r j) = BitVec.ofBool (decide (j.val < 64)) := by
    refine Eq.trans ?_ (key_word j)
    pointwise
  show Scalar.select ((cmpi .slt (iota .tc S512x128 32 [1] iota_S512x128_d1_w32) (broadcast S512x128 64#32) : IVec S512x128 1) (ix2 r j)) _ _ = _
  rw [e]
  by_cases hj : j.val < 64
  · rw [if_pos hj, decide_eq_true hj]; rfl
  · rw [if_neg hj, decide_eq_false hj]; rfl

include hy in
theorem keys_apply (hP : ∀ C, ∃ v : ℝ, P C = v) (ht : ∀ i j : Fin 128, t (ix2 i j) = if i.val / 64 = j.val / 64 then 1 else 0) (hg : ∀ i, g (ix2 0 i) = gk (lane i))
    (hc : c (ix2 r j) = if j.val < 64 then cosAt p (lane j) else 1) (hs : s (ix2 r j) = if j.val < 64 then sinAt p (lane j) else 0) (h : o = 2816) :
    (truncf .bf16 (turnLanes (keyLanes y t g) c s) bitsLt_bf16_f32 : FVec Ideal S512x128 .bf16) (ix2 r j) = Inproj.finished P p gq gk (colAt o ho j) := by
  subst h
  have := j.isLt
  by_cases hj : j.val < 64
  · rw [if_pos hj] at hc hs
    rw [Inproj.finished_keys P p gq gk (colAt 2816 ho j) (show 2816 ≤ 2816 + j.val by omega) (show 2816 + j.val < 2880 by omega), lane_colAt 2816 ho (by decide)]
    refine turnLanes_turned _ c s r j p _ (fun e => ?_) hc hs
    have := e.isLt
    rw [keyLanes_apply, if_pos (show (beside j e).val < 64 from (show j.val / 64 * 64 + e.val < 64 by omega)), normLanes_head P gk y t g 2816 ho (by decide) r j hy hP ht hg]
  · rw [if_neg hj] at hc hs
    rw [Inproj.finished_values P p gq gk (colAt 2816 ho j) (show 2880 ≤ 2816 + j.val by omega) (show 2816 + j.val < 2944 by omega)]
    refine (turnLanes_same _ c s r j hc hs).trans ?_
    rw [keyLanes_apply, if_neg hj]
    exact hy j

end Cert.Kernel4Ideal.Rows
end
-- ==== Proof.InprojValue.lean ====
module

public import proofs.«01_k».proof.Proof.InprojBlocks

/-!
# The kernel computes the input projection

Point `t` of the grid works on the tile `t` of 512 rows. It stores the tile in blocks of columns: the plain ones as they
come from the product, the heads finished 128 lanes at a time.
-/

@[expose] public section
set_option maxRecDepth 16384
noncomputable section
namespace Cert.Kernel4Ideal.Rows
open Cert.Kernel4Ideal Cert.Kernel4Ideal.Gen Cert.Kernel4Ideal.Value
open Idealize.ShloMosaic
open Idealize.ShloMosaic.TcCoe
open Idealize.SL Idealize.SL.Sem

/-! ## The products -/

/-- The scaled rows, at an element. -/
theorem rows_apply (x : Vec Ideal S512x1024 .f32) (l : Vec Ideal S1x1024 .f32) (r : Fin 512) (k : Fin 1024) :
    k0_pay4 x l (ix2 r k) = Merge.scaled (fun k => x (ix2 r k)) (x (ix2 r k)) (l (ix2 0 k)) := by
  pointwise [k0_pay4, Merge.scaled]

/-- A product of the scaled rows, at an element. -/
theorem product_apply (h : FVec Ideal S512x1024 .bf16) (w : Vec Ideal S1x1024x512 .bf16) (r j : Fin 512) :
    k0_pay14 h w (ix2 r j) = ∑ k : Fin 1024, h (ix2 r k) * w (ix3 0 k j) := by
  pointwise [k0_pay14]

variable (m : (ℓ : Loc nD τ sig) → Buf (Elt Ideal) ℓ) (c : Dev nD)

/-- The row of the array a point's block holds at `r`. -/
abbrev row (t : Fin cfg0.N) (r : Fin 512) : Fin 16384 := ⟨t.val * 512 + r.val, by have h : t.val < 32 := t.isLt; have := r.isLt; omega⟩

theorem index_0 : ∀ t : Fin cfg0.N, (cfg0.win 0).index t = ![t.val, 0] := (by decide +kernel : ∀ t : Fin grid0.N, win0_0.index t = ![t.val, 0])
theorem index_1 : ∀ t : Fin cfg0.N, (cfg0.win 1).index t = ![0, 0] := (by decide +kernel : ∀ t : Fin grid0.N, win0_1.index t = ![0, 0])
theorem index_2 : ∀ t : Fin cfg0.N, (cfg0.win 2).index t = ![0, 0, 0] := (by decide +kernel : ∀ t : Fin grid0.N, win0_2.index t = ![0, 0, 0])
theorem index_3 : ∀ t : Fin cfg0.N, (cfg0.win 3).index t = ![t.val % 4, 0] := (by decide +kernel : ∀ t : Fin grid0.N, win0_3.index t = ![t.val % 4, 0])
theorem index_4 : ∀ t : Fin cfg0.N, (cfg0.win 4).index t = ![t.val % 4, 0] := (by decide +kernel : ∀ t : Fin grid0.N, win0_4.index t = ![t.val % 4, 0])
theorem index_5 : ∀ t : Fin cfg0.N, (cfg0.win 5).index t = ![0, 0] := (by decide +kernel : ∀ t : Fin grid0.N, win0_5.index t = ![0, 0])
theorem index_6 : ∀ t : Fin cfg0.N, (cfg0.win 6).index t = ![0, 0] := (by decide +kernel : ∀ t : Fin grid0.N, win0_6.index t = ![0, 0])
theorem index_7 : ∀ t : Fin cfg0.N, (cfg0.win 7).index t = ![0, 0] := (by decide +kernel : ∀ t : Fin grid0.N, win0_7.index t = ![0, 0])
theorem index_8 : ∀ t : Fin cfg0.N, (cfg0.win 8).index t = ![t.val, 0] := (by decide +kernel : ∀ t : Fin grid0.N, win0_8.index t = ![t.val, 0])

/-! ## The blocks, at their places in the arrays -/

abbrev inputs : S16384x1024.Idx → EReal := m ((c : Thread nD τ).loc main_arg0)
abbrev rowGain : S2x1024.Idx → EReal := m ((c : Thread nD τ).loc main_arg1)
abbrev weight : S2x1024x6144.Idx → EReal := m ((c : Thread nD τ).loc main_arg2)
abbrev queryGain : S2x64.Idx → EReal := m ((c : Thread nD τ).loc main_arg3)
abbrev keyGain : S2x64.Idx → EReal := m ((c : Thread nD τ).loc main_arg4)

theorem blk0_apply (t : Fin cfg0.N) (r : Fin 512) (k : Fin 1024) : iblk m c 0 t (ix2 r k) = inputs m c (ix2 (row t r) k) := by
  show inputs m c (((cfg0.win 0).blk t).view.emb (ix2 r k)) = _
  congr 1
  funext b
  apply Fin.ext
  fin_cases b
  · blk_simp; rw [index_0]; rfl
  · blk_simp; rw [index_0]; exact Nat.zero_add _
theorem blk1_apply (t : Fin cfg0.N) (k : Fin 1024) : iblk m c 1 t (ix2 0 k) = rowGain m c (ix2 0 k) := by
  refine Eq.trans ?_ (gain_at m c k)
  show (V m c main_v41 : S1x1024.Idx → EReal) (((cfg0.win 1).blk t).view.emb (ix2 0 k)) = _
  congr 1
  funext b
  apply Fin.ext
  fin_cases b
  · blk_simp; rw [index_1]; rfl
  · blk_simp; rw [index_1]; exact Nat.zero_add _
theorem blk2_apply (t : Fin cfg0.N) (k : Fin 1024) (C : Fin 6144) : iblk m c 2 t (ix3 0 k C) = weight m c (ix3 0 k C) := by
  show weight m c (((cfg0.win 2).blk t).view.emb (ix3 0 k C)) = _
  congr 1
  funext b
  apply Fin.ext
  fin_cases b
  · blk_simp; rw [index_2]; rfl
  · blk_simp; rw [index_2]; exact Nat.zero_add _
  · blk_simp; rw [index_2]; exact Nat.zero_add _
theorem blk3_apply (t : Fin cfg0.N) (r : Fin 512) (j : Fin 256) : iblk m c 3 t (ix2 r j) = (V m c main_v19 : S2048x256.Idx → EReal) (ix2 (Inproj.pos (row t r)) j) := by
  show (V m c main_v19 : S2048x256.Idx → EReal) (((cfg0.win 3).blk t).view.emb (ix2 r j)) = _
  congr 1
  funext b
  apply Fin.ext
  fin_cases b
  · blk_simp; rw [index_3]
    show t.val % 4 * 512 + r.val = (t.val * 512 + r.val) % 2048
    have := r.isLt; omega
  · blk_simp; rw [index_3]; exact Nat.zero_add _
theorem blk4_apply (t : Fin cfg0.N) (r : Fin 512) (j : Fin 256) : iblk m c 4 t (ix2 r j) = (V m c main_v20 : S2048x256.Idx → EReal) (ix2 (Inproj.pos (row t r)) j) := by
  show (V m c main_v20 : S2048x256.Idx → EReal) (((cfg0.win 4).blk t).view.emb (ix2 r j)) = _
  congr 1
  funext b
  apply Fin.ext
  fin_cases b
  · blk_simp; rw [index_4]
    show t.val % 4 * 512 + r.val = (t.val * 512 + r.val) % 2048
    have := r.isLt; omega
  · blk_simp; rw [index_4]; exact Nat.zero_add _
theorem blk5_apply (t : Fin cfg0.N) (j : Fin 128) : iblk m c 5 t (ix2 0 j) = queryGain m c (ix2 0 (lane j)) := by
  refine Eq.trans ?_ (qGain_at m c j)
  show (V m c main_v32 : S1x128.Idx → EReal) (((cfg0.win 5).blk t).view.emb (ix2 0 j)) = _
  congr 1
  funext b
  apply Fin.ext
  fin_cases b
  · blk_simp; rw [index_5]; rfl
  · blk_simp; rw [index_5]; exact Nat.zero_add _
theorem blk6_apply (t : Fin cfg0.N) (j : Fin 128) : iblk m c 6 t (ix2 0 j) = keyGain m c (ix2 0 (lane j)) := by
  refine Eq.trans ?_ (kGain_at m c j)
  show (V m c main_v38 : S1x128.Idx → EReal) (((cfg0.win 6).blk t).view.emb (ix2 0 j)) = _
  congr 1
  funext b
  apply Fin.ext
  fin_cases b
  · blk_simp; rw [index_6]; rfl
  · blk_simp; rw [index_6]; exact Nat.zero_add _
theorem blk7_apply (t : Fin cfg0.N) (i j : Fin 128) : iblk m c 7 t (ix2 i j) = if i.val / 64 = j.val / 64 then (1 : EReal) else 0 := by
  refine Eq.trans ?_ (picks_at m c i j)
  show (V m c main_v26 : S128x128.Idx → EReal) (((cfg0.win 7).blk t).view.emb (ix2 i j)) = _
  congr 1
  funext b
  apply Fin.ext
  fin_cases b
  · blk_simp; rw [index_7]; exact Nat.zero_add _
  · blk_simp; rw [index_7]; exact Nat.zero_add _

/-! ## A row of a point's tile -/

/-- The row of the product that a point's tile has at `r`. -/
abbrev prow (t : Fin cfg0.N) (r : Fin 512) : Fin 6144 → EReal := Inproj.proj (inputs m c) (rowGain m c) (weight m c) (row t r)

/-- A product with 512 columns of the weight is those columns of the row. -/
theorem columns_apply (t : Fin cfg0.N) (o : Nat) (inb : ∀ a, ![0, 0, o] a + ![1, 1024, 512] a ≤ S1x1024x6144.size a) (r j : Fin 512) (C : Fin 6144) (hC : C.val = o + j.val) :
    k0_pay14 (k0_pay4 (iblk m c 0 t) (iblk m c 1 t)) (View.ld (iblk m c 2 t) (Rect.unit (s := S1x1024x6144) ![0, 0, o] ![1, 1024, 512] inb)) (ix2 r j) = prow m c t r C := by
  refine (product_apply (k0_pay4 (iblk m c 0 t) (iblk m c 1 t)) _ r j).trans (Finset.sum_congr rfl fun k _ => ?_)
  refine congrArg₂ (· * ·) ?_ ?_
  · refine (rows_apply (iblk m c 0 t) (iblk m c 1 t) r k).trans ?_
    simp only [blk0_apply, blk1_apply]
    rfl
  · refine Eq.trans ?_ (blk2_apply m c t k C)
    show iblk m c 2 t _ = iblk m c 2 t _
    refine congrArg _ (funext fun b => Fin.ext ?_)
    fin_cases b
    · rfl
    · show 0 + 1 * k.val = k.val
      omega
    · show o + 1 * j.val = C.val
      omega

end Cert.Kernel4Ideal.Rows
end
-- ==== Proof.InprojOut.lean ====
module

public import proofs.«01_k».proof.Proof.InprojValue

/-!
# The tiles of the input projection

The stores of a point make its tile (`tile_eq`), and the tiles make the array (`out_eq`).
-/

@[expose] public section
set_option maxRecDepth 16384
noncomputable section
namespace Cert.Kernel4Ideal.Rows
open Cert.Kernel4Ideal Cert.Kernel4Ideal.Gen Cert.Kernel4Ideal.Value
open Idealize.ShloMosaic
open Idealize.ShloMosaic.TcCoe
open Idealize.SL Idealize.SL.Sem

/-! ## The stores, in the words of the blocks of lanes -/

section
variable (h : FVec Ideal S512x1024 .bf16) (w : Vec Ideal S1x1024x512 .bf16) (t : FVec Ideal S128x128 .bf16) (c s : FVec Ideal S512x128 .f32) (g : Vec Ideal S1x128 .f32)

/-- The four blocks of 128 lanes of a product with 512 columns. -/
abbrev lanes0 : FVec Ideal S512x128 .f32 := extractStridedSlice S512x128 ![0, 0] (k0_pay14 h w) slices_S512x512_o0_0_S512x128
abbrev lanes1 : FVec Ideal S512x128 .f32 := extractStridedSlice S512x128 ![0, 128] (k0_pay14 h w) slices_S512x512_o0_128_S512x128
abbrev lanes2 : FVec Ideal S512x128 .f32 := extractStridedSlice S512x128 ![0, 256] (k0_pay14 h w) slices_S512x512_o0_256_S512x128
abbrev lanes3 : FVec Ideal S512x128 .f32 := extractStridedSlice S512x128 ![0, 384] (k0_pay14 h w) slices_S512x512_o0_384_S512x128

theorem lanes0_apply (r : Fin 512) (j : Fin 128) : lanes0 h w (ix2 r j) = k0_pay14 h w (ix2 r ⟨j.val, by have := j.isLt; omega⟩) := by pointwise
theorem lanes1_apply (r : Fin 512) (j : Fin 128) : lanes1 h w (ix2 r j) = k0_pay14 h w (ix2 r ⟨128 + j.val, by have := j.isLt; omega⟩) := by pointwise
theorem lanes2_apply (r : Fin 512) (j : Fin 128) : lanes2 h w (ix2 r j) = k0_pay14 h w (ix2 r ⟨256 + j.val, by have := j.isLt; omega⟩) := by pointwise
theorem lanes3_apply (r : Fin 512) (j : Fin 128) : lanes3 h w (ix2 r j) = k0_pay14 h w (ix2 r ⟨384 + j.val, by have := j.isLt; omega⟩) := by pointwise

/-- A block of queries. -/
abbrev queryBlock (y : FVec Ideal S512x128 .f32) : FVec Ideal S512x128 .bf16 :=
  truncf .bf16 (mulf (turnLanes (normLanes y t g) c s) (broadcast S512x128 (Scalar.ofBits .f32 0x3E38AA3B#32 : Ideal .f32))) bitsLt_bf16_f32
/-- A block of the indexer's queries or keys. -/
abbrev indexBlock (y : FVec Ideal S512x128 .f32) : FVec Ideal S512x128 .bf16 := truncf .bf16 (turnLanes y c s) bitsLt_bf16_f32
/-- The block of the keys. -/
abbrev keyBlock (y : FVec Ideal S512x128 .f32) : FVec Ideal S512x128 .bf16 := truncf .bf16 (turnLanes (keyLanes y t g) c s) bitsLt_bf16_f32

theorem store2048 : k0_pay16 c s (k0_pay15 h t w) g = queryBlock t c s g (lanes0 h w) := rfl
theorem store2176 : k0_pay19 c s (k0_pay17 (k0_pay14 h w)) (k0_pay18 t (k0_pay14 h w)) g = queryBlock t c s g (lanes1 h w) := rfl
theorem store2304 : k0_pay24 t c s (k0_pay20 (k0_pay14 h w)) (k0_pay22 (k0_pay14 h w)) (k0_pay23 (k0_pay14 h w)) (constant S512x128 .f32 0x00000000#32) g = queryBlock t c s g (lanes2 h w) := rfl
theorem store2432 : k0_pay26 (k0_pay25 t c s (k0_pay14 h w) g) (Scalar.ofBits .f32 0x3E38AA3B#32 : Ideal .f32) = queryBlock t c s g (lanes3 h w) := rfl
theorem store2560 : k0_pay28 h c s w = indexBlock c s (lanes0 h w) := rfl
theorem store2688 : k0_pay30 c s (k0_pay29 h w) (iota .tc S512x128 32 [1] iota_S512x128_d1_w32) 64#32 0#1 1#32 = indexBlock c s (lanes1 h w) := rfl
theorem store2816 : k0_pay33 c s (k0_pay31 (k0_pay27 h w)) (iota .tc S512x128 32 [1] iota_S512x128_d1_w32) (k0_pay32 t (k0_pay27 h w) g) = keyBlock t c s g (lanes2 h w) := rfl
theorem store2944 : k0_pay38 c s (k0_pay34 (k0_pay27 h w)) 64#32 k0_pay35 k0_pay36 k0_pay37 0#1 = indexBlock c s (lanes3 h w) := rfl
end

variable (m : (ℓ : Loc nD τ sig) → Buf (Elt Ideal) ℓ) (c : Dev nD) (t : Fin cfg0.N) (r : Fin 512) (j : Fin 128)

/-! ## The tables of a point -/

theorem cosA_apply : k0_pay6 (View.ld (iblk m c 3 t) (Rect.unit (s := S512x256) ![0, 0] ![512, 128] inb_S512x256_S512x128_0_0)) (ix2 r j) = cosAt (Inproj.pos (row t r)) (lane j) := by
  refine Eq.trans ?_ ((blk3_apply m c t r (lo j)).trans (cosA_at m c _ j))
  pointwise [k0_pay6]
  rfl
theorem sinA_apply : k0_pay7 (View.ld (iblk m c 3 t) (Rect.unit (s := S512x256) ![0, 128] ![512, 128] inb_S512x256_S512x128_0_128)) (ix2 r j) = sinAt (Inproj.pos (row t r)) (lane j) := by
  refine Eq.trans ?_ ((blk3_apply m c t r (hi j)).trans (sinA_at m c _ j))
  pointwise [k0_pay7]
  rfl
theorem cosB_apply : k0_pay8 (View.ld (iblk m c 4 t) (Rect.unit (s := S512x256) ![0, 0] ![512, 128] inb_S512x256_S512x128_0_0)) (ix2 r j)
    = if j.val < 64 then cosAt (Inproj.pos (row t r)) (lane j) else (1 : EReal) := by
  refine Eq.trans ?_ ((blk4_apply m c t r (lo j)).trans (cosB_at m c _ j))
  pointwise [k0_pay8]
  rfl
theorem sinB_apply : k0_pay9 (View.ld (iblk m c 4 t) (Rect.unit (s := S512x256) ![0, 128] ![512, 128] inb_S512x256_S512x128_0_128)) (ix2 r j)
    = if j.val < 64 then sinAt (Inproj.pos (row t r)) (lane j) else (0 : EReal) := by
  refine Eq.trans ?_ ((blk4_apply m c t r (hi j)).trans (sinB_at m c _ j))
  pointwise [k0_pay9]
  rfl
theorem picks_apply (i j : Fin 128) : k0_pay5 (iblk m c 7 t) (ix2 i j) = if i.val / 64 = j.val / 64 then (1 : EReal) else 0 := by
  refine Eq.trans ?_ (blk7_apply m c t i j)
  pointwise [k0_pay5]

/-! ## A point's tile -/

/-- The result, of the arrays. -/
abbrev want : S16384x6144.Idx → EReal := Inproj.result (inputs m c) (rowGain m c) (weight m c) (queryGain m c) (keyGain m c)

/-- A point's tile of the result. -/
def tile : S512x6144.Idx → EReal := fun i => want m c (ix2 (row t (i 0)) (i 1))

/-- A block of a tile, at an element. -/
theorem tile_emb {n : Nat} (o : Nat) (inb : ∀ a, ![0, o] a + ![512, n] a ≤ S512x6144.size a) (j : Fin n) (C : Fin 6144) (hC : C.val = o + j.val) :
    tile m c t ((Rect.unit (s := S512x6144) ![0, o] ![512, n] inb).emb (ix2 r j))
      = Inproj.finished (prow m c t r) (Inproj.pos (row t r)) (fun d => queryGain m c (ix2 0 d)) (fun d => keyGain m c (ix2 0 d)) C := by
  have e : (Rect.unit (s := S512x6144) ![0, o] ![512, n] inb).emb (ix2 r j) = ix2 r C := by
    funext b
    apply Fin.ext
    fin_cases b
    · show 0 + 1 * r.val = r.val
      omega
    · show o + 1 * j.val = C.val
      omega
  rw [e]
  rfl

section
variable (hP : ∀ C, ∃ v : ℝ, prow m c t r C = v)

/-- A plain block of a tile. -/
theorem plain_tile (o : Nat) (inb : ∀ a, ![0, o] a + ![512, 512] a ≤ S512x6144.size a) (inb' : ∀ a, ![0, 0, o] a + ![1, 1024, 512] a ≤ S1x1024x6144.size a)
    (h : o + 512 ≤ 2048 ∨ 3072 ≤ o ∧ o + 512 ≤ 6144) (j : Fin 512) :
    k0_pay14 (k0_pay4 (iblk m c 0 t) (iblk m c 1 t)) (View.ld (iblk m c 2 t) (Rect.unit (s := S1x1024x6144) ![0, 0, o] ![1, 1024, 512] inb')) (ix2 r j)
      = tile m c t ((Rect.unit (s := S512x6144) ![0, o] ![512, 512] inb).emb (ix2 r j)) := by
  have hj := j.isLt
  have hC : o + j.val < 6144 := by omega
  rw [columns_apply m c t o inb' r j ⟨o + j.val, hC⟩ rfl, tile_emb m c t r o inb j ⟨o + j.val, hC⟩ rfl]
  rcases h with h | h
  · exact (Inproj.finished_mixers _ _ _ _ ⟨o + j.val, hC⟩ (show o + j.val < 2048 by omega)).symm
  · exact (Inproj.finished_rest _ _ _ _ ⟨o + j.val, hC⟩ (show 3008 ≤ o + j.val by omega)).symm

variable (y : FVec Ideal S512x128 .f32) (o : Nat) (inb : ∀ a, ![0, o] a + ![512, 128] a ≤ S512x6144.size a) (ho : o + 128 ≤ 6144)
  (hy : ∀ i, y (ix2 r i) = prow m c t r (colAt o ho i))

include hP hy in
/-- A block of queries of a tile. -/
theorem query_tile (h64 : o % 64 = 0) (h1 : 2048 ≤ o) (h2 : o + 128 ≤ 2560) :
    queryBlock (k0_pay5 (iblk m c 7 t)) (k0_pay6 (View.ld (iblk m c 3 t) (Rect.unit (s := S512x256) ![0, 0] ![512, 128] inb_S512x256_S512x128_0_0)))
        (k0_pay7 (View.ld (iblk m c 3 t) (Rect.unit (s := S512x256) ![0, 128] ![512, 128] inb_S512x256_S512x128_0_128))) (iblk m c 5 t) y (ix2 r j)
      = tile m c t ((Rect.unit (s := S512x6144) ![0, o] ![512, 128] inb).emb (ix2 r j)) := by
  rw [tile_emb m c t r o inb j (colAt o ho j) rfl]
  exact queries_apply (prow m c t r) (Inproj.pos (row t r)) (fun d => queryGain m c (ix2 0 d)) (fun d => keyGain m c (ix2 0 d)) y _ _ _ _ o ho h64 r j hy hP
    (picks_apply m c t) (blk5_apply m c t) (cosA_apply m c t r j) (sinA_apply m c t r j) h1 h2

include hy in
/-- A block of the indexer's queries of a tile. -/
theorem indexQuery_tile (h64 : o % 64 = 0) (h1 : 2560 ≤ o) (h2 : o + 128 ≤ 2816) :
    indexBlock (k0_pay6 (View.ld (iblk m c 3 t) (Rect.unit (s := S512x256) ![0, 0] ![512, 128] inb_S512x256_S512x128_0_0)))
        (k0_pay7 (View.ld (iblk m c 3 t) (Rect.unit (s := S512x256) ![0, 128] ![512, 128] inb_S512x256_S512x128_0_128))) y (ix2 r j)
      = tile m c t ((Rect.unit (s := S512x6144) ![0, o] ![512, 128] inb).emb (ix2 r j)) := by
  rw [tile_emb m c t r o inb j (colAt o ho j) rfl]
  exact indexQueries_apply (prow m c t r) (Inproj.pos (row t r)) (fun d => queryGain m c (ix2 0 d)) (fun d => keyGain m c (ix2 0 d)) y _ _ o ho h64 r j hy
    (cosA_apply m c t r j) (sinA_apply m c t r j) h1 h2

include hP hy in
/-- The block of the keys of a tile. -/
theorem key_tile (h : o = 2816) :
    keyBlock (k0_pay5 (iblk m c 7 t)) (k0_pay8 (View.ld (iblk m c 4 t) (Rect.unit (s := S512x256) ![0, 0] ![512, 128] inb_S512x256_S512x128_0_0)))
        (k0_pay9 (View.ld (iblk m c 4 t) (Rect.unit (s := S512x256) ![0, 128] ![512, 128] inb_S512x256_S512x128_0_128))) (iblk m c 6 t) y (ix2 r j)
      = tile m c t ((Rect.unit (s := S512x6144) ![0, o] ![512, 128] inb).emb (ix2 r j)) := by
  rw [tile_emb m c t r o inb j (colAt o ho j) rfl]
  exact keys_apply (prow m c t r) (Inproj.pos (row t r)) (fun d => queryGain m c (ix2 0 d)) (fun d => keyGain m c (ix2 0 d)) y _ _ _ _ o ho r j hy hP
    (picks_apply m c t) (blk6_apply m c t) (cosB_apply m c t r j) (sinB_apply m c t r j) h

include hy in
/-- The block of the indexer's keys of a tile. -/
theorem indexKey_tile (h : o = 2944) :
    indexBlock (k0_pay8 (View.ld (iblk m c 4 t) (Rect.unit (s := S512x256) ![0, 0] ![512, 128] inb_S512x256_S512x128_0_0)))
        (k0_pay9 (View.ld (iblk m c 4 t) (Rect.unit (s := S512x256) ![0, 128] ![512, 128] inb_S512x256_S512x128_0_128))) y (ix2 r j)
      = tile m c t ((Rect.unit (s := S512x6144) ![0, o] ![512, 128] inb).emb (ix2 r j)) := by
  rw [tile_emb m c t r o inb j (colAt o ho j) rfl]
  exact indexKeys_apply (prow m c t r) (Inproj.pos (row t r)) (fun d => queryGain m c (ix2 0 d)) (fun d => keyGain m c (ix2 0 d)) y _ _ o ho r j hy
    (cosB_apply m c t r j) (sinB_apply m c t r j) h
end

/-- The stores of a point make its tile. -/
theorem tile_eq (hl : ∀ k, ∃ v : ℝ, rowGain m c (ix2 0 k) = v) (hw : ∀ k C, ∃ v : ℝ, weight m c (ix3 0 k C) = v) (i : S512x6144.Idx) : outsAt0 m c t i = tile m c t i := by
  have hP : ∀ r C, ∃ v : ℝ, prow m c t r C = v := fun r => Inproj.proj_real (inputs m c) (rowGain m c) (weight m c) hl hw (row t r)
  unfold outsAt0 out0_A_8
  refine View.read_writes_apply_of_pieces (Val := Elt Ideal) VO0_8 _ (tile m c t) _ ?_ i (cover0_A_8 c _ _ _ _ _ _ _ _ _ _ _ _ _ _ _ _ _ _ _ _ _ _ _ _ _ _ _ i)
  unfold kernelRun0_A
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_,
    fun p hp => absurd hp List.not_mem_nil⟩⟩⟩⟩⟩⟩⟩⟩⟩⟩⟩⟩⟩⟩⟩⟩⟩⟩
  · intro x
    frame_out
    obtain ⟨r, j, rfl⟩ : ∃ (r : Fin 512) (j : Fin 512), x = ix2 r j := ⟨x 0, x 1, eq_ix2 x⟩
    exact plain_tile m c t r 5632 _ _ (by decide) j
  · intro x
    frame_out
    obtain ⟨r, j, rfl⟩ : ∃ (r : Fin 512) (j : Fin 512), x = ix2 r j := ⟨x 0, x 1, eq_ix2 x⟩
    exact plain_tile m c t r 5120 _ _ (by decide) j
  · intro x
    frame_out
    obtain ⟨r, j, rfl⟩ : ∃ (r : Fin 512) (j : Fin 512), x = ix2 r j := ⟨x 0, x 1, eq_ix2 x⟩
    exact plain_tile m c t r 4608 _ _ (by decide) j
  · intro x
    frame_out
    obtain ⟨r, j, rfl⟩ : ∃ (r : Fin 512) (j : Fin 512), x = ix2 r j := ⟨x 0, x 1, eq_ix2 x⟩
    exact plain_tile m c t r 4096 _ _ (by decide) j
  · intro x
    frame_out
    obtain ⟨r, j, rfl⟩ : ∃ (r : Fin 512) (j : Fin 512), x = ix2 r j := ⟨x 0, x 1, eq_ix2 x⟩
    exact plain_tile m c t r 3584 _ _ (by decide) j
  · intro x
    frame_out
    obtain ⟨r, j, rfl⟩ : ∃ (r : Fin 512) (j : Fin 512), x = ix2 r j := ⟨x 0, x 1, eq_ix2 x⟩
    exact plain_tile m c t r 3072 _ _ (by decide) j
  · intro x
    frame_out
    obtain ⟨r, j, rfl⟩ : ∃ (r : Fin 512) (j : Fin 128), x = ix2 r j := ⟨x 0, x 1, eq_ix2 x⟩
    refine (congrFun (store2944 _ _ _ _) (ix2 r j)).trans (indexKey_tile m c t r j _ 2944 _ (by decide) (fun i => (lanes3_apply _ _ r i).trans (columns_apply m c t 2560 _ r _ (colAt 2944 (by decide) i) ?_)) rfl)
    show 2944 + i.val = 2560 + (384 + i.val)
    omega
  · intro x
    frame_out
    obtain ⟨r, j, rfl⟩ : ∃ (r : Fin 512) (j : Fin 128), x = ix2 r j := ⟨x 0, x 1, eq_ix2 x⟩
    refine (congrFun (store2816 _ _ _ _ _ _) (ix2 r j)).trans (key_tile m c t r j (hP r) _ 2816 _ (by decide) (fun i => (lanes2_apply _ _ r i).trans (columns_apply m c t 2560 _ r _ (colAt 2816 (by decide) i) ?_)) rfl)
    show 2816 + i.val = 2560 + (256 + i.val)
    omega
  · intro x
    frame_out
    obtain ⟨r, j, rfl⟩ : ∃ (r : Fin 512) (j : Fin 128), x = ix2 r j := ⟨x 0, x 1, eq_ix2 x⟩
    refine (congrFun (store2688 _ _ _ _) (ix2 r j)).trans (indexQuery_tile m c t r j _ 2688 _ (by decide) (fun i => (lanes1_apply _ _ r i).trans (columns_apply m c t 2560 _ r _ (colAt 2688 (by decide) i) ?_)) (by decide) (by decide) (by decide))
    show 2688 + i.val = 2560 + (128 + i.val)
    omega
  · intro x
    frame_out
    obtain ⟨r, j, rfl⟩ : ∃ (r : Fin 512) (j : Fin 128), x = ix2 r j := ⟨x 0, x 1, eq_ix2 x⟩
    refine (congrFun (store2560 _ _ _ _) (ix2 r j)).trans (indexQuery_tile m c t r j _ 2560 _ (by decide) (fun i => (lanes0_apply _ _ r i).trans (columns_apply m c t 2560 _ r _ (colAt 2560 (by decide) i) ?_)) (by decide) (by decide) (by decide))
    show 2560 + i.val = 2560 + i.val
    omega
  · intro x
    frame_out
    obtain ⟨r, j, rfl⟩ : ∃ (r : Fin 512) (j : Fin 128), x = ix2 r j := ⟨x 0, x 1, eq_ix2 x⟩
    refine (congrFun (store2432 _ _ _ _ _ _) (ix2 r j)).trans (query_tile m c t r j (hP r) _ 2432 _ (by decide) (fun i => (lanes3_apply _ _ r i).trans (columns_apply m c t 2048 _ r _ (colAt 2432 (by decide) i) ?_)) (by decide) (by decide) (by decide))
    show 2432 + i.val = 2048 + (384 + i.val)
    omega
  · intro x
    frame_out
    obtain ⟨r, j, rfl⟩ : ∃ (r : Fin 512) (j : Fin 128), x = ix2 r j := ⟨x 0, x 1, eq_ix2 x⟩
    refine (congrFun (store2304 _ _ _ _ _ _) (ix2 r j)).trans (query_tile m c t r j (hP r) _ 2304 _ (by decide) (fun i => (lanes2_apply _ _ r i).trans (columns_apply m c t 2048 _ r _ (colAt 2304 (by decide) i) ?_)) (by decide) (by decide) (by decide))
    show 2304 + i.val = 2048 + (256 + i.val)
    omega
  · intro x
    frame_out
    obtain ⟨r, j, rfl⟩ : ∃ (r : Fin 512) (j : Fin 128), x = ix2 r j := ⟨x 0, x 1, eq_ix2 x⟩
    refine (congrFun (store2176 _ _ _ _ _ _) (ix2 r j)).trans (query_tile m c t r j (hP r) _ 2176 _ (by decide) (fun i => (lanes1_apply _ _ r i).trans (columns_apply m c t 2048 _ r _ (colAt 2176 (by decide) i) ?_)) (by decide) (by decide) (by decide))
    show 2176 + i.val = 2048 + (128 + i.val)
    omega
  · intro x
    frame_out
    obtain ⟨r, j, rfl⟩ : ∃ (r : Fin 512) (j : Fin 128), x = ix2 r j := ⟨x 0, x 1, eq_ix2 x⟩
    refine (congrFun (store2048 _ _ _ _ _ _) (ix2 r j)).trans (query_tile m c t r j (hP r) _ 2048 _ (by decide) (fun i => (lanes0_apply _ _ r i).trans (columns_apply m c t 2048 _ r _ (colAt 2048 (by decide) i) ?_)) (by decide) (by decide) (by decide))
    show 2048 + i.val = 2048 + i.val
    omega
  · intro x
    frame_out
    obtain ⟨r, j, rfl⟩ : ∃ (r : Fin 512) (j : Fin 512), x = ix2 r j := ⟨x 0, x 1, eq_ix2 x⟩
    exact plain_tile m c t r 1536 _ _ (by decide) j
  · intro x
    frame_out
    obtain ⟨r, j, rfl⟩ : ∃ (r : Fin 512) (j : Fin 512), x = ix2 r j := ⟨x 0, x 1, eq_ix2 x⟩
    exact plain_tile m c t r 1024 _ _ (by decide) j
  · intro x
    frame_out
    obtain ⟨r, j, rfl⟩ : ∃ (r : Fin 512) (j : Fin 512), x = ix2 r j := ⟨x 0, x 1, eq_ix2 x⟩
    exact plain_tile m c t r 512 _ _ (by decide) j
  · intro x
    frame_out
    obtain ⟨r, j, rfl⟩ : ∃ (r : Fin 512) (j : Fin 512), x = ix2 r j := ⟨x 0, x 1, eq_ix2 x⟩
    exact plain_tile m c t r 0 _ _ (by decide) j

/-- The output array, once the run is over. -/
theorem out_eq (hl : ∀ k, ∃ v : ℝ, rowGain m c (ix2 0 k) = v) (hw : ∀ k C, ∃ v : ℝ, weight m c (ix3 0 k C) = v) : (dats m 0 c).arrAt 8 cfg0.N = want m c := by
  refine (dats m 0 c).arrAt_eq_of_covers 8 _ ⟨?_, ?_⟩ fun t hf y => ?_
  · intro b; fin_cases b
    · exact (by decide : 0 < 512)
    · exact (by decide : 0 < 6144)
  · intro ix
    have h0 : (ix (0 : Fin 2)).val < 32 := lt_of_lt_of_eq (ix (0 : Fin 2)).isLt (show (16384 + 512 - 1) / 512 = 32 from by norm_num)
    have h1 : (ix (1 : Fin 2)).val < 1 := lt_of_lt_of_eq (ix (1 : Fin 2)).isLt (show (6144 + 6144 - 1) / 6144 = 1 from by norm_num)
    refine ⟨⟨(ix (0 : Fin 2)).val, h0⟩, flush0_8 _, fun b => ⟨?_, .inl rfl⟩⟩
    rw [index_8]
    fin_cases b
    · rfl
    · show 0 = (ix (1 : Fin 2)).val
      omega
  · blk_simp
    rw [after0_8]
    obtain ⟨r, d, rfl⟩ : ∃ (r : Fin 512) (d : Fin 6144), y = ix2 r d := ⟨y 0, y 1, eq_ix2 y⟩
    refine (tile_eq m c t hl hw (ix2 r d)).trans ?_
    show want m c (ix2 (row t r) d) = _
    congr 1
    funext b
    apply Fin.ext
    fin_cases b
    · blk_simp; rw [index_8]; rfl
    · blk_simp; rw [index_8]; exact (Nat.zero_add _).symm

end Cert.Kernel4Ideal.Rows
end
-- ==== Proof.InprojRef.lean ====
module

public import proofs.«01_k».proof.Proof.Inproj
public import proofs.«01_k».proof.Proof.Gen.Reference4Ideal.Run

/-!
# The reference computes the input projection

The reference's operations by parts: the product, the tables of the angles, and for eight heads, for four and for one, the
norm and the turn.
-/

@[expose] public section
set_option maxRecDepth 16384
noncomputable section
namespace Cert.Reference4Ideal.Rows
open Cert.Reference4Ideal Cert.Reference4Ideal.Gen Idealize.ShloMosaic

/-- The row of position `p` of sequence `b`. -/
def rowOf (b : Fin 8) (p : Fin 2048) : Fin 16384 := ⟨b.val * 2048 + p.val, by have := b.isLt; have := p.isLt; omega⟩

/-! ## The product -/

section
variable (x : FVec Ideal S16384x1024 .f32) (l : FVec Ideal S2x1024 .f32) (w : FVec Ideal S2x1024x6144 .bf16)

/-- The scaled rows. -/
def rows : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ (extractStridedSlice S1x1024 ![0, 0] l slices_S2x1024_S1x1024_0_0) shapeCasts_S1x1024_S1024)))

/-- Their product with the weight. -/
def product : FVec Ideal S8x2048x6144 .f32 :=
  shapeCast _ (Host.dotGeneral dot_S16384x1024_S1024x6144_S16384x6144_1_0_0_1_n_n none (rows x l)
    (extf .f32 (shapeCast _ (extractStridedSlice S1x1024x6144 ![0, 0, 0] w slices_S2x1024x6144_S1x1024x6144_0_0_0) shapeCasts_S1x1024x6144_S1024x6144) bitsLt_bf16_f32)) shapeCasts_S16384x6144_S8x2048x6144

theorem rows_apply (R : Fin 16384) (k : Fin 1024) : rows x l (ix2 R k) = Inproj.scaledRow x l R k := by
  pointwise [rows, Inproj.scaledRow, Merge.scaled]

theorem product_apply (b : Fin 8) (p : Fin 2048) (C : Fin 6144) : product x l w (ix3 b p C) = Inproj.proj x l w (rowOf b p) C := by
  pointwise [product]
  simp only [rows_apply]
  rfl
end

/-! ## The angles -/

def angles : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- The cosines and the sines. -/
def cosines : FVec Ideal S1x2048x1x32 .f32 :=
  broadcastInDim S1x2048x1x32 ![1, 2, 3] bcast_S2048x1x32_S1x2048x1x32_1_2_3 (broadcastInDim S2048x1x32 ![0, 2] bcast_S2048x32_S2048x1x32_0_2 (Host.cos angles))
def sines : FVec Ideal S1x2048x1x32 .f32 :=
  broadcastInDim S1x2048x1x32 ![1, 2, 3] bcast_S2048x1x32_S1x2048x1x32_1_2_3 (broadcastInDim S2048x1x32 ![0, 2] bcast_S2048x32_S2048x1x32_0_2 (Host.sin angles))

theorem angles_apply (p : Fin 2048) (i : Fin 32) : angles (ix2 p i) = Inproj.angle p i := by
  pointwise [angles, Inproj.angle]
  rfl
theorem cosines_apply (p : Fin 2048) (i : Fin 32) : cosines (ix4 0 p 0 i) = Ideal.cos (Inproj.angle p i) := by
  pointwise [cosines]
  rw [angles_apply]
theorem sines_apply (p : Fin 2048) (i : Fin 32) : sines (ix4 0 p 0 i) = Ideal.sin (Inproj.angle p i) := by
  pointwise [sines]
  rw [angles_apply]

theorem turned_first (u : Fin 64 → EReal) (p : Fin 2048) (d : Fin 64) (h : d.val < 32) (h' : 32 + d.val < 64) :
    u d * cosines (ix4 0 p 0 ⟨d.val, h⟩) - u ⟨32 + d.val, h'⟩ * sines (ix4 0 p 0 ⟨d.val, h⟩) = Inproj.turned u p d := by
  have e : (⟨d.val, h⟩ : Fin 32) = Inproj.plane d := Fin.ext (show d.val = d.val % 32 by omega)
  have e' : (⟨32 + d.val, h'⟩ : Fin 64) = Inproj.mate d := Fin.ext (show 32 + d.val = (d.val + 32) % 64 by omega)
  rw [cosines_apply, sines_apply, e, e', Inproj.turned, if_pos h]
theorem turned_second (u : Fin 64 → EReal) (p : Fin 2048) (d : Fin 64) (h : ¬ d.val < 32) (h1 : 32 + (d.val - 32) < 64) (h2 : d.val - 32 < 32) (h3 : d.val - 32 < 64) :
    u ⟨32 + (d.val - 32), h1⟩ * cosines (ix4 0 p 0 ⟨d.val - 32, h2⟩) + u ⟨d.val - 32, h3⟩ * sines (ix4 0 p 0 ⟨d.val - 32, h2⟩) = Inproj.turned u p d := by
  have e : (⟨d.val - 32, h2⟩ : Fin 32) = Inproj.plane d := Fin.ext (show d.val - 32 = d.val % 32 by omega)
  have e' : (⟨32 + (d.val - 32), h1⟩ : Fin 64) = d := Fin.ext (show 32 + (d.val - 32) = d.val by omega)
  have e'' : (⟨d.val - 32, h3⟩ : Fin 64) = Inproj.mate d := Fin.ext (show d.val - 32 = (d.val + 32) % 64 by omega)
  rw [cosines_apply, sines_apply, e, e', e'', Inproj.turned, if_neg h]

/-! ## Eight heads -/

section
variable (y : FVec Ideal S8x2048x8x64 .f32) (g : FVec Ideal S2x64 .f32) (P : FVec Ideal S8x2048x6144 .f32) (b : Fin 8) (p : Fin 2048) (n : Fin 8) (d : Fin 64)

/-- The heads of the queries. -/
def heads8 : FVec Ideal S8x2048x8x64 .f32 := shapeCast _ (extractStridedSlice S8x2048x512 ![0, 0, 2048] P slices_S8x2048x6144_S8x2048x512_0_0_2048) shapeCasts_S8x2048x512_S8x2048x8x64

/-- The heads normalised. -/
def norm8 : FVec Ideal S8x2048x8x64 .f32 :=
  mulf (mulf y (broadcastInDim S8x2048x8x64 ![0, 1, 2, 3] bcast_S8x2048x8x1_S8x2048x8x64_0_1_2_3 (Host.rsqrt (addf (Host.divf (broadcastInDim S8x2048x8x1 ![0, 1, 2] bcast_S8x2048x8_S8x2048x8x1_0_1_2 (Host.reduceAdd (mulf y y) (constant S_ .f32 0x00000000#32) reducesTo_S8x2048x8x64_S8x2048x8_d3 h_S_))
      (broadcastInDim S8x2048x8x1 ![] bcast_S_S8x2048x8x1 (constant S_ .f32 0x42800000#32))) (broadcastInDim S8x2048x8x1 ![] bcast_S_S8x2048x8x1 (constant S_ .f32 0x358637BD#32))))))
    (broadcastInDim S8x2048x8x64 ![0, 1, 2, 3] bcast_S1x1x1x64_S8x2048x8x64_0_1_2_3 (broadcastInDim S1x1x1x64 ![3] bcast_S64_S1x1x1x64_3 (shapeCast _ (extractStridedSlice S1x64 ![0, 0] g slices_S2x64_S1x64_0_0) shapeCasts_S1x64_S64)))

/-- The heads turned. -/
def turn8 : FVec Ideal S8x2048x8x64 .f32 :=
  concatenate S8x2048x8x64 3 [⟨S8x2048x8x32, subf (mulf (extractStridedSlice S8x2048x8x32 ![0, 0, 0, 0] y slices_S8x2048x8x64_S8x2048x8x32_0_0_0_0) (broadcastInDim S8x2048x8x32 ![0, 1, 2, 3] bcast_S1x2048x1x32_S8x2048x8x32_0_1_2_3 cosines))
        (mulf (extractStridedSlice S8x2048x8x32 ![0, 0, 0, 32] y slices_S8x2048x8x64_S8x2048x8x32_0_0_0_32) (broadcastInDim S8x2048x8x32 ![0, 1, 2, 3] bcast_S1x2048x1x32_S8x2048x8x32_0_1_2_3 sines))⟩,
      ⟨S8x2048x8x32, addf (mulf (extractStridedSlice S8x2048x8x32 ![0, 0, 0, 32] y slices_S8x2048x8x64_S8x2048x8x32_0_0_0_32) (broadcastInDim S8x2048x8x32 ![0, 1, 2, 3] bcast_S1x2048x1x32_S8x2048x8x32_0_1_2_3 cosines))
        (mulf (extractStridedSlice S8x2048x8x32 ![0, 0, 0, 0] y slices_S8x2048x8x64_S8x2048x8x32_0_0_0_0) (broadcastInDim S8x2048x8x32 ![0, 1, 2, 3] bcast_S1x2048x1x32_S8x2048x8x32_0_1_2_3 sines))⟩]
    concatenates_S8x2048x8x32_S8x2048x8x32_S8x2048x8x64_d3

theorem heads8_apply : heads8 P (ix4 b p n d) = P (ix3 b p ⟨2048 + (n.val * 64 + d.val), by have := n.isLt; have := d.isLt; omega⟩) := by
  pointwise [heads8]

theorem norm8_apply : norm8 y g (ix4 b p n d) = Inproj.headNorm (fun e => y (ix4 b p n e)) (fun e => g (ix2 0 e)) d := by
  pointwise [norm8, Inproj.headNorm]

theorem turn8_apply : turn8 y (ix4 b p n d) = Inproj.turned (fun e => y (ix4 b p n e)) p d := by
  pointwise [turn8]
  split
  · next h => exact turned_first (fun e => y (ix4 b p n e)) p d h _
  · next h => exact turned_second (fun e => y (ix4 b p n e)) p d h _ _ _
end

/-! ## Four heads -/

section
variable (y : FVec Ideal S8x2048x4x64 .f32) (P : FVec Ideal S8x2048x6144 .f32) (b : Fin 8) (p : Fin 2048) (n : Fin 4) (d : Fin 64)

/-- The heads of the indexer's queries. -/
def heads4 : FVec Ideal S8x2048x4x64 .f32 := shapeCast _ (extractStridedSlice S8x2048x256 ![0, 0, 2560] P slices_S8x2048x6144_S8x2048x256_0_0_2560) shapeCasts_S8x2048x256_S8x2048x4x64

/-- The heads turned. -/
def turn4 : FVec Ideal S8x2048x4x64 .f32 :=
  concatenate S8x2048x4x64 3 [⟨S8x2048x4x32, subf (mulf (extractStridedSlice S8x2048x4x32 ![0, 0, 0, 0] y slices_S8x2048x4x64_S8x2048x4x32_0_0_0_0) (broadcastInDim S8x2048x4x32 ![0, 1, 2, 3] bcast_S1x2048x1x32_S8x2048x4x32_0_1_2_3 cosines))
        (mulf (extractStridedSlice S8x2048x4x32 ![0, 0, 0, 32] y slices_S8x2048x4x64_S8x2048x4x32_0_0_0_32) (broadcastInDim S8x2048x4x32 ![0, 1, 2, 3] bcast_S1x2048x1x32_S8x2048x4x32_0_1_2_3 sines))⟩,
      ⟨S8x2048x4x32, addf (mulf (extractStridedSlice S8x2048x4x32 ![0, 0, 0, 32] y slices_S8x2048x4x64_S8x2048x4x32_0_0_0_32) (broadcastInDim S8x2048x4x32 ![0, 1, 2, 3] bcast_S1x2048x1x32_S8x2048x4x32_0_1_2_3 cosines))
        (mulf (extractStridedSlice S8x2048x4x32 ![0, 0, 0, 0] y slices_S8x2048x4x64_S8x2048x4x32_0_0_0_0) (broadcastInDim S8x2048x4x32 ![0, 1, 2, 3] bcast_S1x2048x1x32_S8x2048x4x32_0_1_2_3 sines))⟩]
    concatenates_S8x2048x4x32_S8x2048x4x32_S8x2048x4x64_d3

theorem heads4_apply : heads4 P (ix4 b p n d) = P (ix3 b p ⟨2560 + (n.val * 64 + d.val), by have := n.isLt; have := d.isLt; omega⟩) := by
  pointwise [heads4]

theorem turn4_apply : turn4 y (ix4 b p n d) = Inproj.turned (fun e => y (ix4 b p n e)) p d := by
  pointwise [turn4]
  split
  · next h => exact turned_first (fun e => y (ix4 b p n e)) p d h _
  · next h => exact turned_second (fun e => y (ix4 b p n e)) p d h _ _ _
end

/-! ## One head -/

section
variable (y : FVec Ideal S8x2048x1x64 .f32) (g : FVec Ideal S2x64 .f32) (P : FVec Ideal S8x2048x6144 .f32) (b : Fin 8) (p : Fin 2048) (d : Fin 64)

/-- The columns of the keys, and of the indexer's keys. -/
def keys : FVec Ideal S8x2048x1x64 .f32 :=
  broadcastInDim S8x2048x1x64 ![0, 1, 3] bcast_S8x2048x64_S8x2048x1x64_0_1_3 (extractStridedSlice S8x2048x64 ![0, 0, 2816] P slices_S8x2048x6144_S8x2048x64_0_0_2816)
def indexKeys : FVec Ideal S8x2048x1x64 .f32 :=
  broadcastInDim S8x2048x1x64 ![0, 1, 3] bcast_S8x2048x64_S8x2048x1x64_0_1_3 (extractStridedSlice S8x2048x64 ![0, 0, 2944] P slices_S8x2048x6144_S8x2048x64_0_0_2944)

/-- The head normalised. -/
def norm1 : FVec Ideal S8x2048x1x64 .f32 :=
  mulf (mulf y (broadcastInDim S8x2048x1x64 ![0, 1, 2, 3] bcast_S8x2048x1x1_S8x2048x1x64_0_1_2_3 (Host.rsqrt (addf (Host.divf (broadcastInDim S8x2048x1x1 ![0, 1, 2] bcast_S8x2048x1_S8x2048x1x1_0_1_2 (Host.reduceAdd (mulf y y) (constant S_ .f32 0x00000000#32) reducesTo_S8x2048x1x64_S8x2048x1_d3 h_S_))
      (broadcastInDim S8x2048x1x1 ![] bcast_S_S8x2048x1x1 (constant S_ .f32 0x42800000#32))) (broadcastInDim S8x2048x1x1 ![] bcast_S_S8x2048x1x1 (constant S_ .f32 0x358637BD#32))))))
    (broadcastInDim S8x2048x1x64 ![0, 1, 2, 3] bcast_S1x1x1x64_S8x2048x1x64_0_1_2_3 (broadcastInDim S1x1x1x64 ![3] bcast_S64_S1x1x1x64_3 (shapeCast _ (extractStridedSlice S1x64 ![0, 0] g slices_S2x64_S1x64_0_0) shapeCasts_S1x64_S64)))

/-- The head turned. -/
def turn1 : FVec Ideal S8x2048x1x64 .f32 :=
  concatenate S8x2048x1x64 3 [⟨S8x2048x1x32, subf (mulf (extractStridedSlice S8x2048x1x32 ![0, 0, 0, 0] y slices_S8x2048x1x64_S8x2048x1x32_0_0_0_0) (broadcastInDim S8x2048x1x32 ![0, 1, 2, 3] bcast_S1x2048x1x32_S8x2048x1x32_0_1_2_3 cosines))
        (mulf (extractStridedSlice S8x2048x1x32 ![0, 0, 0, 32] y slices_S8x2048x1x64_S8x2048x1x32_0_0_0_32) (broadcastInDim S8x2048x1x32 ![0, 1, 2, 3] bcast_S1x2048x1x32_S8x2048x1x32_0_1_2_3 sines))⟩,
      ⟨S8x2048x1x32, addf (mulf (extractStridedSlice S8x2048x1x32 ![0, 0, 0, 32] y slices_S8x2048x1x64_S8x2048x1x32_0_0_0_32) (broadcastInDim S8x2048x1x32 ![0, 1, 2, 3] bcast_S1x2048x1x32_S8x2048x1x32_0_1_2_3 cosines))
        (mulf (extractStridedSlice S8x2048x1x32 ![0, 0, 0, 0] y slices_S8x2048x1x64_S8x2048x1x32_0_0_0_0) (broadcastInDim S8x2048x1x32 ![0, 1, 2, 3] bcast_S1x2048x1x32_S8x2048x1x32_0_1_2_3 sines))⟩]
    concatenates_S8x2048x1x32_S8x2048x1x32_S8x2048x1x64_d3

theorem keys_apply : keys P (ix4 b p 0 d) = P (ix3 b p ⟨2816 + d.val, by have := d.isLt; omega⟩) := by
  pointwise [keys]
theorem indexKeys_apply : indexKeys P (ix4 b p 0 d) = P (ix3 b p ⟨2944 + d.val, by have := d.isLt; omega⟩) := by
  pointwise [indexKeys]

theorem norm1_apply : norm1 y g (ix4 b p 0 d) = Inproj.headNorm (fun e => y (ix4 b p 0 e)) (fun e => g (ix2 0 e)) d := by
  pointwise [norm1, Inproj.headNorm]

theorem turn1_apply : turn1 y (ix4 b p 0 d) = Inproj.turned (fun e => y (ix4 b p 0 e)) p d := by
  pointwise [turn1]
  split
  · next h => exact turned_first (fun e => y (ix4 b p 0 e)) p d h _
  · next h => exact turned_second (fun e => y (ix4 b p 0 e)) p d h _ _ _
end

/-! ## The result -/

section
variable (x : FVec Ideal S16384x1024 .f32) (l : FVec Ideal S2x1024 .f32) (w : FVec Ideal S2x1024x6144 .bf16) (gq gk : FVec Ideal S2x64 .f32)

/-- The parts side by side, of the product. -/
def parts (P : FVec Ideal S8x2048x6144 .f32) : FVec Ideal S16384x6144 .f32 :=
  concatenate S16384x6144 1 [⟨S16384x2048, shapeCast _ (extractStridedSlice S8x2048x2048 ![0, 0, 0] P slices_S8x2048x6144_S8x2048x2048_0_0_0) shapeCasts_S8x2048x2048_S16384x2048⟩,
      ⟨S16384x512, shapeCast _ (mulf (turn8 (norm8 (heads8 P) gq)) (broadcastInDim S8x2048x8x64 ![] bcast_S_S8x2048x8x64 (constant S_ .f32 0x3E38AA3B#32))) shapeCasts_S8x2048x8x64_S16384x512⟩,
      ⟨S16384x256, shapeCast _ (turn4 (heads4 P)) shapeCasts_S8x2048x4x64_S16384x256⟩,
      ⟨S16384x64, shapeCast _ (turn1 (norm1 (keys P) gk)) shapeCasts_S8x2048x1x64_S16384x64⟩,
      ⟨S16384x64, shapeCast _ (extractStridedSlice S8x2048x64 ![0, 0, 2880] P slices_S8x2048x6144_S8x2048x64_0_0_2880) shapeCasts_S8x2048x64_S16384x64⟩,
      ⟨S16384x64, shapeCast _ (turn1 (indexKeys P)) shapeCasts_S8x2048x1x64_S16384x64⟩,
      ⟨S16384x3136, shapeCast _ (extractStridedSlice S8x2048x3136 ![0, 0, 3008] P slices_S8x2048x6144_S8x2048x3136_0_0_3008) shapeCasts_S8x2048x3136_S16384x3136⟩]
    concatenates_S16384x2048_S16384x512_S16384x256_S16384x64_S16384x64_S16384x64_S16384x3136_S16384x6144_d1

/-- A column of a head, from its head and lane. -/
theorem head_eq (Q : Fin 6144 → EReal) (C C' : Fin 6144) (e : Fin 64) (h : C'.val = C.val / 64 * 64 + e.val) : Q C' = Inproj.head Q (Inproj.headOf C) e :=
  congrArg Q (Fin.ext h)

theorem turned_eq (u v : Fin 64 → EReal) (p : Fin 2048) (C : Fin 6144) (d : Fin 64) (hu : ∀ e, u e = v e) (hd : d.val = C.val % 64) :
    Inproj.turned u p d = Inproj.turned v p (Inproj.laneOf C) := by
  rw [funext hu, show d = Inproj.laneOf C from Fin.ext hd]

theorem normed_eq (u v g : Fin 64 → EReal) (e : Fin 64) (hu : ∀ e, u e = v e) : Inproj.headNorm u g e = Inproj.headNorm v g e := by
  rw [funext hu]

theorem parts_apply (P : FVec Ideal S8x2048x6144 .f32) (R : Fin 16384) (C : Fin 6144) :
    parts gq gk P (ix2 R C)
      = Inproj.finished (fun C => P (ix3 ⟨R.val / 2048, by have := R.isLt; omega⟩ (Inproj.pos R) C)) (Inproj.pos R) (fun d => gq (ix2 0 d)) (fun d => gk (ix2 0 d)) C := by
  have hC := C.isLt
  pointwise [parts]
  split
  · next h => exact (Inproj.finished_mixers (fun C => P (ix3 _ _ C)) _ _ _ C h).symm
  split
  · next h1 h2 =>
    rw [Inproj.finished_queries _ _ _ _ C (by omega) (by omega)]
    refine congrArg (· * _) ((turn8_apply _ _ _ _ _).trans (turned_eq _ _ _ C _ (fun e => ?_) (show (C.val - 2048) % 64 = C.val % 64 by omega)))
    refine (norm8_apply _ _ _ _ _ _).trans (normed_eq _ _ _ _ fun e => ?_)
    refine (heads8_apply _ _ _ _ _).trans (head_eq (fun C => P (ix3 _ _ C)) C _ e ?_)
    show 2048 + ((C.val - 2048) / 64 * 64 + e.val) = C.val / 64 * 64 + e.val
    omega
  split
  · next h1 h2 h3 =>
    rw [Inproj.finished_indexQueries _ _ _ _ C (by omega) (by omega)]
    refine (turn4_apply _ _ _ _ _).trans (turned_eq _ _ _ C _ (fun e => ?_) (show (C.val - 2048 - 512) % 64 = C.val % 64 by omega))
    refine (heads4_apply _ _ _ _ _).trans (head_eq (fun C => P (ix3 _ _ C)) C _ e ?_)
    show 2560 + ((C.val - 2048 - 512) / 64 * 64 + e.val) = C.val / 64 * 64 + e.val
    omega
  split
  · next h1 h2 h3 h4 =>
    rw [Inproj.finished_keys _ _ _ _ C (by omega) (by omega)]
    refine (turn1_apply _ _ _ _).trans (turned_eq _ _ _ C _ (fun e => ?_) (show C.val - 2048 - 512 - 256 = C.val % 64 by omega))
    refine (norm1_apply _ _ _ _ _).trans (normed_eq _ _ _ _ fun e => ?_)
    refine (keys_apply _ _ _ _).trans (head_eq (fun C => P (ix3 _ _ C)) C _ e ?_)
    show 2816 + e.val = C.val / 64 * 64 + e.val
    omega
  split
  · next h1 h2 h3 h4 h5 =>
    rw [Inproj.finished_values _ _ _ _ C (by omega) (by omega)]
    refine congrArg (fun C => P (ix3 _ _ C)) (Fin.ext ?_)
    show 2880 + (C.val - 2048 - 512 - 256 - 64) = C.val
    omega
  split
  · next h1 h2 h3 h4 h5 h6 =>
    rw [Inproj.finished_indexKeys _ _ _ _ C (by omega) (by omega)]
    refine (turn1_apply _ _ _ _).trans (turned_eq _ _ _ C _ (fun e => ?_) (show C.val - 2048 - 512 - 256 - 64 - 64 = C.val % 64 by omega))
    refine (indexKeys_apply _ _ _ _).trans (head_eq (fun C => P (ix3 _ _ C)) C _ e ?_)
    show 2944 + e.val = C.val / 64 * 64 + e.val
    omega
  · next h1 h2 h3 h4 h5 h6 =>
    rw [Inproj.finished_rest _ _ _ _ C (by omega)]
    refine congrArg (fun C => P (ix3 _ _ C)) (Fin.ext ?_)
    show 3008 + (C.val - 2048 - 512 - 256 - 64 - 64 - 64) = C.val
    omega

theorem result_eq : (truncf .bf16 (parts gq gk (product x l w)) bitsLt_bf16_f32 : FVec Ideal S16384x6144 .bf16) = Inproj.result x l w gq gk := by
  funext j
  obtain ⟨R, C, rfl⟩ : ∃ (R : Fin 16384) (C : Fin 6144), j = ix2 R C := ⟨j 0, j 1, eq_ix2 j⟩
  refine (parts_apply gq gk (product x l w) R C).trans ?_
  refine congrArg (fun Q => Inproj.finished Q _ _ _ C) (funext fun C => (product_apply x l w _ _ C).trans ?_)
  refine congrArg (fun R => Inproj.proj x l w R C) (Fin.ext ?_)
  show R.val / 2048 * 2048 + R.val % 2048 = R.val
  omega
end

/-- What the program leaves in its result. -/
theorem run_result (m : (ℓ : Loc nD τ sig) → Buf (Elt Ideal) ℓ) (c : Dev nD) :
    Cert.Reference4Ideal.Value.res_main_v155 m c
      = Inproj.result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine Eq.trans ?_ (result_eq _ _ _ _ _)
  unfold Cert.Reference4Ideal.Value.res_main_v155
  rfl

end Cert.Reference4Ideal.Rows
end
-- ==== Proof.Finite.lean ====
module

public import proofs.«01_k».proof.Pre_finite_weights
public import Idealize.ShloMosaic.Lib.ReduceAll
public import Idealize.ShloMosaic.Lib.Pointwise

/-!
# What the second precondition says

The precondition reduces, by `and`, the test `|w| < ∞` over the first gain and the weight of the layer: their entries are numbers.
-/

@[expose] public section

namespace Cert.Finite
open Idealize.ShloMosaic Cert.Pre_finite_weights

/-- A value whose absolute value is below infinity is a number. -/
theorem real_of_abs_lt (v : EReal) (h : Ideal.cmp .olt (max v (-v)) ⊤ = 1#1) : ∃ r : ℝ, v = r := by
  induction v with
  | bot => revert h; simp [Ideal.cmp]
  | top => revert h; simp [Ideal.cmp]
  | coe r => exact ⟨r, rfl⟩

theorem and_left_one : ∀ p q : BitVec 1, IntOp.andi p q = 1#1 → p = 1#1 ∧ q = 1#1 := by decide

variable [Facts]

theorem weights_real (a0 : FVec Ideal S16384x1024 .f32) (a1 : FVec Ideal S2x1024 .f32) (a2 : FVec Ideal S2x1024x6144 .bf16) (a3 a4 : FVec Ideal S2x64 .f32)
    (h : fn (F := Ideal) a0 a1 a2 a3 a4 = fun _ => 1#1) :
    (∀ k : Fin 1024, ∃ r : ℝ, a1 (ix2 0 k) = r) ∧ ∀ (k : Fin 1024) (C : Fin 6144), ∃ r : ℝ, a2 (ix3 0 k C) = r := by
  have e := and_left_one _ _ (congrFun h (Shape.Idx.first Facts.h_S_))
  have t32 : (⊤ : EReal) = Ideal.ofBits FTy.f32 0x7F800000#32 := by simp [Ideal.ofBits, Ideal.ieee]
  have t16 : (⊤ : EReal) = Ideal.ofBits FTy.bf16 0x7F80#16 := by simp [Ideal.ofBits, Ideal.ieee]
  refine ⟨fun k => ?_, fun k C => ?_⟩
  · have q := Host.reduce_andi_all _ _ Facts.reducesTo_S1024_S_d0 Facts.h_S_ (Shape.Idx.first Facts.h_S_) e.1 (ix1 k)
    refine real_of_abs_lt _ (Eq.trans ?_ q)
    rw [t32]
    symm
    pointwise
    rfl
  · have q := Host.reduce_andi_all _ _ Facts.reducesTo_S1024x6144_S_d0_1 Facts.h_S_ (Shape.Idx.first Facts.h_S_) e.2 (ix2 k C)
    refine real_of_abs_lt _ (Eq.trans ?_ q)
    rw [t16]
    symm
    pointwise
    rfl

end Cert.Finite
end
-- ==== Proof.Combine.lean ====
module

public import Idealize.ShloMosaic.Lib.Pipeline.ValueKit
public import proofs.«01_k».proof.Kernel5Ideal

/-!
# The combination of the experts' results

A token's result is its residual plus, for each expert, its gate times the row its position names among the experts' rows.
A negative position names no row, and adds nothing. The kernel finds the row in the two blocks of 256 rows from the one
its table names, by comparing the position with every row of the two.
-/

@[expose] public section
noncomputable section
namespace Cert.Combine
open Idealize.ShloMosaic

/-- The element of column `d` of the row a position names; of a negative position, zero. -/
def picked (y : (⟨2, ![36864, 1024]⟩ : Shape).Idx → EReal) (p : BitVec 32) (d : Fin 1024) : EReal :=
  if h : p.toNat < 36864 then y (ix2 ⟨p.toNat, h⟩ d) else 0

/-- The combination of the experts' results, at an element. -/
def combined (x : (⟨2, ![16384, 1024]⟩ : Shape).Idx → EReal) (gate : (⟨2, ![16384, 128]⟩ : Shape).Idx → EReal)
    (pos : (⟨2, ![16384, 8]⟩ : Shape).Idx → BitVec 32) (y : (⟨2, ![36864, 1024]⟩ : Shape).Idx → EReal)
    (R : Fin 16384) (d : Fin 1024) : EReal :=
  x (ix2 R d) + ∑ e : Fin 8, gate (ix2 R ⟨e.val, by omega⟩) * picked y (pos (ix2 R e)) d

/-- A position is negative, or lies in the two blocks from the one named and inside the array. -/
def Inside (b p : BitVec 32) : Prop :=
  2 ^ 31 ≤ p.toNat ∨ (b.toNat * 256 ≤ p.toNat ∧ p.toNat < b.toNat * 256 + 512 ∧ p.toNat < 36864)

/-- Every position is negative or lies in the two blocks named for its tile of 256 tokens and its expert. -/
def AllInside (b : (⟨1, ![512]⟩ : Shape).Idx → BitVec 32) (p : (⟨2, ![16384, 8]⟩ : Shape).Idx → BitVec 32) : Prop :=
  ∀ (t : Fin 64) (r : Fin 256) (e : Fin 8), Inside (b (ix1 ⟨t.val * 8 + e.val, by omega⟩)) (p (ix2 ⟨t.val * 256 + r.val, by omega⟩ e))

/-! ## Comparing a position with every row of a block -/

/-- The rows of a block that a word equals the number of, summed: the row it names, or nothing. -/
theorem sum_named (q : BitVec 32) (f : Fin 256 → EReal) :
    ∑ x : Fin 256, Scalar.select (IntOp.cmpi .eq q (BitVec.ofNat 32 x.val)) (f x) 0
      = if h : q.toNat < 256 then f ⟨q.toNat, h⟩ else 0 := by
  have e : ∀ x : Fin 256, Scalar.select (IntOp.cmpi .eq q (BitVec.ofNat 32 x.val)) (f x) 0 = if q.toNat = x.val then f x else 0 := by
    intro x
    have hx : (BitVec.ofNat 32 x.val).toNat = x.val := by rw [BitVec.toNat_ofNat]; have := x.isLt; omega
    by_cases hq : q = BitVec.ofNat 32 x.val
    · rw [if_pos (by rw [hq, hx])]
      simp [Scalar.select, IntOp.cmpi, hq]
    · rw [if_neg (fun h => hq (BitVec.eq_of_toNat_eq (h.trans hx.symm)))]
      have hb : (q == BitVec.ofNat 32 x.val) = false := beq_false_of_ne hq
      simp [Scalar.select, IntOp.cmpi, hb]
  simp only [e]
  by_cases h : q.toNat < 256
  · rw [dif_pos h, Finset.sum_eq_single (⟨q.toNat, h⟩ : Fin 256)]
    · exact if_pos rfl
    · intro x _ hx; exact if_neg fun hq => hx (Fin.ext hq.symm)
    · intro hx; exact absurd (Finset.mem_univ _) hx
  · rw [dif_neg h]
    exact Finset.sum_eq_zero fun x _ => if_neg fun hq => h (lt_of_eq_of_lt hq x.isLt)

/-- What the two blocks give for a position. -/
def found (b p : BitVec 32) (y0 y1 : Fin 256 → EReal) : EReal :=
  (∑ x : Fin 256, Scalar.select (IntOp.cmpi .eq (IntOp.subi (IntOp.subi p (Scalar.muli b 256#32)) 0#32) (BitVec.ofNat 32 x.val)) (y0 x) 0)
    + ∑ x : Fin 256, Scalar.select (IntOp.cmpi .eq (IntOp.subi (IntOp.subi p (Scalar.muli b 256#32)) 256#32) (BitVec.ofNat 32 x.val)) (y1 x) 0

/-- The first row of one of the two blocks: the last block is the last of the array. -/
abbrev start (b : BitVec 32) (h : Fin 2) : ℕ := min (b.toNat + h.val) 143 * 256

theorem start_lt (b : BitVec 32) (h : Fin 2) (x : Fin 256) : start b h + x.val < 36864 := by
  have := x.isLt; unfold start; omega

/-- The two blocks give the row the position names. -/
theorem found_eq (y : (⟨2, ![36864, 1024]⟩ : Shape).Idx → EReal) (b p : BitVec 32) (d : Fin 1024) (hb : b.toNat < 144) (hp : Inside b p) :
    found b p (fun x => y (ix2 ⟨start b 0 + x.val, start_lt b 0 x⟩ d)) (fun x => y (ix2 ⟨start b 1 + x.val, start_lt b 1 x⟩ d)) = picked y p d := by
  have hm : (Scalar.muli b 256#32).toNat = b.toNat * 256 := by
    show (b * 256#32).toNat = _
    rw [BitVec.toNat_mul, show (256#32 : BitVec 32).toNat = 256 from rfl]; omega
  have h0 : (IntOp.subi (IntOp.subi p (Scalar.muli b 256#32)) 0#32).toNat = (p.toNat + (2 ^ 32 - b.toNat * 256)) % 2 ^ 32 := by
    show ((p - Scalar.muli b 256#32) - 0#32).toNat = _
    rw [BitVec.sub_zero, BitVec.toNat_sub, hm]; omega
  have h1 : (IntOp.subi (IntOp.subi p (Scalar.muli b 256#32)) 256#32).toNat = (p.toNat + (2 ^ 32 - b.toNat * 256) + (2 ^ 32 - 256)) % 2 ^ 32 := by
    show ((p - Scalar.muli b 256#32) - 256#32).toNat = _
    rw [BitVec.toNat_sub, BitVec.toNat_sub, hm, show (256#32 : BitVec 32).toNat = 256 from rfl]; omega
  have := p.isLt
  unfold found picked
  rw [sum_named, sum_named]
  rcases hp with hp | ⟨hl, hu, hn⟩
  · rw [dif_neg (by omega), dif_neg (by omega), dif_neg (by omega), add_zero]
  · rw [dif_pos hn]
    by_cases hs : p.toNat < b.toNat * 256 + 256
    · rw [dif_pos (by omega), dif_neg (by omega), add_zero]
      congr 2
      exact Fin.ext (by show start b 0 + _ = p.toNat; unfold start; simp only [Fin.val_zero]; omega)
    · rw [dif_neg (by omega), dif_pos (by omega), zero_add]
      congr 2
      exact Fin.ext (by show start b 1 + _ = p.toNat; unfold start; simp only [Fin.val_one]; omega)

end Cert.Combine
end
-- ==== Proof.CombineTile.lean ====
module

public import proofs.«01_k».proof.Proof.Combine
public import proofs.«01_k».proof.Proof.Gen.Kernel5Ideal.Frame
public import Idealize.ShloMosaic.Lib.VecWindow

/-!
# What a tile of the combination stores

The body adds the eight experts' shares to the residual, one after the other. Its loads are a column of the positions, a
column of the gates and the two blocks of rows, for each expert.
-/

@[expose] public section
set_option maxRecDepth 16384
noncomputable section
namespace Cert.Kernel5Ideal.Tiles
open Cert.Kernel5Ideal Cert.Kernel5Ideal.Gen
open Idealize.ShloMosaic
open Idealize.ShloMosaic.TcCoe
open Idealize.SL Idealize.SL.Sem

/-- The numbers of a block's rows. -/
abbrev lanes : IVec S256x256 32 := iota .tc S256x256 32 [1] iota_S256x256_d1_w32

/-- The residual and the experts' shares, in the order the body adds them. -/
def tile (x : Vec Ideal S256x1024 .f32) (b : Fin 8 → BitVec 32) (p : Fin 8 → Vec Ideal S256x1 .i32) (g : Fin 8 → Vec Ideal S256x1 .f32)
    (y : Fin 8 → Fin 2 → Vec Ideal S256x1024 .bf16) : Vec Ideal S256x1024 .f32 :=
  let a0 := k0_pay2 (F := Ideal) x (b 0) (p 0) (y 0 0) (y 0 1) (g 0)
  let a1 := k0_pay3 (F := Ideal) lanes a0 (b 1) (p 1) (y 1 0) (y 1 1) (g 1)
  let a2 := k0_pay4 (F := Ideal) lanes a1 (Scalar.muli (b 2) 256#32) (p 2) (y 2 0) (y 2 1) (g 2)
  let a3 := k0_pay7 (F := Ideal) lanes a2 (k0_pay5 (F := Ideal) (b 3) (p 3)) (k0_pay6 (F := Ideal) lanes (b 3) (p 3))
    (FloatOps.ofBits .f32 1065353216#32) (y 3 0) (y 3 1) (g 3)
  let a4 := k0_pay10 (F := Ideal) lanes a3 (k0_pay8 (F := Ideal) (b 4) (p 4)) (k0_pay9 (F := Ideal) lanes (b 4) (p 4)) (y 4 0) (y 4 1) (g 4)
  let a5 := k0_pay14 (F := Ideal) a4 (k0_pay12 (F := Ideal) lanes (b 5) (p 5) (y 5 0)) (k0_pay13 (F := Ideal) lanes (b 5) (p 5))
    (FloatOps.ofBits .f32 1065353216#32) (y 5 1) (g 5)
  let a6 := k0_pay18 (F := Ideal) a5 (k0_pay16 (F := Ideal) lanes (b 6) (p 6) (y 6 0)) (k0_pay17 (F := Ideal) lanes (b 6) (p 6)) (y 6 1) (g 6)
  k0_pay1 (F := Ideal) a6 (k0_pay19 (F := Ideal) lanes (b 7) (p 7) (y 7 0) (y 7 1) (g 7))

theorem tile_congr (x : Vec Ideal S256x1024 .f32) (y : Fin 8 → Fin 2 → Vec Ideal S256x1024 .bf16) {b b' : Fin 8 → BitVec 32}
    {p p' : Fin 8 → Vec Ideal S256x1 .i32} {g g' : Fin 8 → Vec Ideal S256x1 .f32} (hb : b = b') (hp : p = p') (hg : g = g') :
    tile x b p g y = tile x b' p' g' y := by subst hb hp hg; rfl

/-- A tile's element: the residual, and each expert's gate times the row its two blocks give. -/
theorem tile_apply (x : Vec Ideal S256x1024 .f32) (b : Fin 8 → BitVec 32) (p : Fin 8 → Vec Ideal S256x1 .i32) (g : Fin 8 → Vec Ideal S256x1 .f32)
    (y : Fin 8 → Fin 2 → Vec Ideal S256x1024 .bf16) (r : Fin 256) (d : Fin 1024) :
    tile x b p g y (ix2 r d) = x (ix2 r d) + ∑ e : Fin 8, g e (ix2 r 0)
      * Combine.found (b e) (p e (ix2 r 0)) (fun k => y e 0 (ix2 k d)) (fun k => y e 1 (ix2 k d)) := by
  unfold tile Combine.found
  rw [Fin.sum_univ_eight]
  pointwise [k0_pay1, k0_pay2, k0_pay3, k0_pay4, k0_pay5, k0_pay6, k0_pay7, k0_pay8, k0_pay9, k0_pay10, k0_pay11, k0_pay12, k0_pay13, k0_pay14,
    k0_pay15, k0_pay16, k0_pay17, k0_pay18, k0_pay19]
  simp only [add_assoc]

/-! ## The loads -/

/-- A column of a block, as loaded. -/
theorem column {w : ℕ} {e : EltTy} {arg : Memref sig .tc .vmem ⟨2, ![256, w]⟩ e} (h : arg.IsWhole) (x : Vec Ideal ⟨2, ![256, w]⟩ e) (k : Fin w)
    (inb : ∀ a, (![0, k.val] : Fin 2 → ℕ) a + S256x1.size a ≤ (⟨2, ![256, w]⟩ : Shape).size a) :
    (View.readAt (Elt Ideal) arg.view (Rect.unit (s := ⟨2, ![256, w]⟩) ![0, k.val] S256x1.size inb).toLoadRect (h.unread x) : Vec Ideal S256x1 e)
      = fun z => x (ix2 (z 0) k) := by
  funext z
  refine (View.readAt_apply _ _ _).trans ?_
  rw [h.read_unread]
  congr 1
  funext a
  apply Fin.ext
  have h1 : (z (1 : Fin 2)).val < 1 := (z (1 : Fin 2)).isLt
  fin_cases a
  · show 0 + 1 * (z 0).val = (z 0).val; omega
  · show k.val + 1 * (z 1).val = k.val; omega

/-- A block, as loaded. -/
theorem whole {e : EltTy} {arg : Memref sig .tc .vmem S256x1024 e} (h : arg.IsWhole) (x : Vec Ideal S256x1024 e) :
    View.readAt (Elt Ideal) arg.view (Rect.unit (s := S256x1024) ![0, 0] S256x1024.size inb_S256x1024_S256x1024_0_0).toLoadRect (h.unread x) = x :=
  (View.readAt_full arg.view _ _).trans (h.read_unread x)

/-- The number of a tile's table entry for an expert. -/
abbrev entry (i : grid0.Coords) (e : Fin 8) : S512.Idx :=
  ix1 ⟨(i 0).val * 8 + e.val, by have h : (i 0).val < 64 := (i 0).isLt; omega⟩

theorem off1_eq (i : grid0.Coords) (e : Fin 8) : k0_off1 i (BitVec.ofNat 32 e.val) = ![(i 0).val * 8 + e.val] := by
  have h : (i 0).val < 64 := (i 0).isLt
  have he := e.isLt
  funext a
  fin_cases a
  show (BitVec.ofNat 32 (i 0).val * 8#32 + BitVec.ofNat 32 e.val).toNat = (i 0).val * 8 + e.val
  rw [BitVec.toNat_add, BitVec.toNat_mul, BitVec.toNat_ofNat, BitVec.toNat_ofNat, BitVec.toNat_ofNat]
  omega

/-- A tile's table entry for an expert, as loaded. -/
theorem word (c : Dev nD) (i : grid0.Coords) (e : Fin 8) (tb : TbBuf0 (F := Ideal) c tbM0_0) (h : 0 < S1.numel) :
    View.readAt (Elt Ideal) tbM0_0.view (Rect.unit (s := S512) (k0_off1 i (BitVec.ofNat 32 e.val)) S1.size (k0_off1_inb i e)).toLoadRect tb (Shape.Idx.first h)
      = (tb : S512.Idx → BitVec 32) (entry i e) := by
  refine (View.readAt_apply _ _ _).trans ?_
  show (tb : S512.Idx → BitVec 32) _ = _
  congr 1
  funext a
  apply Fin.ext
  have q := congrFun (off1_eq i e) a
  show k0_off1 i (BitVec.ofNat 32 e.val) a + 1 * _ = _
  rw [q]
  fin_cases a
  rfl

/-! ## The tile -/

variable (m : (ℓ : Loc nD τ sig) → Buf (Elt Ideal) ℓ) (hO : Ok m) (c : Dev nD) (t : Fin (cfgM m hO).N)

/-- The two blocks of rows staged for an expert. -/
def rowsOf : Fin 8 → Fin 2 → Vec Ideal S256x1024 .bf16
  | 0, 0 => iblk m hO c 3 t | 0, 1 => iblk m hO c 4 t
  | 1, 0 => iblk m hO c 5 t | 1, 1 => iblk m hO c 6 t
  | 2, 0 => iblk m hO c 7 t | 2, 1 => iblk m hO c 8 t
  | 3, 0 => iblk m hO c 9 t | 3, 1 => iblk m hO c 10 t
  | 4, 0 => iblk m hO c 11 t | 4, 1 => iblk m hO c 12 t
  | 5, 0 => iblk m hO c 13 t | 5, 1 => iblk m hO c 14 t
  | 6, 0 => iblk m hO c 15 t | 6, 1 => iblk m hO c 16 t
  | 7, 0 => iblk m hO c 17 t | 7, 1 => iblk m hO c 18 t

/-- The table. -/
abbrev table : S512.Idx → BitVec 32 := tbl m 0

set_option maxHeartbeats 400000 in
/-- What a point leaves in the output's buffer. -/
theorem outs_eq : outsAt0 m hO c t = tile (iblk m hO c 0 t) (fun e => table m (entry (grid0.coords t) e))
    (fun e z => (iblk m hO c 2 t : Vec Ideal S256x8 .i32) (ix2 (z 0) e)) (fun e z => (iblk m hO c 1 t : Vec Ideal S256x128 .f32) (ix2 (z 0) ⟨e.val, by omega⟩))
    (rowsOf m hO c t) := by
  unfold outsAt0 out0_A_19 kernelRun0_A
  dsimp only
  refine (View.read_writes_full VO0_19 _ _ _ _).trans ?_
  have hp : ∀ e : Fin 8, ∀ a, (![0, e.val] : Fin 2 → ℕ) a + S256x1.size a ≤ S256x8.size a := by decide
  have hg : ∀ e : Fin 8, ∀ a, (![0, e.val] : Fin 2 → ℕ) a + S256x1.size a ≤ S256x128.size a := by decide
  have hw : 0 < S1.numel := by decide
  have e1 := funext fun e : Fin 8 => word c (grid0.coords t) e (tbl m 0) hw
  have e2 := funext fun e : Fin 8 => column (hs0_2 m hO t) (iblk m hO c 2 t) e (hp e)
  have e3 := funext fun e : Fin 8 => column (hs0_1 m hO t) (iblk m hO c 1 t) ⟨e.val, by omega⟩ (hg e)
  refine Eq.trans ?_ (tile_congr (iblk m hO c 0 t) (rowsOf m hO c t) e1 e2 e3)
  have w0 := whole (hs0_0 m hO t) (iblk m hO c 0 t)
  have w3 := whole (hs0_3 m hO t) (iblk m hO c 3 t)
  have w4 := whole (hs0_4 m hO t) (iblk m hO c 4 t)
  have w5 := whole (hs0_5 m hO t) (iblk m hO c 5 t)
  have w6 := whole (hs0_6 m hO t) (iblk m hO c 6 t)
  have w7 := whole (hs0_7 m hO t) (iblk m hO c 7 t)
  have w8 := whole (hs0_8 m hO t) (iblk m hO c 8 t)
  have w9 := whole (hs0_9 m hO t) (iblk m hO c 9 t)
  have w10 := whole (hs0_10 m hO t) (iblk m hO c 10 t)
  have w11 := whole (hs0_11 m hO t) (iblk m hO c 11 t)
  have w12 := whole (hs0_12 m hO t) (iblk m hO c 12 t)
  have w13 := whole (hs0_13 m hO t) (iblk m hO c 13 t)
  have w14 := whole (hs0_14 m hO t) (iblk m hO c 14 t)
  have w15 := whole (hs0_15 m hO t) (iblk m hO c 15 t)
  have w16 := whole (hs0_16 m hO t) (iblk m hO c 16 t)
  have w17 := whole (hs0_17 m hO t) (iblk m hO c 17 t)
  have w18 := whole (hs0_18 m hO t) (iblk m hO c 18 t)
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, w0, w3, w4, w5, w6, w7, w8, w9, w10, w11, w12, w13, w14, w15, w16, w17, w18]
  rfl

end Cert.Kernel5Ideal.Tiles
end
-- ==== Proof.CombineOk.lean ====
module

public import proofs.«01_k».proof.Proof.CombineTile
public import Idealize.ShloMosaic.Lib.Affine

/-!
# The blocks of rows lie inside the array

Where every block named is one of the array's, so is the next one, held back to the last.
-/

@[expose] public section
set_option maxRecDepth 16384
noncomputable section
namespace Cert.Kernel5Ideal.Tiles
open Cert.Kernel5Ideal Cert.Kernel5Ideal.Gen
open Idealize.ShloMosaic
open Idealize.ShloMosaic.TcCoe
open Idealize.SL Idealize.SL.Sem

variable {F : FTy → Type} [FloatOps F]

/-- The block staged for an expert, the first or the second of its two. -/
abbrev blockOf (pf : pre0.Contents (Elt F)) (i : grid0.Coords) (e : Fin 8) (z : Fin 2) : Fin 2 → ℕ :=
  ![(Scalar.minsi (Scalar.addi (pf.at 0 (Rect.unit (s := S512) (k0_off1 i (BitVec.ofNat 32 e.val)) S1.size (k0_off1_inb i e)) numel1_S1) (BitVec.ofNat 32 z.val)) 143#32).toNat, 0]

theorem at_eq (pf : pre0.Contents (Elt F)) (i : grid0.Coords) (e : Fin 8) :
    pf.at 0 (Rect.unit (s := S512) (k0_off1 i (BitVec.ofNat 32 e.val)) S1.size (k0_off1_inb i e)) numel1_S1 = pf 0 (entry i e) := by
  show pf 0 _ = pf 0 _
  congr 1
  funext a
  apply Fin.ext
  have h := congrFun (off1_eq i e) a
  show k0_off1 i _ a + 1 * _ = _
  rw [h]
  fin_cases a
  rfl

/-- The smaller of a block's number plus nought or one and the last block's. -/
theorem stop_eq (b : BitVec 32) (hb : b.toNat < 144) (z : Fin 2) :
    (Scalar.minsi (Scalar.addi b (BitVec.ofNat 32 z.val)) 143#32).toNat = min (b.toNat + z.val) 143 := by
  have hz := z.isLt
  have hs : (b + BitVec.ofNat 32 z.val).toNat = b.toNat + z.val := by
    rw [BitVec.toNat_add, BitVec.toNat_ofNat]; omega
  have hi : (b + BitVec.ofNat 32 z.val).toInt = b.toNat + z.val := by
    rw [BitVec.toInt_eq_toNat_cond, hs]; split <;> omega
  show (if (b + BitVec.ofNat 32 z.val).slt 143#32 then b + BitVec.ofNat 32 z.val else 143#32).toNat = _
  unfold BitVec.slt
  rw [hi, show (143#32 : BitVec 32).toInt = 143 from rfl]
  by_cases q : (b.toNat : ℤ) + z.val < 143
  · rw [if_pos (decide_eq_true q), hs]; omega
  · rw [if_neg (by simpa using q)]; show 143 = _; omega

theorem blockOf_eq (pf : pre0.Contents (Elt F)) (i : grid0.Coords) (e : Fin 8) (z : Fin 2) (h : (pf 0 (entry i e) : BitVec 32).toNat < 144) :
    blockOf pf i e z = ![min ((pf 0 (entry i e) : BitVec 32).toNat + z.val) 143, 0] := by
  unfold blockOf
  rw [at_eq, stop_eq _ h]

theorem inb (pf : pre0.Contents (Elt F)) (i : grid0.Coords) (e : Fin 8) (z : Fin 2) (h : (pf 0 (entry i e) : BitVec 32).toNat < 144) :
    ∀ a : Fin 2, (blockOf pf i e z a + 1) * S256x1024.size a ≤ S36864x1024.size a := by
  intro a
  rw [blockOf_eq pf i e z h]
  fin_cases a
  · show (min _ 143 + 1) * 256 ≤ 36864; omega
  · show (0 + 1) * 1024 ≤ 1024; omega

theorem ok_at (pf : pre0.Contents (Elt F)) (h : ∀ x : S512.Idx, (pf 0 x : BitVec 32).toNat < 144) (e : Fin 8) (z : Fin 2) (i : grid0.Coords) :
    ∃ h : (∀ a, (blockOf pf i e z a + 1) * S256x1024.size a ≤ S36864x1024.size a),
      EltTy.bits .bf16 = 32 ∨ (Rect.block (s := S36864x1024) S256x1024.size (blockOf pf i e z) h).WholeWords (EltTy.packing .bf16) :=
  ⟨inb pf i e z (h _), .inr (Affine.block_words_dvd (s := S36864x1024) (p := EltTy.packing .bf16) (by decide) (by decide))⟩

theorem ok_of_lt (pf : pre0.Contents (Elt F)) (h : ∀ x : S512.Idx, (pf 0 x : BitVec 32).toNat < 144) : ok0 pf :=
  ⟨ok_at pf h 0 0, ok_at pf h 0 1, ok_at pf h 1 0, ok_at pf h 1 1, ok_at pf h 2 0, ok_at pf h 2 1, ok_at pf h 3 0, ok_at pf h 3 1,
    ok_at pf h 4 0, ok_at pf h 4 1, ok_at pf h 5 0, ok_at pf h 5 1, ok_at pf h 6 0, ok_at pf h 6 1, ok_at pf h 7 0, ok_at pf h 7 1⟩

end Cert.Kernel5Ideal.Tiles
end
-- ==== Proof.CombineTables.lean ====
module

public import proofs.«01_k».proof.Proof.Combine
public import proofs.«01_k».proof.Pre_rows_in_blocks
public import Idealize.ShloMosaic.Lib.ReduceAll
public import Idealize.ShloMosaic.Lib.Pointwise

/-!
# What the precondition of the combination says

Every block named is a block of the array, and every position is negative or lies in the two blocks from the one named
for its tile and expert.
-/

@[expose] public section
namespace Cert.Combine
open Idealize.ShloMosaic Cert.Pre_rows_in_blocks

/-- Signed comparisons, as facts about the integers compared. -/
theorem of_sge {v w : BitVec 32} (h : IntOp.cmpi .sge v w = 1#1) : w.toInt ≤ v.toInt := by
  have a : w.sle v = true := by revert h; show BitVec.ofBool _ = 1#1 → _; cases w.sle v <;> simp
  simpa [BitVec.sle] using a
theorem of_slt {v w : BitVec 32} (h : IntOp.cmpi .slt v w = 1#1) : v.toInt < w.toInt := by
  have a : v.slt w = true := by revert h; show BitVec.ofBool _ = 1#1 → _; cases v.slt w <;> simp
  simpa [BitVec.slt] using a
theorem of_and {p q : BitVec 1} (h : IntOp.andi p q = 1#1) : p = 1#1 ∧ q = 1#1 := by
  revert p q; decide
theorem of_or {p q : BitVec 1} (h : IntOp.ori p q = 1#1) : p = 1#1 ∨ q = 1#1 := by
  revert p q; decide

theorem toInt_of_lt {v : BitVec 32} (h : v.toNat < 2 ^ 31) : v.toInt = v.toNat := by
  rw [BitVec.toInt_eq_toNat_cond]; split <;> omega

/-- A word between 0 and a number of blocks. -/
theorem lt_144 {v : BitVec 32} (h0 : IntOp.cmpi .sge v 0#32 = 1#1) (h1 : IntOp.cmpi .slt v 144#32 = 1#1) : v.toNat < 144 := by
  have p := of_sge h0
  have q := of_slt h1
  rw [show (0#32 : BitVec 32).toInt = 0 from rfl] at p
  rw [show (144#32 : BitVec 32).toInt = 144 from rfl] at q
  have := v.isLt
  rw [BitVec.toInt_eq_toNat_cond] at p q
  split at p <;> omega

/-- The test of a position, decoded. -/
theorem inside_of {b p : BitVec 32} (hb : b.toNat < 144)
    (h : IntOp.ori (IntOp.cmpi .slt p 0#32) (IntOp.andi (IntOp.andi (IntOp.cmpi .sge p (IntOp.muli b 256#32))
      (IntOp.cmpi .slt p (IntOp.addi (IntOp.muli b 256#32) 512#32))) (IntOp.cmpi .slt p 36864#32)) = 1#1) : Inside b p := by
  have hm : (IntOp.muli b 256#32).toNat = b.toNat * 256 := by
    show (b * 256#32).toNat = _
    rw [BitVec.toNat_mul, show (256#32 : BitVec 32).toNat = 256 from rfl]; omega
  have hs : (IntOp.addi (IntOp.muli b 256#32) 512#32).toNat = b.toNat * 256 + 512 := by
    show (IntOp.muli b 256#32 + 512#32).toNat = _
    rw [BitVec.toNat_add, hm, show (512#32 : BitVec 32).toNat = 512 from rfl]; omega
  have hp := p.isLt
  rcases of_or h with h | h
  · left
    have q := of_slt h
    rw [show (0#32 : BitVec 32).toInt = 0 from rfl, BitVec.toInt_eq_toNat_cond] at q
    split at q <;> omega
  · right
    obtain ⟨h, h3⟩ := of_and h
    obtain ⟨h1, h2⟩ := of_and h
    have q1 := of_sge h1
    have q2 := of_slt h2
    have q3 := of_slt h3
    rw [toInt_of_lt (by omega), hm] at q1
    rw [toInt_of_lt (v := IntOp.addi _ _) (by omega), hs] at q2
    rw [show (36864#32 : BitVec 32).toInt = 36864 from rfl] at q3
    rw [BitVec.toInt_eq_toNat_cond] at q1 q2 q3
    split at q1 <;> omega

/-- Positions inside their blocks are negative or inside the array. -/
theorem named_rows {a0 : IVec S512 32} {a3 : IVec S16384x8 32} (h : AllInside a0 a3) (j : S16384x8.Idx) :
    2 ^ 31 ≤ (a3 j).toNat ∨ (a3 j).toNat < 36864 := by
  obtain ⟨R, e, rfl⟩ : ∃ (R : Fin 16384) (e : Fin 8), j = ix2 R e := ⟨j 0, j 1, eq_ix2 j⟩
  have q := h ⟨R.val / 256, by omega⟩ ⟨R.val % 256, by omega⟩ e
  have hR : (⟨R.val / 256 * 256 + R.val % 256, by omega⟩ : Fin 16384) = R := Fin.ext (by show R.val / 256 * 256 + R.val % 256 = R.val; omega)
  simp only [hR] at q
  rcases q with q | q
  · exact .inl q
  · exact .inr q.2.2

variable [Facts] {F : FTy → Type} [FloatOps F]

theorem rows_in_blocks (a0 : IVec S512 32) (a1 : FVec F S16384x1024 .f32) (a2 : FVec F S16384x128 .f32) (a3 : IVec S16384x8 32)
    (a4 : FVec F S36864x1024 .bf16) (h : fn (F := F) a0 a1 a2 a3 a4 = fun _ => 1#1) :
    (∀ x, (a0 x).toNat < 144) ∧ AllInside a0 a3 := by
  have h' := of_and (congrFun h (Shape.Idx.first Facts.h_S_))
  have hb : ∀ x, (a0 x).toNat < 144 := fun x => by
    have e := of_and (Host.reduce_andi_all _ _ Facts.reducesTo_S512_S_d0 Facts.h_S_ (Shape.Idx.first Facts.h_S_) h'.1 x)
    exact lt_144 e.1 e.2
  refine ⟨hb, fun t r e => inside_of (hb _) ?_⟩
  refine Eq.trans ?_ (Host.reduce_andi_all _ _ Facts.reducesTo_S64x256x8_S_d0_1_2 Facts.h_S_ (Shape.Idx.first Facts.h_S_) h'.2 (ix3 t r e))
  symm
  pointwise

end Cert.Combine
end
-- ==== Proof.CombineBits.lean ====
module

public import proofs.«01_k».proof.Proof.CombineOk
public import proofs.«01_k».proof.Proof.CombineTables
public import proofs.«01_k».proof.Proof.Gen.Kernel5.Frame
public import proofs.«01_k».proof.Proof.Gen.Pre_rows_in_blocks

/-!
# The two programs of the combination run where the precondition holds
-/

@[expose] public section
set_option maxRecDepth 16384
noncomputable section
open Idealize.ShloMosaic
open Idealize.ShloMosaic.TcCoe

namespace Cert.Kernel5.Tiles
open Cert.Kernel5 Cert.Kernel5.Gen

/-- The precondition, of the memory a run starts from. -/
abbrev Adm (m : (ℓ : Loc nD τ sig) → Buf (Elt Bits) ℓ) : Prop :=
  ∀ c : Dev nD, Cert.Pre_rows_in_blocks.fn (F := Bits) (m (c.tc.loc main_arg0)) (m (c.tc.loc main_arg1)) (m (c.tc.loc main_arg2)) (m (c.tc.loc main_arg3)) (m (c.tc.loc main_arg4)) = fun _ => 1#1

theorem ok_of_lt (pf : pre0.Contents (Elt Bits)) (h : ∀ x : S512.Idx, (pf 0 x : BitVec 32).toNat < 144) : ok0 pf :=
  Cert.Kernel5Ideal.Tiles.ok_of_lt (F := Bits) pf h

theorem ok (m : (ℓ : Loc nD τ sig) → Buf (Elt Bits) ℓ) (hm : Adm m) : Ok m :=
  ok_of_lt _ (Cert.Combine.rows_in_blocks _ _ _ _ _ (hm 0)).1

end Cert.Kernel5.Tiles

namespace Cert.Kernel5Ideal.Tiles
open Cert.Kernel5Ideal Cert.Kernel5Ideal.Gen

/-- The precondition, of the memory a run starts from. -/
abbrev Adm (m : (ℓ : Loc nD τ sig) → Buf (Elt Ideal) ℓ) : Prop :=
  ∀ c : Dev nD, Cert.Pre_rows_in_blocks.fn (F := Ideal) (m (c.tc.loc main_arg0)) (m (c.tc.loc main_arg1)) (m (c.tc.loc main_arg2)) (m (c.tc.loc main_arg3)) (m (c.tc.loc main_arg4)) = fun _ => 1#1

theorem ok (m : (ℓ : Loc nD τ sig) → Buf (Elt Ideal) ℓ) (hm : Adm m) : Ok m :=
  ok_of_lt _ (Cert.Combine.rows_in_blocks _ _ _ _ _ (hm 0)).1

end Cert.Kernel5Ideal.Tiles
end
-- ==== Proof.CombineValue.lean ====
module

public import proofs.«01_k».proof.Proof.CombineBits
public import Idealize.ShloMosaic.Lib.Pipeline.ValueKit

/-!
# The kernel computes the combination
-/

@[expose] public section
set_option maxRecDepth 16384
noncomputable section
namespace Cert.Kernel5Ideal.Tiles
open Cert.Kernel5Ideal Cert.Kernel5Ideal.Gen
open Idealize.ShloMosaic
open Idealize.ShloMosaic.TcCoe
open Idealize.SL Idealize.SL.Sem

variable (m : (ℓ : Loc nD τ sig) → Buf (Elt Ideal) ℓ) (hO : Ok m) (c : Dev nD)

/-- The row of the array a tile holds at `r`. -/
abbrev row (t : Fin (cfgM m hO).N) (r : Fin 256) : Fin 16384 := ⟨t.val * 256 + r.val, by have h : t.val < 64 := t.isLt; have := r.isLt; omega⟩

theorem transform_0 : ∀ t : Fin grid0.N, cc0_transform_0 (grid0.coords t) = ![t.val, 0] := by decide +kernel
theorem transform_1 : ∀ t : Fin grid0.N, cc0_transform_1 (grid0.coords t) = ![t.val, 0] := by decide +kernel
theorem transform_2 : ∀ t : Fin grid0.N, cc0_transform_2 (grid0.coords t) = ![t.val, 0] := by decide +kernel
theorem transform_19 : ∀ t : Fin grid0.N, cc0_transform_19 (grid0.coords t) = ![t.val, 0] := by decide +kernel
theorem coords_val : ∀ t : Fin grid0.N, (grid0.coords t 0).val = t.val := by decide +kernel

theorem index_0 (t : Fin (cfgM m hO).N) : ((cfgM m hO).win (0 : Fin 20)).index t = ![t.val, 0] := transform_0 t
theorem index_1 (t : Fin (cfgM m hO).N) : ((cfgM m hO).win (1 : Fin 20)).index t = ![t.val, 0] := transform_1 t
theorem index_2 (t : Fin (cfgM m hO).N) : ((cfgM m hO).win (2 : Fin 20)).index t = ![t.val, 0] := transform_2 t
theorem index_19 (t : Fin (cfgM m hO).N) : ((cfgM m hO).win (19 : Fin 20)).index t = ![t.val, 0] := transform_19 t

abbrev residual : S16384x1024.Idx → EReal := m ((c : Thread nD τ).loc main_arg1)
abbrev gates : S16384x128.Idx → EReal := m ((c : Thread nD τ).loc main_arg2)
abbrev positions : S16384x8.Idx → BitVec 32 := m ((c : Thread nD τ).loc main_arg3)
abbrev experts : S36864x1024.Idx → EReal := m ((c : Thread nD τ).loc main_arg4)

theorem iblk0_apply (t : Fin (cfgM m hO).N) (r : Fin 256) (k : Fin 1024) :
    iblk m hO c 0 t (ix2 r k) = residual m c (ix2 (row m hO t r) k) := by
  show residual m c ((((cfgM m hO).win (0 : Fin 20)).blk t).view.emb (ix2 r k)) = _
  congr 1
  funext b
  apply Fin.ext
  fin_cases b
  · blk_simp; rw [index_0]; rfl
  · blk_simp; rw [index_0]; exact Nat.zero_add _
theorem iblk1_apply (t : Fin (cfgM m hO).N) (r : Fin 256) (k : Fin 128) :
    iblk m hO c 1 t (ix2 r k) = gates m c (ix2 (row m hO t r) k) := by
  show gates m c ((((cfgM m hO).win (1 : Fin 20)).blk t).view.emb (ix2 r k)) = _
  congr 1
  funext b
  apply Fin.ext
  fin_cases b
  · blk_simp; rw [index_1]; rfl
  · blk_simp; rw [index_1]; exact Nat.zero_add _
theorem iblk2_apply (t : Fin (cfgM m hO).N) (r : Fin 256) (k : Fin 8) :
    iblk m hO c 2 t (ix2 r k) = positions m c (ix2 (row m hO t r) k) := by
  show positions m c ((((cfgM m hO).win (2 : Fin 20)).blk t).view.emb (ix2 r k)) = _
  congr 1
  funext b
  apply Fin.ext
  fin_cases b
  · blk_simp; rw [index_2]; rfl
  · blk_simp; rw [index_2]; exact Nat.zero_add _

variable (hb : ∀ x : S512.Idx, (table m x).toNat < 144)

/-- The word naming a tile's block for an expert. -/
abbrev named (t : Fin (cfgM m hO).N) (e : Fin 8) : BitVec 32 := table m (entry (grid0.coords t) e)

include hb in
theorem block_eq (t : Fin (cfgM m hO).N) (e : Fin 8) (z : Fin 2) :
    blockOf (tbl m) (grid0.coords t) e z = ![min ((named m hO t e).toNat + z.val) 143, 0] :=
  blockOf_eq (tbl m) _ e z (hb _)

/-- An array read through a map that places a block at a number of rows. -/
theorem placed (f : S36864x1024.Idx → EReal) (E : S256x1024.Idx → S36864x1024.Idx) (q : Fin 2 → ℕ) (n : ℕ)
    (hE : ∀ y a, (E y a).val = q a * S256x1024.size a + (y a).val) (hq : q = ![n, 0]) (k : Fin 256) (d : Fin 1024) (hn : n * 256 + k.val < 36864) :
    f (E (ix2 k d)) = f (ix2 ⟨n * 256 + k.val, hn⟩ d) := by
  congr 1
  funext b
  apply Fin.ext
  rw [hE, hq]
  fin_cases b
  · rfl
  · exact Nat.zero_add _

include hb in
/-- A block of rows staged for an expert, at its place in the array. -/
theorem rowsOf_apply (t : Fin (cfgM m hO).N) (k : Fin 256) (d : Fin 1024) : ∀ (e : Fin 8) (z : Fin 2),
    rowsOf m hO c t e z (ix2 k d) = experts m c (ix2 ⟨Combine.start (named m hO t e) z + k.val, Combine.start_lt _ z k⟩ d) := by
  have at_ := fun (E : S256x1024.Idx → S36864x1024.Idx) e z (hE : ∀ y a, (E y a).val = blockOf (tbl m) (grid0.coords t) e z a * S256x1024.size a + (y a).val) =>
    placed (experts m c) E _ _ hE (block_eq m hO hb t e z) k d (Combine.start_lt _ z k)
  intro e z
  match e, z with
  | 0, 0 => exact at_ _ 0 0 fun y a => Pipeline.Window.rect_emb_val ((cfgM m hO).win (3 : Fin 20)) t y a rfl
  | 0, 1 => exact at_ _ 0 1 fun y a => Pipeline.Window.rect_emb_val ((cfgM m hO).win (4 : Fin 20)) t y a rfl
  | 1, 0 => exact at_ _ 1 0 fun y a => Pipeline.Window.rect_emb_val ((cfgM m hO).win (5 : Fin 20)) t y a rfl
  | 1, 1 => exact at_ _ 1 1 fun y a => Pipeline.Window.rect_emb_val ((cfgM m hO).win (6 : Fin 20)) t y a rfl
  | 2, 0 => exact at_ _ 2 0 fun y a => Pipeline.Window.rect_emb_val ((cfgM m hO).win (7 : Fin 20)) t y a rfl
  | 2, 1 => exact at_ _ 2 1 fun y a => Pipeline.Window.rect_emb_val ((cfgM m hO).win (8 : Fin 20)) t y a rfl
  | 3, 0 => exact at_ _ 3 0 fun y a => Pipeline.Window.rect_emb_val ((cfgM m hO).win (9 : Fin 20)) t y a rfl
  | 3, 1 => exact at_ _ 3 1 fun y a => Pipeline.Window.rect_emb_val ((cfgM m hO).win (10 : Fin 20)) t y a rfl
  | 4, 0 => exact at_ _ 4 0 fun y a => Pipeline.Window.rect_emb_val ((cfgM m hO).win (11 : Fin 20)) t y a rfl
  | 4, 1 => exact at_ _ 4 1 fun y a => Pipeline.Window.rect_emb_val ((cfgM m hO).win (12 : Fin 20)) t y a rfl
  | 5, 0 => exact at_ _ 5 0 fun y a => Pipeline.Window.rect_emb_val ((cfgM m hO).win (13 : Fin 20)) t y a rfl
  | 5, 1 => exact at_ _ 5 1 fun y a => Pipeline.Window.rect_emb_val ((cfgM m hO).win (14 : Fin 20)) t y a rfl
  | 6, 0 => exact at_ _ 6 0 fun y a => Pipeline.Window.rect_emb_val ((cfgM m hO).win (15 : Fin 20)) t y a rfl
  | 6, 1 => exact at_ _ 6 1 fun y a => Pipeline.Window.rect_emb_val ((cfgM m hO).win (16 : Fin 20)) t y a rfl
  | 7, 0 => exact at_ _ 7 0 fun y a => Pipeline.Window.rect_emb_val ((cfgM m hO).win (17 : Fin 20)) t y a rfl
  | 7, 1 => exact at_ _ 7 1 fun y a => Pipeline.Window.rect_emb_val ((cfgM m hO).win (18 : Fin 20)) t y a rfl

/-! ## The output -/

variable (hp : Combine.AllInside (table m) (positions m c))

include hp in
theorem inside (t : Fin (cfgM m hO).N) (r : Fin 256) (e : Fin 8) : Combine.Inside (named m hO t e) (positions m c (ix2 (row m hO t r) e)) := by
  have q := hp ⟨t.val, t.isLt⟩ r e
  have hn : entry (grid0.coords t) e = ix1 ⟨t.val * 8 + e.val, by have h : t.val < 64 := t.isLt; omega⟩ := by
    unfold entry
    congr 2
    exact congrArg (· * 8 + e.val) (coords_val t)
  show Combine.Inside (table m (entry (grid0.coords t) e)) _
  rw [hn]
  exact q

include hb hp in
/-- What a tile stores, at an element. -/
theorem outs_apply (t : Fin (cfgM m hO).N) (r : Fin 256) (d : Fin 1024) :
    outsAt0 m hO c t (ix2 r d) = Combine.combined (residual m c) (gates m c) (positions m c) (experts m c) (row m hO t r) d := by
  refine (congrFun (outs_eq m hO c t) _).trans ((tile_apply _ _ _ _ _ r d).trans ?_)
  unfold Combine.combined
  refine congrArg₂ (· + ·) (iblk0_apply m hO c t r d) (Finset.sum_congr rfl fun e _ => ?_)
  refine congrArg₂ (· * ·) (iblk1_apply m hO c t r _) ?_
  refine Eq.trans ?_ (Combine.found_eq (experts m c) (named m hO t e) _ d (hb _) (inside m hO c hp t r e))
  have h0 := funext fun k => rowsOf_apply m hO c hb t k d e 0
  have h1 := funext fun k => rowsOf_apply m hO c hb t k d e 1
  rw [h0, h1]
  exact congrArg (fun p => Combine.found (named m hO t e) p _ _) (iblk2_apply m hO c t r e)

include hb hp in
/-- The output array, once the run is over. -/
theorem out_eq : (dats m hO 0 c).arrAt (19 : Fin 20) (cfgM m hO).N
    = fun j : S16384x1024.Idx => Combine.combined (residual m c) (gates m c) (positions m c) (experts m c) (j 0) (j 1) := by
  refine (dats m hO 0 c).arrAt_eq_of_covers (19 : Fin 20) _ ⟨?_, ?_⟩ fun t hf y => ?_
  · intro b; fin_cases b
    · exact (by decide : 0 < 256)
    · exact (by decide : 0 < 1024)
  · intro ix
    have h0 : (ix (0 : Fin 2)).val < 64 := lt_of_lt_of_eq (ix (0 : Fin 2)).isLt (show (16384 + 256 - 1) / 256 = 64 from by norm_num)
    have h1 : (ix (1 : Fin 2)).val < 1 := lt_of_lt_of_eq (ix (1 : Fin 2)).isLt (show (1024 + 1024 - 1) / 1024 = 1 from by norm_num)
    refine ⟨⟨(ix (0 : Fin 2)).val, h0⟩, flush0_19 _ _, fun b => ⟨?_, .inl rfl⟩⟩
    rw [index_19]
    fin_cases b
    · rfl
    · show 0 = (ix (1 : Fin 2)).val
      omega
  · blk_simp
    rw [after0_19]
    obtain ⟨r, d, rfl⟩ : ∃ (r : Fin 256) (d : Fin 1024), y = ix2 r d := ⟨y 0, y 1, eq_ix2 y⟩
    refine (outs_apply m hO c hb hp t r d).trans (congrArg₂ (Combine.combined (residual m c) (gates m c) (positions m c) (experts m c)) ?_ ?_)
    · apply Fin.ext; blk_simp; rw [index_19]; rfl
    · apply Fin.ext; blk_simp; rw [index_19]; exact (Nat.zero_add _).symm

end Cert.Kernel5Ideal.Tiles
end
-- ==== Proof.CombineRef.lean ====
module

public import proofs.«01_k».proof.Proof.Combine
public import proofs.«01_k».proof.Proof.Gen.Reference5Ideal.Run

/-!
# The reference computes the combination

The reference reads, for each token and expert, the row at the position (at nought where the position is negative), and
multiplies it by the test that the position is not negative.
-/

@[expose] public section
set_option maxRecDepth 16384
noncomputable section
namespace Cert.Reference5Ideal.Rows
open Cert.Reference5Ideal Cert.Reference5Ideal.Gen Idealize.ShloMosaic

/-! ## Rows gathered by two indices -/

/-- The rows of an array at the numbers an array of indices holds: element `(t, j, k)` is column `k` of the row the index
    `(t, j)` names, read signed and held between nought and the last row. -/
theorem gather_apply {α : Type} (x : S36864x1024.Idx → α) (idx : IVec S16384x8x1 32) (t : Fin 16384) (j : Fin 8) (k : Fin 1024) :
    Host.gather gather_S36864x1024_S16384x8x1_S16384x8x1024_2_0_n_n_0_2_11024 x idx (ix3 t j k)
      = x (ix2 ⟨min (idx (ix3 t j 0)).toInt.toNat 36863, by omega⟩ k) := by
  unfold Host.gather
  congr 1
  funext a
  refine Fin.ext ?_
  generalize hG : gather_S36864x1024_S16384x8x1_S16384x8x1024_2_0_n_n_0_2_11024 = G
  show G.start (ix3 t j k) idx a + G.batchCoord (ix3 t j k) a + G.offCoord (ix3 t j k) a = _
  subst hG
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S36864x1024_S16384x8x1_S16384x8x1024_2_0_n_n_0_2_11024.startIndexMap from List.mem_singleton.mpr rfl)]
    have hsi : gather_S36864x1024_S16384x8x1_S16384x8x1024_2_0_n_n_0_2_11024.siIdx (ix3 t j k) ⟨List.idxOf (0 : Fin 2) gather_S36864x1024_S16384x8x1_S16384x8x1024_2_0_n_n_0_2_11024.startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    rfl
  · have hs : gather_S36864x1024_S16384x8x1_S16384x8x1024_2_0_n_n_0_2_11024.start (ix3 t j k) idx 1 = 0 := by
      unfold GatherDims.start
      rw [dif_neg (by decide)]
    rw [hs]
    simp only [Nat.zero_add, Nat.add_zero]
    unfold GatherDims.offCoord
    rw [dif_pos (by decide)]
    rfl

/-! ## The result -/

variable (x : FVec Ideal S16384x1024 .f32) (g : FVec Ideal S16384x128 .f32) (p : IVec S16384x8 32) (y : FVec Ideal S36864x1024 .bf16)

/-- A position, nought where it is negative, and the row it reads. -/
abbrev held : IVec S16384x8 32 := maxsi p (broadcastInDim S16384x8 ![] bcast_S_S16384x8 (constantI S_ 32 0#32))
abbrev wrapped : IVec S16384x8 32 :=
  select (cmpi .slt (held p) (broadcastInDim S16384x8 ![] bcast_S_S16384x8 (constantI S_ 32 0#32)))
    (addi (held p) (broadcastInDim S16384x8 ![] bcast_S_S16384x8 (constantI S_ 32 36864#32))) (held p)

/-- The rows picked. -/
abbrev pickedRows : FVec Ideal S16384x8x1024 .f32 :=
  mulf (extf .f32 (Host.gather gather_S36864x1024_S16384x8x1_S16384x8x1024_2_0_n_n_0_2_11024 y
      (broadcastInDim S16384x8x1 ![0, 1] bcast_S16384x8_S16384x8x1_0_1 (wrapped p))) bitsLt_bf16_f32)
    (broadcastInDim S16384x8x1024 ![0, 1, 2] bcast_S16384x8x1_S16384x8x1024_0_1_2 (uitofp .f32
      (broadcastInDim S16384x8x1 ![0, 1] bcast_S16384x8_S16384x8x1_0_1 (cmpi .sge p (broadcastInDim S16384x8 ![] bcast_S_S16384x8 (constantI S_ 32 0#32))))))

/-- What the reference's result holds. -/
abbrev result : FVec Ideal S16384x1024 .f32 :=
  addf x (Host.reduceAdd (mulf (broadcastInDim S16384x8x1024 ![0, 1, 2] bcast_S16384x8x1_S16384x8x1024_0_1_2
      (broadcastInDim S16384x8x1 ![0, 1] bcast_S16384x8_S16384x8x1_0_1 (extractStridedSlice S16384x8 ![0, 0] g slices_S16384x128_S16384x8_0_0)))
    (pickedRows p y)) (constant S_ .f32 0x00000000#32) reducesTo_S16384x8x1024_S16384x1024_d1 h_S_)

/-- A position inside the array is read as it is; a negative one as nought. -/
theorem wrapped_eq (j : S16384x8.Idx) (h : 2 ^ 31 ≤ (p j).toNat ∨ (p j).toNat < 36864) :
    (wrapped p j).toInt.toNat = if (p j).toNat < 36864 then (p j).toNat else 0 := by
  have e : wrapped p j = Scalar.select (IntOp.cmpi .slt (IntOp.maxsi (p j) 0#32) 0#32) (IntOp.addi (IntOp.maxsi (p j) 0#32) 36864#32) (IntOp.maxsi (p j) 0#32) := rfl
  rw [e]
  generalize p j = v at h
  have hv := v.isLt
  have hs : v.slt 0#32 = decide (2 ^ 31 ≤ v.toNat) := by
    unfold BitVec.slt
    rw [BitVec.toInt_eq_toNat_cond, show (0#32 : BitVec 32).toInt = 0 from rfl]
    congr 1
    split <;> exact propext ⟨fun _ => by omega, fun _ => by omega⟩
  have hm : IntOp.maxsi v 0#32 = if v.toNat < 36864 then v else 0#32 := by
    show (if (0#32 : BitVec 32).slt v then v else 0#32) = _
    unfold BitVec.slt
    rw [BitVec.toInt_eq_toNat_cond v, show (0#32 : BitVec 32).toInt = 0 from rfl]
    by_cases q : v.toNat < 36864
    · rw [if_pos q, if_pos (show 2 * v.toNat < 2 ^ 32 by omega)]
      by_cases z : v.toNat = 0
      · rw [if_neg (by simp [z])]; exact (BitVec.eq_of_toNat_eq z).symm
      · exact if_pos (decide_eq_true (by omega))
    · rw [if_neg q, if_neg (by rw [if_neg (by omega)]; simp; omega)]
  rw [hm]
  by_cases q : v.toNat < 36864
  · have hc : IntOp.cmpi .slt v 0#32 = 0#1 := by
      show BitVec.ofBool (v.slt 0#32) = _
      rw [hs, decide_eq_false (by omega)]; rfl
    rw [if_pos q, hc, ValueIdx.select_zero, if_pos q, BitVec.toInt_eq_toNat_cond, if_pos (by omega)]
    exact Int.toNat_natCast _
  · rw [if_neg q, if_neg q]; rfl

theorem pickedRows_apply (t : Fin 16384) (e : Fin 8) (d : Fin 1024) (h : 2 ^ 31 ≤ (p (ix2 t e)).toNat ∨ (p (ix2 t e)).toNat < 36864) :
    pickedRows p y (ix3 t e d) = Combine.picked y (p (ix2 t e)) d := by
  have q : pickedRows p y (ix3 t e d) = Host.gather gather_S36864x1024_S16384x8x1_S16384x8x1024_2_0_n_n_0_2_11024 y
      (broadcastInDim S16384x8x1 ![0, 1] bcast_S16384x8_S16384x8x1_0_1 (wrapped p)) (ix3 t e d)
        * FloatOps.uitofp (F := Ideal) .f32 (IntOp.cmpi .sge (p (ix2 t e)) 0#32) := by
    pointwise
  have z : (2 ^ 31 ≤ (p (ix2 t e)).toNat ∧ IntOp.cmpi .sge (p (ix2 t e)) 0#32 = 0#1) ∨ ((p (ix2 t e)).toNat < 36864 ∧ IntOp.cmpi .sge (p (ix2 t e)) 0#32 = 1#1) := by
    have hi : IntOp.cmpi .sge (p (ix2 t e)) 0#32 = BitVec.ofBool (decide ((0 : ℤ) ≤ (p (ix2 t e)).toInt)) := rfl
    rw [hi, BitVec.toInt_eq_toNat_cond]
    rcases h with h | h
    · exact .inl ⟨h, by rw [if_neg (by omega), decide_eq_false (by have := (p (ix2 t e)).isLt; omega)]; rfl⟩
    · exact .inr ⟨h, by rw [if_pos (by omega), decide_eq_true (by omega)]; rfl⟩
  have place : ∀ w : IVec S16384x8 32, broadcastInDim S16384x8x1 ![0, 1] bcast_S16384x8_S16384x8x1_0_1 w (ix3 t e 0) = w (ix2 t e) := fun w => by pointwise
  rw [q, gather_apply]
  unfold Combine.picked
  rcases z with ⟨z, c⟩ | ⟨z, c⟩
  · rw [c, dif_neg (by omega), show FloatOps.uitofp (F := Ideal) .f32 0#1 = (0 : EReal) from by simp [FloatOps.uitofp]]
    exact mul_zero _
  · rw [c, dif_pos z, show FloatOps.uitofp (F := Ideal) .f32 1#1 = (1 : EReal) from by simp [FloatOps.uitofp]]
    refine (mul_one _).trans ?_
    refine congrArg (fun R => y (ix2 R d)) (Fin.ext ?_)
    show min (broadcastInDim S16384x8x1 ![0, 1] bcast_S16384x8_S16384x8x1_0_1 (wrapped p) (ix3 t e 0)).toInt.toNat 36863 = _
    rw [place, wrapped_eq p _ h, if_pos z]
    show min (p (ix2 t e)).toNat 36863 = (p (ix2 t e)).toNat
    omega

theorem result_eq (h : ∀ j, 2 ^ 31 ≤ (p j).toNat ∨ (p j).toNat < 36864) :
    result x g p y = fun j : S16384x1024.Idx => Combine.combined x g p y (j 0) (j 1) := by
  funext j
  obtain ⟨R, d, rfl⟩ : ∃ (R : Fin 16384) (d : Fin 1024), j = ix2 R d := ⟨j 0, j 1, eq_ix2 j⟩
  show result x g p y (ix2 R d) = Combine.combined x g p y R d
  have e := fun e => pickedRows_apply p y R e d (h _)
  unfold Combine.combined
  simp only [← e]
  unfold result
  generalize pickedRows p y = w
  pointwise

end Cert.Reference5Ideal.Rows
end
-- ==== Proof.Router.lean ====
module

public import proofs.«01_k».proof.Proof.Inproj
public import Idealize.ShloMosaic.Lib.SortFacts

/-!
# The router's gates

Of a row's eight logits the two greatest are chosen, of equal ones the earlier; the gates are their softmax, at the chosen
experts, and zero elsewhere (`gate`). `place` is the order by falling logit.
-/

@[expose] public section
noncomputable section
namespace Cert.Router
open Idealize.ShloMosaic

/-- `a` is ahead of `b`: its value is greater, or it is equal and `a` is earlier. -/
def Ahead (L : Fin 8 → EReal) (a b : Fin 8) : Prop := L b < L a ∨ (L b = L a ∧ a < b)

/-- The test by which the values are sorted. -/
def greater (L : Fin 8 → EReal) (a b : Fin 8) : Bool := FloatOps.cmpfTotal (F := Ideal) (φ := .f32) .gt (L a) (L b) == 1#1

theorem greater_iff (L : Fin 8 → EReal) (a b : Fin 8) : greater L a b = true ↔ L b < L a := by
  unfold greater
  rw [beq_iff_eq]
  show Ideal.cmp (CmpDirection.gt.ordered) (L a) (L b) = 1#1 ↔ _
  show BitVec.ofBool (decide (L b < L a)) = 1#1 ↔ _
  by_cases h : L b < L a <;> simp [h]

/-- The expert at a place in the order. -/
def place (L : Fin 8 → EReal) (k : Fin 8) : Fin 8 := sortedFrom (greater L) k

theorem mem_insertBefore (L : Fin 8 → EReal) (a b : Fin 8) (l : List (Fin 8)) : b ∈ insertBefore (greater L) a l ↔ b = a ∨ b ∈ l := by
  rw [(perm_insertBefore (greater L) a l).mem_iff, List.mem_cons]

/-- An expert inserted before later ones, which are in order, is inserted in order. -/
theorem insert_ordered (L : Fin 8 → EReal) (a : Fin 8) (l : List (Fin 8)) (h : l.Pairwise (Ahead L)) (ha : ∀ b ∈ l, a < b) :
    (insertBefore (greater L) a l).Pairwise (Ahead L) := by
  induction l with
  | nil => simp [insertBefore]
  | cons b l ih =>
    obtain ⟨hb, hl⟩ := List.pairwise_cons.mp h
    unfold insertBefore
    split
    case isTrue g =>
      refine List.pairwise_cons.mpr ⟨fun c hc => ?_, ih hl fun c hc => ha c (List.mem_cons_of_mem _ hc)⟩
      rcases (mem_insertBefore L a c l).mp hc with rfl | hc
      · exact .inl ((greater_iff L _ _).mp g)
      · exact hb c hc
    case isFalse g =>
      have hab : L b ≤ L a := not_lt.mp fun hlt => g ((greater_iff L b a).mpr hlt)
      refine List.pairwise_cons.mpr ⟨fun c hc => ?_, h⟩
      have hc' : L c ≤ L a := by
        rcases List.mem_cons.mp hc with rfl | hc
        · exact hab
        · exact le_trans ((hb c hc).elim le_of_lt fun e => e.1.le) hab
      exact hc'.lt_or_eq.imp_right fun e => ⟨e, ha c hc⟩

/-- The sort of a rising list is in order. -/
theorem sort_ordered (L : Fin 8 → EReal) (l : List (Fin 8)) (h : l.Pairwise (· < ·)) : (stableSort (greater L) l).Pairwise (Ahead L) := by
  induction l with
  | nil => exact List.Pairwise.nil
  | cons a l ih =>
    obtain ⟨ha, hl⟩ := List.pairwise_cons.mp h
    exact insert_ordered L a _ (ih hl) fun b hb => ha b ((perm_stableSort (greater L) l).mem_iff.mp hb)

theorem place_ahead (L : Fin 8 → EReal) (i k : Fin 8) (h : i < k) : Ahead L (place L i) (place L k) :=
  List.pairwise_iff_get.mp (sort_ordered L (List.finRange 8) (List.pairwise_lt_finRange 8)) _ _ h

/-- The expert at the first place is ahead of all others. -/
theorem first_ahead (L : Fin 8 → EReal) (j : Fin 8) (h : j ≠ place L 0) : Ahead L (place L 0) j := by
  obtain ⟨k, rfl⟩ := sortedFrom_surjective (greater L) j
  have hk : k.val ≠ 0 := fun e => h (congrArg (sortedFrom (greater L)) (Fin.ext e : k = 0))
  exact place_ahead L 0 k (by rw [Fin.lt_def]; show 0 < k.val; omega)

/-- The expert at the second place is ahead of all others but the first. -/
theorem second_ahead (L : Fin 8 → EReal) (j : Fin 8) (h0 : j ≠ place L 0) (h1 : j ≠ place L 1) : Ahead L (place L 1) j := by
  obtain ⟨k, rfl⟩ := sortedFrom_surjective (greater L) j
  have hk0 : k.val ≠ 0 := fun e => h0 (congrArg (sortedFrom (greater L)) (Fin.ext e : k = 0))
  have hk1 : k.val ≠ 1 := fun e => h1 (congrArg (sortedFrom (greater L)) (Fin.ext e : k = 1))
  exact place_ahead L 1 k (by rw [Fin.lt_def]; show 1 < k.val; omega)

theorem places_differ (L : Fin 8 → EReal) : place L 1 ≠ place L 0 := fun e => absurd (sortedFrom_injective (greater L) e) (by decide)

/-- What the second choice's logit adds to the softmax's denominator, the first's adding 1. -/
def rest (L : Fin 8 → EReal) : EReal := Ideal.exp (L (place L 1) - L (place L 0))

/-- The gate of an expert. -/
def gate (L : Fin 8 → EReal) (e : Fin 8) : EReal :=
  (if e = place L 0 then Ideal.div 1 (1 + rest L) else 0) + (if e = place L 1 then Ideal.div (rest L) (1 + rest L) else 0)

/-- A row's logits. -/
def logits (h : (⟨2, ![16384, 1024]⟩ : Shape).Idx → EReal) (w : (⟨3, ![1, 1024, 8]⟩ : Shape).Idx → EReal) (R : Fin 16384) (e : Fin 8) : EReal :=
  ∑ k : Fin 1024, h (ix2 R k) * w (ix3 0 k e)

/-- The gates, in the first 8 of 128 lanes. -/
def gates (h : (⟨2, ![16384, 1024]⟩ : Shape).Idx → EReal) (w : (⟨3, ![1, 1024, 8]⟩ : Shape).Idx → EReal) : (⟨2, ![16384, 128]⟩ : Shape).Idx → EReal := fun j =>
  if hj : (j 1).val < 8 then gate (logits h w (j 0)) ⟨(j 1).val, hj⟩ else 0

/-- The logits of normed rows are numbers if the scale and the router's weight are. -/
theorem logits_real (x : (⟨2, ![16384, 1024]⟩ : Shape).Idx → EReal) (l : (⟨2, ![1, 1024]⟩ : Shape).Idx → EReal) (w : (⟨3, ![1, 1024, 8]⟩ : Shape).Idx → EReal)
    (hl : ∀ k, ∃ r : ℝ, l (ix2 0 k) = r) (hw : ∀ k e, ∃ r : ℝ, w (ix3 0 k e) = r) (R : Fin 16384) (e : Fin 8) : ∃ r : ℝ, logits (Merge.normed x l) w R e = r := by
  choose a ha using fun k => Inproj.scaled_real (fun k => x (ix2 R k)) k (l (ix2 0 k)) (hl _)
  choose b hb using hw
  refine ⟨∑ k, a k * b k e, ?_⟩
  unfold logits
  rw [Inproj.sum_real]
  refine Finset.sum_congr rfl fun k _ => ?_
  rw [EReal.coe_mul, ← ha, ← hb]
  rfl

end Cert.Router
end
-- ==== Proof.RouterPick.lean ====
module

public import proofs.«01_k».proof.Proof.Router

/-!
# Choosing by maxima

Over 128 lanes, of which the first 8 hold logits and the others −∞, the greatest value is that of the expert ahead of all
others, and the least lane that holds it is that expert's (`greatest`, `least_lane`). With that expert's logit replaced by −∞
the same finds the second choice (`without`).
-/

@[expose] public section
noncomputable section
namespace Cert.Router
open Idealize.ShloMosaic

/-- The signed minimum of words, as integers. -/
theorem toInt_minsi (x y : BitVec 32) : (IntOp.minsi x y).toInt = min x.toInt y.toInt := by
  unfold IntOp.minsi
  by_cases h : x.slt y = true
  · rw [if_pos h]
    exact (min_eq_left (le_of_lt (BitVec.slt_iff_toInt_lt.mp h))).symm
  · rw [if_neg h]
    exact (min_eq_right (not_lt.mp fun l => h (BitVec.slt_iff_toInt_lt.mpr l))).symm

/-- A lane's number, as an integer. -/
theorem toInt_lane (n : Nat) (h : n ≤ 128) : (BitVec.ofNat 32 n).toInt = n := by
  rw [BitVec.toInt_eq_toNat_of_lt] <;> rw [BitVec.toNat_ofNat, Nat.mod_eq_of_lt (by omega)]
  omega

/-- The minimum of words up to 128 is the word that none is below. -/
theorem min_words (g : Fin 128 → Nat) (i : Nat) (hg : ∀ x, g x ≤ 128) (hex : ∃ x, g x = i) (hall : ∀ x, i ≤ g x) :
    Finset.fold IntOp.minsi (2147483647#32) (fun x => BitVec.ofNat 32 (g x)) Finset.univ = BitVec.ofNat 32 i := by
  obtain ⟨x₀, hx⟩ := hex
  have hi : i ≤ 128 := hx ▸ hg x₀
  refine BitVec.eq_of_toInt_eq ?_
  rw [← Finset.fold_hom (op' := min) (m := BitVec.toInt) toInt_minsi, toInt_lane i hi]
  refine le_antisymm ?_ ?_
  · refine (Finset.fold_min_le _).mpr (.inr ⟨x₀, Finset.mem_univ _, ?_⟩)
    rw [toInt_lane _ (hg x₀), hx]
  · refine (Finset.le_fold_min _).mpr ⟨?_, fun x _ => ?_⟩
    · rw [show (2147483647#32 : BitVec 32).toInt = 2147483647 from by decide]
      omega
    · rw [toInt_lane _ (hg x)]
      exact_mod_cast hall x

/-- Eight logits in the first of 128 lanes, −∞ in the others. -/
def spread (P : Fin 8 → EReal) (j : Fin 128) : EReal := if h : j.val < 8 then P ⟨j.val, h⟩ else ⊥

/-- An expert's lane. -/
def lane (f : Fin 8) : Fin 128 := ⟨f.val, by have := f.isLt; omega⟩

theorem spread_lane (P : Fin 8 → EReal) (f : Fin 8) : spread P (lane f) = P f := dif_pos f.isLt

section
variable (P : Fin 8 → EReal) (f : Fin 8) (hf : P f ≠ ⊥) (h : ∀ j, j ≠ f → Ahead P f j)
include h

/-- The greatest value of the lanes. -/
theorem greatest : Finset.fold max ⊥ (spread P) Finset.univ = P f := by
  refine le_antisymm ((Finset.fold_max_le _).mpr ⟨bot_le, fun j _ => ?_⟩) ((Finset.le_fold_max _).mpr (.inr ⟨lane f, Finset.mem_univ _, (spread_lane P f).ge⟩))
  unfold spread
  split
  · by_cases e : (⟨j.val, ‹_›⟩ : Fin 8) = f
    · rw [e]
    · exact (h _ e).elim le_of_lt fun q => q.1.le
  · exact bot_le

include hf in
/-- The least lane that holds it. -/
theorem least_lane : Finset.fold IntOp.minsi (2147483647#32) (fun x => if spread P x = P f then BitVec.ofNat 32 x.val else 128#32) Finset.univ = BitVec.ofNat 32 f.val := by
  have e : (fun x : Fin 128 => if spread P x = P f then BitVec.ofNat 32 x.val else 128#32) = fun x => BitVec.ofNat 32 (if spread P x = P f then x.val else 128) :=
    funext fun x => (apply_ite (BitVec.ofNat 32) _ _ _).symm
  rw [e]
  refine min_words _ _ (fun x => ?_) ⟨lane f, if_pos (spread_lane P f)⟩ fun x => ?_
  · have := x.isLt
    split <;> omega
  · split
    case isFalse => exact le_trans f.isLt.le (by decide)
    case isTrue q =>
      by_cases hx : x.val < 8
      · rw [spread, dif_pos hx] at q
        by_cases e : (⟨x.val, hx⟩ : Fin 8) = f
        · exact (congrArg Fin.val e).ge
        · exact (h _ e).elim (fun l => absurd q l.ne) fun l => le_of_lt (Fin.lt_def.mp l.2)
      · rw [spread, dif_neg hx] at q
        exact absurd q.symm hf

end

/-- The logits with the first choice's replaced by −∞. -/
def without (L : Fin 8 → EReal) (j : Fin 8) : EReal := if j = place L 0 then ⊥ else L j

theorem without_second (L : Fin 8 → EReal) : without L (place L 1) = L (place L 1) := if_neg (places_differ L)

/-- The second choice is ahead of all others once the first is taken away. -/
theorem without_ahead (L : Fin 8 → EReal) (hL : ∀ e, ∃ r : ℝ, L e = r) (j : Fin 8) (h : j ≠ place L 1) : Ahead (without L) (place L 1) j := by
  unfold Ahead
  rw [without_second]
  unfold without
  split
  · obtain ⟨r, hr⟩ := hL (place L 1)
    exact .inl (hr ▸ EReal.bot_lt_coe r)
  · exact second_ahead L j ‹_› h

theorem real_ne_bot {x : EReal} (h : ∃ r : ℝ, x = r) : x ≠ ⊥ := by
  obtain ⟨r, rfl⟩ := h
  exact EReal.coe_ne_bot r

end Cert.Router
end
-- ==== Proof.RouterTile.lean ====
module

public import proofs.«01_k».proof.Proof.MergeValue
public import proofs.«01_k».proof.Proof.RouterPick
public import proofs.«01_k».proof.Proof.Gen.Kernel6Ideal.Value
public import Idealize.ShloMosaic.Lib.Pipeline.ValueKit

/-!
# The kernel's gates of one tile
-/

@[expose] public section
set_option maxRecDepth 16384
noncomputable section
namespace Cert.Kernel6Ideal.Rows
open Cert.Kernel6Ideal Cert.Kernel6Ideal.Gen
open Idealize.ShloMosaic Cert.Router

variable (u v : FVec Ideal S512x1024 .f32) (w : Vec Ideal S1024x128 .bf16) (r : Fin 512)

/-- The logits of a row of the tile, from the row, the scale and the router's weight. -/
def tileLogits (e : Fin 8) : EReal := ∑ k : Fin 1024, u (ix2 r k) * v (ix2 r k) * w (ix2 k (lane e))

theorem bottom : Ideal.ofBits FTy.f32 4286578688#32 = ⊥ := by simp [Ideal.ofBits, Ideal.ieee]

theorem below_eight (j : Fin 128) : IntOp.cmpi CmpIPredicate.slt (BitVec.ofNat 32 j.val) 8#32 = if j.val < 8 then 1#1 else 0#1 := by
  revert j
  decide

theorem pay6_apply (j : Fin 128) : k0_pay6 u v w (ix2 r j) = spread (tileLogits u v w r) j := by
  pointwise [k0_pay6, k0_pay5]
  rw [below_eight, bottom]
  unfold spread
  by_cases h : j.val < 8
  · rw [if_pos h, dif_pos h]
    rfl
  · rw [if_neg h, dif_neg h]
    rfl

/-- A choice by a lane's number. -/
theorem chosen (j : Fin 128) (f : Fin 8) (a b : EReal) : Scalar.select (IntOp.cmpi CmpIPredicate.eq (BitVec.ofNat 32 j.val) (BitVec.ofNat 32 f.val)) a b = if j.val = f.val then a else b := by
  have h : IntOp.cmpi CmpIPredicate.eq (BitVec.ofNat 32 j.val) (BitVec.ofNat 32 f.val) = if j.val = f.val then 1#1 else 0#1 := by
    revert j f
    decide
  rw [h]
  split <;> rfl

section
variable (hL : ∀ e, ∃ x : ℝ, tileLogits u v w r e = x)
include hL

theorem pay7_apply : k0_pay7 u v w (ix2 r 0) = tileLogits u v w r (place (tileLogits u v w r) 0) := by
  pointwise [k0_pay7]
  rw [bottom]
  simp only [pay6_apply]
  exact greatest _ _ (first_ahead _)

theorem pay8_apply : k0_pay8 u v w (ix2 r 0) = BitVec.ofNat 32 (place (tileLogits u v w r) 0).val := by
  pointwise [k0_pay8]
  simp only [pay6_apply, pay7_apply u v w r hL]
  exact least_lane _ _ (real_ne_bot (hL _)) (first_ahead _)

theorem pay9_apply (j : Fin 128) : k0_pay9 u v w (ix2 r j) = spread (without (tileLogits u v w r)) j := by
  pointwise [k0_pay9]
  rw [pay8_apply u v w r hL, chosen, pay6_apply, bottom]
  unfold spread without
  by_cases h : j.val < 8
  · rw [dif_pos h, dif_pos h]
    exact if_congr (Fin.ext_iff (a := (⟨j.val, h⟩ : Fin 8))).symm rfl rfl
  · rw [dif_neg h, dif_neg h, ite_self]

theorem pay10_apply : k0_pay10 u v w (ix2 r 0) = tileLogits u v w r (place (tileLogits u v w r) 1) := by
  pointwise [k0_pay10]
  rw [bottom]
  simp only [pay9_apply u v w r hL]
  exact (greatest _ _ (without_ahead _ hL)).trans (without_second _)

theorem pay11_apply : k0_pay11 u v w (ix2 r 0) = BitVec.ofNat 32 (place (tileLogits u v w r) 1).val := by
  pointwise [k0_pay11]
  simp only [pay9_apply u v w r hL, pay10_apply u v w r hL]
  simp only [← without_second]
  exact least_lane _ _ (real_ne_bot (by rw [without_second]; exact hL _)) (without_ahead _ hL)

/-- The third output's block, at an element. -/
theorem gate_apply (j : Fin 128) : k0_pay1 (iota .tc S512x128 32 [1] iota_S512x128_d1_w32) (k0_pay11 u v w) (k0_pay12 u v w) (k0_pay13 u v w) (k0_pay14 u v w) (k0_pay15 u v w) k0_pay16 (ix2 r j)
    = if h : j.val < 8 then gate (tileLogits u v w r) ⟨j.val, h⟩ else 0 := by
  pointwise [k0_pay1, k0_pay12, k0_pay13, k0_pay14, k0_pay15, k0_pay16]
  rw [pay7_apply u v w r hL, pay8_apply u v w r hL, pay10_apply u v w r hL, pay11_apply u v w r hL, chosen, chosen]
  by_cases h : j.val < 8
  · rw [dif_pos h]
    unfold gate
    exact congrArg₂ (· + ·) (if_congr (Fin.ext_iff (a := (⟨j.val, h⟩ : Fin 8))).symm rfl rfl) (if_congr (Fin.ext_iff (a := (⟨j.val, h⟩ : Fin 8))).symm rfl rfl)
  · have far (f : Fin 8) : ¬j.val = f.val := fun e => h (lt_of_eq_of_lt e f.isLt)
    rw [dif_neg h, if_neg (far _), if_neg (far _), add_zero]

end

end Cert.Kernel6Ideal.Rows
end
-- ==== Proof.RouterValue.lean ====
module

public import proofs.«01_k».proof.Proof.RouterTile
public import Idealize.ShloMosaic.Lib.StableHlo.RunRead
public import Idealize.ShloMosaic.Lib.KernelVsHost

/-!
# The kernel computes the merge of the branches and the router's gates

Point `t` of the grid works on the tile `t` of 512 rows. What it does to a tile before the router is what the merge
without a router does (MergeValue.lean), so only the places of the blocks and the gates are proved here.
-/

@[expose] public section
set_option maxRecDepth 16384
noncomputable section
namespace Cert.Kernel6Ideal.Rows
open Cert.Kernel6Ideal Cert.Kernel6Ideal.Gen Cert.Kernel6Ideal.Value
open Idealize.ShloMosaic Cert.Merge Cert.Router
open Idealize.ShloMosaic.TcCoe
open Idealize.SL Idealize.SL.Sem

variable (m : (ℓ : Loc nD τ sig) → Buf (Elt Ideal) ℓ) (c : Dev nD)

/-- The row of the array a point's block holds at `r`. -/
abbrev row (t : Fin cfg0.N) (r : Fin 512) : Fin 16384 := ⟨t.val * 512 + r.val, by have h : t.val < 32 := t.isLt; have := r.isLt; omega⟩

/-- The windows over tiles of rows move with the point, the others stay. -/
theorem places : ∀ t : Fin cfg0.N,
    ((cfg0.win 0).index t = ![t.val, 0] ∧ (cfg0.win 1).index t = ![t.val, 0] ∧ (cfg0.win 2).index t = ![t.val, 5] ∧ (cfg0.win 3).index t = ![t.val, 0])
      ∧ ((cfg0.win 4).index t = ![0, 0] ∧ (cfg0.win 5).index t = ![0, 0] ∧ (cfg0.win 6).index t = ![0, 0] ∧ (cfg0.win 7).index t = ![0, 0])
      ∧ (cfg0.win 8).index t = ![t.val, 0] ∧ (cfg0.win 9).index t = ![t.val, 0] ∧ (cfg0.win 10).index t = ![t.val, 0] :=
  (by decide +kernel : ∀ t : Fin grid0.N,
    (win0_0.index t = ![t.val, 0] ∧ win0_1.index t = ![t.val, 0] ∧ win0_2.index t = ![t.val, 5] ∧ win0_3.index t = ![t.val, 0])
      ∧ (win0_4.index t = ![0, 0] ∧ win0_5.index t = ![0, 0] ∧ win0_6.index t = ![0, 0] ∧ win0_7.index t = ![0, 0])
      ∧ win0_8.index t = ![t.val, 0] ∧ win0_9.index t = ![t.val, 0] ∧ win0_10.index t = ![t.val, 0])

/-- Two indices of a matrix are the same if their coordinates are. -/
theorem same_place {a b : Nat} {x y : (⟨2, ![a, b]⟩ : Shape).Idx} (h0 : (x 0).val = (y 0).val) (h1 : (x 1).val = (y 1).val) : x = y := by
  funext i
  apply Fin.ext
  fin_cases i
  · exact h0
  · exact h1

/-! ## The blocks, at their places in the arrays -/

abbrev heads : S16384x512.Idx → EReal := m ((c : Thread nD τ).loc main_arg0)
abbrev branches : S16384x1024.Idx → EReal := m ((c : Thread nD τ).loc main_arg1)
abbrev proj : S16384x6144.Idx → EReal := m ((c : Thread nD τ).loc main_arg2)
abbrev resid : S16384x1024.Idx → EReal := m ((c : Thread nD τ).loc main_arg3)
abbrev headsW : S512x1024.Idx → EReal := m ((c : Thread nD τ).loc main_arg4)
abbrev outW : S1024x1024.Idx → EReal := m ((c : Thread nD τ).loc main_arg5)
abbrev scale : S1x1024.Idx → EReal := m ((c : Thread nD τ).loc main_arg6)
abbrev router : S1x1024x8.Idx → EReal := m ((c : Thread nD τ).loc main_arg7)

/-- The host code. -/
abbrev line : List (HloOp τ sig (Elt Ideal)) := hostOps0 ++ (hostOps0_1 ++ (hostOps0_2 ++ []))

/-- The padded weight of the router, in one of the first 8 lanes. -/
theorem padded_at (k : Fin 1024) (e : Fin 8) : (V m c main_v2 : S1024x128.Idx → EReal) (ix2 k (lane e)) = router m c (ix3 0 k e) := by
  show (StableHlo.after line (fun b => m (c, b)) (Proc.devRef .tc main_v2) : S1024x128.Idx → EReal) (ix2 k (lane e)) = _
  after_reads_simp
  pointwise
  show pad S1024x128 ![0, 0] ![0, 120] ![0, 0] (fun i : S1024x8.Idx => router m c (ix3 0 (i 0) (i 1))) _ pads_S1024x8_S1024x128_000_01200 h_S_ (ix2 k (lane e)) = _
  refine pad_apply_of_inside _ _ _ _ _ _ _ _ (ix2 k e) fun a => ?_
  fin_cases a
  · exact (Nat.zero_add _).symm.trans (congrArg (0 + ·) (Nat.mul_one _).symm)
  · exact (Nat.zero_add _).symm.trans (congrArg (0 + ·) (Nat.mul_one _).symm)

theorem blk0_apply (t : Fin cfg0.N) (r k : Fin 512) : iblk m c 0 t (ix2 r k) = heads m c (ix2 (row t r) k) :=
  congrArg (heads m c) (same_place (by blk_simp; rw [(places t).1.1]; rfl) (by blk_simp; rw [(places t).1.1]; exact Nat.zero_add _))

theorem blk1_apply (t : Fin cfg0.N) (r : Fin 512) (k : Fin 1024) : iblk m c 1 t (ix2 r k) = branches m c (ix2 (row t r) k) :=
  congrArg (branches m c) (same_place (by blk_simp; rw [(places t).1.2.1]; rfl) (by blk_simp; rw [(places t).1.2.1]; exact Nat.zero_add _))

theorem blk2_apply (t : Fin cfg0.N) (r : Fin 512) (k : Fin 1024) : iblk m c 2 t (ix2 r k) = proj m c (ix2 (row t r) (col k)) :=
  congrArg (proj m c) (same_place (by blk_simp; rw [(places t).1.2.2.1]; rfl) (by blk_simp; rw [(places t).1.2.2.1]; rfl))

theorem blk3_apply (t : Fin cfg0.N) (r : Fin 512) (k : Fin 1024) : iblk m c 3 t (ix2 r k) = resid m c (ix2 (row t r) k) :=
  congrArg (resid m c) (same_place (by blk_simp; rw [(places t).1.2.2.2]; rfl) (by blk_simp; rw [(places t).1.2.2.2]; exact Nat.zero_add _))

theorem blk4_apply (t : Fin cfg0.N) (k : Fin 512) (e : Fin 1024) : iblk m c 4 t (ix2 k e) = headsW m c (ix2 k e) :=
  congrArg (headsW m c) (same_place (by blk_simp; rw [(places t).2.1.1]; exact Nat.zero_add _) (by blk_simp; rw [(places t).2.1.1]; exact Nat.zero_add _))

theorem blk5_apply (t : Fin cfg0.N) (e d : Fin 1024) : iblk m c 5 t (ix2 e d) = outW m c (ix2 e d) :=
  congrArg (outW m c) (same_place (by blk_simp; rw [(places t).2.1.2.1]; exact Nat.zero_add _) (by blk_simp; rw [(places t).2.1.2.1]; exact Nat.zero_add _))

theorem blk6_apply (t : Fin cfg0.N) (d : Fin 1024) : iblk m c 6 t (ix2 0 d) = scale m c (ix2 0 d) :=
  congrArg (scale m c) (same_place (by blk_simp; rw [(places t).2.1.2.2.1]; rfl) (by blk_simp; rw [(places t).2.1.2.2.1]; exact Nat.zero_add _))

theorem blk7_apply (t : Fin cfg0.N) (k : Fin 1024) (e : Fin 8) : iblk m c 7 t (ix2 k (lane e)) = router m c (ix3 0 k e) :=
  (congrArg (V m c main_v2 : S1024x128.Idx → EReal)
    (same_place (by blk_simp; rw [(places t).2.1.2.2.2]; exact Nat.zero_add _) (by blk_simp; rw [(places t).2.1.2.2.2]; exact Nat.zero_add _))).trans (padded_at m c k e)

/-! ## The outputs -/

/-- The residual with the merged branches added, of the arrays. -/
abbrev sum : S16384x1024.Idx → EReal := merged (heads m c) (branches m c) (proj m c) (resid m c) (headsW m c) (outW m c)

/-- The rows that the router reads. -/
abbrev norms : S16384x1024.Idx → EReal := normed (sum m c) (scale m c)

/-- A point's first block. -/
theorem sum_apply (t : Fin cfg0.N) (r : Fin 512) (d : Fin 1024) :
    k0_pay2 (iblk m c 0 t) (iblk m c 4 t) (iblk m c 1 t) (iblk m c 2 t) (iblk m c 3 t) (iblk m c 5 t) (ix2 r d) = sum m c (ix2 (row t r) d) := by
  refine (Kernel3Ideal.Rows.pay2_apply (iblk m c 0 t) (iblk m c 4 t) (iblk m c 1 t) (iblk m c 2 t) (iblk m c 3 t) (iblk m c 5 t) r d).trans ?_
  refine congrArg₂ (· + ·) (blk3_apply m c t r d) (Finset.sum_congr rfl fun e _ => ?_)
  rw [blk1_apply, blk2_apply, blk5_apply]
  refine congrArg (fun y => gated _ _ y * _) (Finset.sum_congr rfl fun k _ => ?_)
  rw [blk0_apply, blk4_apply]
  rfl

/-- The rows of a tile, each divided by its root mean square. -/
abbrev unit (t : Fin cfg0.N) : FVec Ideal S512x1024 .f32 := k0_pay3 (iblk m c 0 t) (iblk m c 4 t) (iblk m c 1 t) (iblk m c 2 t) (iblk m c 3 t) (iblk m c 5 t)

/-- The scale, along the rows of a tile. -/
abbrev along (t : Fin cfg0.N) : FVec Ideal S512x1024 .f32 := k0_pay4 (iblk m c 6 t)

/-- A point's second block. -/
theorem norm_apply (t : Fin cfg0.N) (r : Fin 512) (d : Fin 1024) : k0_pay5 (unit m c t) (along m c t) (ix2 r d) = norms m c (ix2 (row t r) d) := by
  refine (Kernel3Ideal.Rows.pay1_apply (iblk m c 0 t) (iblk m c 4 t) (iblk m c 1 t) (iblk m c 2 t) (iblk m c 3 t) (iblk m c 5 t) (iblk m c 6 t) r d).trans ?_
  have e (d : Fin 1024) : Kernel3Ideal.Gen.k0_pay2 (iblk m c 0 t) (iblk m c 4 t) (iblk m c 1 t) (iblk m c 2 t) (iblk m c 3 t) (iblk m c 5 t) (ix2 r d) = sum m c (ix2 (row t r) d) :=
    sum_apply m c t r d
  simp only [e]
  rw [blk6_apply]
  rfl

/-- The logits of a point's rows. -/
theorem tile_logits (t : Fin cfg0.N) (r : Fin 512) : tileLogits (unit m c t) (along m c t) (iblk m c 7 t) r = logits (norms m c) (router m c) (row t r) :=
  funext fun e => Finset.sum_congr rfl fun k _ => congrArg₂ (· * ·) (norm_apply m c t r k) (blk7_apply m c t k e)

/-- The grid's blocks of 512 rows reach every row of an output. -/
theorem rows_reached (i : Fin ((16384 + 512 - 1) / 512)) : i.val < 32 := lt_of_lt_of_eq i.isLt (by norm_num)

/-- The first output array, once the run is over. -/
theorem out8_eq : (dats m 0 c).arrAt 8 cfg0.N = sum m c := by
  refine (dats m 0 c).arrAt_eq_of_covers 8 _ ⟨?_, ?_⟩ fun t hf y => ?_
  · intro b; fin_cases b
    · exact (by decide : 0 < 512)
    · exact (by decide : 0 < 1024)
  · intro ix
    have h1 : (ix (1 : Fin 2)).val < 1 := lt_of_lt_of_eq (ix (1 : Fin 2)).isLt (show (1024 + 1024 - 1) / 1024 = 1 from by norm_num)
    refine ⟨⟨(ix (0 : Fin 2)).val, rows_reached (ix (0 : Fin 2))⟩, flush0_8 _, fun b => ⟨?_, .inl rfl⟩⟩
    rw [(places _).2.2.1]
    fin_cases b
    · rfl
    · exact (Nat.lt_one_iff.mp h1).symm
  · blk_simp
    rw [after0_8]
    frame_out
    obtain ⟨r, d, rfl⟩ : ∃ (r : Fin 512) (d : Fin 1024), y = ix2 r d := ⟨y 0, y 1, eq_ix2 y⟩
    refine (sum_apply m c t r d).trans (congrArg (sum m c) (same_place ?_ ?_))
    · blk_simp; rw [(places t).2.2.1]; rfl
    · blk_simp; rw [(places t).2.2.1]; exact (Nat.zero_add _).symm

/-- The second output array, once the run is over. -/
theorem out9_eq : (dats m 0 c).arrAt 9 cfg0.N = norms m c := by
  refine (dats m 0 c).arrAt_eq_of_covers 9 _ ⟨?_, ?_⟩ fun t hf y => ?_
  · intro b; fin_cases b
    · exact (by decide : 0 < 512)
    · exact (by decide : 0 < 1024)
  · intro ix
    have h1 : (ix (1 : Fin 2)).val < 1 := lt_of_lt_of_eq (ix (1 : Fin 2)).isLt (show (1024 + 1024 - 1) / 1024 = 1 from by norm_num)
    refine ⟨⟨(ix (0 : Fin 2)).val, rows_reached (ix (0 : Fin 2))⟩, flush0_9 _, fun b => ⟨?_, .inl rfl⟩⟩
    rw [(places _).2.2.2.1]
    fin_cases b
    · rfl
    · exact (Nat.lt_one_iff.mp h1).symm
  · blk_simp
    rw [after0_9]
    unfold out0_9 k0_pay18 k0_pay17
    frame_out
    obtain ⟨r, d, rfl⟩ : ∃ (r : Fin 512) (d : Fin 1024), y = ix2 r d := ⟨y 0, y 1, eq_ix2 y⟩
    refine (norm_apply m c t r d).trans (congrArg (norms m c) (same_place ?_ ?_))
    · blk_simp; rw [(places t).2.2.2.1]; rfl
    · blk_simp; rw [(places t).2.2.2.1]; exact (Nat.zero_add _).symm

/-- The third output array, once the run is over: the gates, if the logits are numbers. -/
theorem out10_eq (hL : ∀ R e, ∃ x : ℝ, logits (norms m c) (router m c) R e = x) : (dats m 0 c).arrAt 10 cfg0.N = gates (norms m c) (router m c) := by
  refine (dats m 0 c).arrAt_eq_of_covers 10 _ ⟨?_, ?_⟩ fun t hf y => ?_
  · intro b; fin_cases b
    · exact (by decide : 0 < 512)
    · exact (by decide : 0 < 128)
  · intro ix
    have h1 : (ix (1 : Fin 2)).val < 1 := lt_of_lt_of_eq (ix (1 : Fin 2)).isLt (show (128 + 128 - 1) / 128 = 1 from by norm_num)
    refine ⟨⟨(ix (0 : Fin 2)).val, rows_reached (ix (0 : Fin 2))⟩, flush0_10 _, fun b => ⟨?_, .inl rfl⟩⟩
    rw [(places _).2.2.2.2]
    fin_cases b
    · rfl
    · exact (Nat.lt_one_iff.mp h1).symm
  · blk_simp
    rw [after0_10]
    unfold out0_10 k0_pay18 k0_pay17
    frame_out
    obtain ⟨r, j, rfl⟩ : ∃ (r : Fin 512) (j : Fin 128), y = ix2 r j := ⟨y 0, y 1, eq_ix2 y⟩
    refine (gate_apply (unit m c t) (along m c t) (iblk m c 7 t) r (fun e => ?_) j).trans ?_
    · rw [tile_logits]
      exact hL _ _
    · rw [tile_logits]
      refine (congrArg (gates (norms m c) (router m c)) (same_place (y := ix2 (row t r) j) ?_ ?_)).symm
      · blk_simp; rw [(places t).2.2.2.2]; rfl
      · blk_simp; rw [(places t).2.2.2.2]; exact Nat.zero_add _

end Cert.Kernel6Ideal.Rows
end
-- ==== Proof.RouterRef.lean ====
module

public import proofs.«01_k».proof.Proof.Router
public import proofs.«01_k».proof.Proof.MergeRef
public import proofs.«01_k».proof.Proof.Gen.Reference6Ideal.Run

/-!
# The reference computes the router's gates

Its first two results are those of the merge alone.
-/

@[expose] public section
set_option maxRecDepth 16384
noncomputable section
namespace Cert.Reference6Ideal.Rows
open Cert.Reference6Ideal Cert.Reference6Ideal.Gen Idealize.ShloMosaic

variable (X : FVec Ideal S16384x8 .f32)

/-- The two greatest logits of every row. -/
abbrev best : FVec Ideal S16384x2 .f32 := (Host.topK S16384x2 1 (FloatOps.cmpfTotal .gt) X sliceFits_S16384x8_S16384x2).1

/-- Their experts. -/
abbrev bestAt : IVec S16384x2 32 := (Host.topK S16384x2 1 (FloatOps.cmpfTotal (F := Ideal) (φ := .f32) .gt) X sliceFits_S16384x8_S16384x2).2

/-- The exponentials of two logits less the greater. -/
abbrev powers (B : FVec Ideal S16384x2 .f32) : FVec Ideal S16384x2 .f32 :=
  Host.exp (subf B (broadcastInDim S16384x2 ![0, 1] bcast_S16384x1_S16384x2_0_1 (broadcastInDim S16384x1 ![0] bcast_S16384_S16384x1_0 (maximumf (broadcastInDim S16384 ![] bcast_S_S16384 (constant S_ .f32 0xFF800000#32))
    (Host.reduce FloatOps.maximumf B (constant S_ .f32 0xFF800000#32) reducesTo_S16384x2_S16384_d1 h_S_)))))

/-- The exponentials, divided by their sum. -/
abbrev shares (E : FVec Ideal S16384x2 .f32) : FVec Ideal S16384x2 .f32 :=
  Host.divf E (broadcastInDim S16384x2 ![0, 1] bcast_S16384x1_S16384x2_0_1 (broadcastInDim S16384x1 ![0] bcast_S16384_S16384x1_0 (Host.reduceAdd E (constant S_ .f32 0x00000000#32) reducesTo_S16384x2_S16384_d1 h_S_)))

/-- The shares at their experts' columns. -/
abbrev spread (I : IVec S16384x2 32) (p : FVec Ideal S16384x2 .f32) : FVec Ideal S16384x8 .f32 :=
  Host.reduceAdd (mulf (uitofp .f32 (cmpi .eq (broadcastInDim S16384x2x8 ![0, 1, 2] bcast_S16384x2x1_S16384x2x8_0_1_2 (broadcastInDim S16384x2x1 ![0, 1] bcast_S16384x2_S16384x2x1_0_1 I))
      (broadcastInDim S16384x2x8 ![0, 1, 2] bcast_S1x1x8_S16384x2x8_0_1_2 (iotaInDim S1x1x8 32 2))))
    (broadcastInDim S16384x2x8 ![0, 1, 2] bcast_S16384x2x1_S16384x2x8_0_1_2 (broadcastInDim S16384x2x1 ![0, 1] bcast_S16384x2_S16384x2x1_0_1 p))) (constant S_ .f32 0x00000000#32) reducesTo_S16384x2x8_S16384x8_d1 h_S_

/-- The third result, of the logits. -/
abbrev result2 : FVec Ideal S16384x128 .f32 :=
  pad S16384x128 ![0, 0] ![0, 120] ![0, 0] (spread (bestAt X) (shares (powers (best X)))) (sitofp .f32 (constantI S_ 32 0#32)) pads_S16384x8_S16384x128_000_01200 h_S_

theorem along_row (R : Fin 16384) (e k : Fin 8) : (ix2 R e : S16384x8.Idx).along (1 : Fin 2) k = ix2 R k := by
  funext b
  fin_cases b <;> rfl

theorem sorted_row (R : Fin 16384) (k : Fin 8) :
    sortedFrom (fun a b => FloatOps.cmpfTotal (F := Ideal) (φ := .f32) .gt (X ((ix2 R k : S16384x8.Idx).along (1 : Fin 2) a)) (X ((ix2 R k : S16384x8.Idx).along (1 : Fin 2) b)) == 1#1) k
      = Router.place (fun e => X (ix2 R e)) k := by
  refine congrArg (fun f => sortedFrom f k) (funext fun a => funext fun b => ?_)
  exact congrArg₂ (fun u v => FloatOps.cmpfTotal (F := Ideal) (φ := .f32) .gt u v == 1#1) (congrArg X (along_row R k a)) (congrArg X (along_row R k b))

/-- A chosen logit. -/
theorem best_apply (R : Fin 16384) (k : Fin 2) : best X (ix2 R k) = X (ix2 R (Router.place (fun e => X (ix2 R e)) ⟨k.val, by have := k.isLt; omega⟩)) := by
  unfold best Host.topK Host.sort2
  dsimp only
  rw [dif_pos (by decide : 1 < S16384x8.rank)]
  pointwise
  exact (congrArg X (along_row R ⟨k.val, _⟩ _)).trans (congrArg (fun e => X (ix2 R e)) (sorted_row X R ⟨k.val, _⟩))

/-- A chosen expert. -/
theorem bestAt_apply (R : Fin 16384) (k : Fin 2) : bestAt X (ix2 R k) = BitVec.ofNat 32 (Router.place (fun e => X (ix2 R e)) ⟨k.val, by have := k.isLt; omega⟩).val := by
  unfold bestAt Host.topK Host.sort2
  dsimp only
  rw [dif_pos (by decide : 1 < S16384x8.rank)]
  pointwise
  exact (congrArg (fun j : S16384x8.Idx => BitVec.ofNat 32 (j 1).val) (along_row R ⟨k.val, _⟩ _)).trans (congrArg (fun e : Fin 8 => BitVec.ofNat 32 e.val) (sorted_row X R ⟨k.val, _⟩))

theorem bottom : Ideal.ofBits FTy.f32 4286578688#32 = ⊥ := by simp [Ideal.ofBits, Ideal.ieee]

theorem powers_apply (B : FVec Ideal S16384x2 .f32) (R : Fin 16384) (k : Fin 2) : powers B (ix2 R k) = Ideal.exp (B (ix2 R k) - max (B (ix2 R 0)) (B (ix2 R 1))) := by
  pointwise
  rw [bottom, max_eq_right bot_le, show (Finset.univ : Finset (Fin 2)) = {0, 1} from rfl, Finset.fold_insert (by decide), Finset.fold_singleton, max_eq_left bot_le]

theorem shares_apply (E : FVec Ideal S16384x2 .f32) (R : Fin 16384) (k : Fin 2) : shares E (ix2 R k) = Ideal.div (E (ix2 R k)) (E (ix2 R 0) + E (ix2 R 1)) := by
  pointwise
  rw [Fin.sum_univ_two]

/-- A share is taken where the expert is the column's. -/
theorem taken (i e : BitVec 32) (p : EReal) : FloatOps.uitofp (F := Ideal) FTy.f32 (IntOp.cmpi CmpIPredicate.eq i e) * p = if i = e then p else 0 := by
  by_cases h : i = e
  · subst h
    rw [if_pos rfl, show IntOp.cmpi CmpIPredicate.eq i i = 1#1 by simp [IntOp.cmpi]]
    show (((1#1 : BitVec 1).toNat : ℝ) : EReal) * p = p
    simp
  · rw [if_neg h, show IntOp.cmpi CmpIPredicate.eq i e = 0#1 by simp [IntOp.cmpi, beq_eq_false_iff_ne.mpr h]]
    show (((0#1 : BitVec 1).toNat : ℝ) : EReal) * p = 0
    simp

theorem spread_apply (I : IVec S16384x2 32) (p : FVec Ideal S16384x2 .f32) (R : Fin 16384) (e : Fin 8) :
    spread I p (ix2 R e) = (if I (ix2 R 0) = BitVec.ofNat 32 e.val then p (ix2 R 0) else 0) + (if I (ix2 R 1) = BitVec.ofNat 32 e.val then p (ix2 R 1) else 0) := by
  pointwise
  rw [Fin.sum_univ_two, taken, taken]

theorem result2_apply (R : Fin 16384) (j : Fin 128) :
    result2 X (ix2 R j) = if h : j.val < 8 then spread (bestAt X) (shares (powers (best X))) (ix2 R ⟨j.val, h⟩) else 0 := by
  pointwise
  refine dite_congr rfl (fun _ => rfl) fun _ => ?_
  show (((0#32 : BitVec 32).toInt : ℝ) : EReal) = 0
  simp

/-- An expert's number names it. -/
theorem word_eq (a e : Fin 8) : BitVec.ofNat 32 a.val = BitVec.ofNat 32 e.val ↔ e = a := by
  revert a e
  decide

/-- The third result of a row whose logits are numbers. -/
theorem result2_row (R : Fin 16384) (hX : ∀ e : Fin 8, ∃ r : ℝ, X (ix2 R e) = r) (j : Fin 128) :
    result2 X (ix2 R j) = if h : j.val < 8 then Router.gate (fun e => X (ix2 R e)) ⟨j.val, h⟩ else 0 := by
  rw [result2_apply]
  refine dite_congr rfl (fun h => ?_) fun _ => rfl
  rw [spread_apply, shares_apply, shares_apply, powers_apply, powers_apply, bestAt_apply, bestAt_apply, best_apply, best_apply]
  have hle : X (ix2 R (Router.place (fun e => X (ix2 R e)) 1)) ≤ X (ix2 R (Router.place (fun e => X (ix2 R e)) 0)) :=
    (Router.place_ahead (fun e => X (ix2 R e)) 0 1 (by decide)).elim le_of_lt fun e => e.1.le
  have h0 : Ideal.exp (X (ix2 R (Router.place (fun e => X (ix2 R e)) 0)) - X (ix2 R (Router.place (fun e => X (ix2 R e)) 0))) = 1 := by
    obtain ⟨r, hr⟩ := hX (Router.place (fun e => X (ix2 R e)) 0)
    rw [hr, ← EReal.coe_sub, sub_self]
    show ((Real.exp 0 : ℝ) : EReal) = 1
    simp
  refine congrArg₂ (· + ·) (if_congr (word_eq _ ⟨j.val, h⟩) ?_ rfl) (if_congr (word_eq _ ⟨j.val, h⟩) ?_ rfl)
  · refine congrArg₂ Ideal.div ?_ (congrArg₂ (· + ·) ?_ ?_)
    · exact (congrArg (fun v => Ideal.exp (_ - v)) (max_eq_left hle)).trans h0
    · exact (congrArg (fun v => Ideal.exp (_ - v)) (max_eq_left hle)).trans h0
    · exact congrArg (fun v => Ideal.exp (_ - v)) (max_eq_left hle)
  · refine congrArg₂ Ideal.div ?_ (congrArg₂ (· + ·) ?_ ?_)
    · exact congrArg (fun v => Ideal.exp (_ - v)) (max_eq_left hle)
    · exact (congrArg (fun v => Ideal.exp (_ - v)) (max_eq_left hle)).trans h0
    · exact congrArg (fun v => Ideal.exp (_ - v)) (max_eq_left hle)

/-- The logits of the normed rows. -/
abbrev logits (h : FVec Ideal S16384x1024 .bf16) (w : FVec Ideal S1x1024x8 .f32) : FVec Ideal S16384x8 .f32 :=
  Host.dotGeneral dot_S16384x1024_S1024x8_S16384x8_1_0_0_1_n_n none (extf .f32 h bitsLt_bf16_f32) (shapeCast _ w shapeCasts_S1x1024x8_S1024x8)

theorem logits_apply (h : FVec Ideal S16384x1024 .bf16) (w : FVec Ideal S1x1024x8 .f32) (R : Fin 16384) (e : Fin 8) : logits h w (ix2 R e) = Router.logits h w R e := by
  pointwise
  rfl

/-- The third result. -/
theorem result2_eq (h : FVec Ideal S16384x1024 .bf16) (w : FVec Ideal S1x1024x8 .f32) (hX : ∀ R e, ∃ r : ℝ, Router.logits h w R e = r) : result2 (logits h w) = Router.gates h w := by
  funext j
  obtain ⟨R, d, rfl⟩ : ∃ (R : Fin 16384) (d : Fin 128), j = ix2 R d := ⟨j 0, j 1, eq_ix2 j⟩
  have e : (fun e => logits h w (ix2 R e)) = Router.logits h w R := funext fun e => logits_apply h w R e
  refine (result2_row (logits h w) R (fun e => by rw [logits_apply]; exact hX R e) d).trans ?_
  rw [e]
  rfl

end Cert.Reference6Ideal.Rows
end
-- ==== Proof.RouterFinite.lean ====
module

public import proofs.«01_k».proof.Pre_finite_router
public import proofs.«01_k».proof.Proof.Finite

/-!
# What the router's precondition says

The precondition reduces, by `and`, the test `|w| < ∞` over the scale and the router's weight: their entries are numbers.
-/

@[expose] public section

namespace Cert.Finite
open Idealize.ShloMosaic Cert.Pre_finite_router

variable [Facts]

theorem router_real (a0 : FVec Ideal S16384x512 .bf16) (a1 : FVec Ideal S16384x1024 .bf16) (a2 : FVec Ideal S16384x6144 .bf16) (a3 : FVec Ideal S16384x1024 .f32)
    (a4 : FVec Ideal S512x1024 .bf16) (a5 : FVec Ideal S1024x1024 .bf16) (a6 : FVec Ideal S1x1024 .f32) (a7 : FVec Ideal S1x1024x8 .f32)
    (h : fn (F := Ideal) a0 a1 a2 a3 a4 a5 a6 a7 = fun _ => 1#1) :
    (∀ k : Fin 1024, ∃ r : ℝ, a6 (ix2 0 k) = r) ∧ ∀ (k : Fin 1024) (e : Fin 8), ∃ r : ℝ, a7 (ix3 0 k e) = r := by
  have e := and_left_one _ _ (congrFun h (Shape.Idx.first Facts.h_S_))
  have t32 : (⊤ : EReal) = Ideal.ofBits FTy.f32 0x7F800000#32 := by simp [Ideal.ofBits, Ideal.ieee]
  refine ⟨fun k => ?_, fun k f => ?_⟩
  · have q := Host.reduce_andi_all _ _ Facts.reducesTo_S1x1024_S_d0_1 Facts.h_S_ (Shape.Idx.first Facts.h_S_) e.1 (ix2 0 k)
    refine real_of_abs_lt _ (Eq.trans ?_ q)
    rw [t32]
    symm
    pointwise
    rfl
  · have q := Host.reduce_andi_all _ _ Facts.reducesTo_S1024x8_S_d0_1 Facts.h_S_ (Shape.Idx.first Facts.h_S_) e.2 (ix2 k f)
    refine real_of_abs_lt _ (Eq.trans ?_ q)
    rw [t32]
    symm
    pointwise
    rfl

end Cert.Finite
end
-- ==== Proof.Layout.lean ====
module

public import proofs.«01_k».proof.Proof.Gen.Reference7Ideal.Run
public import Idealize.ShloMosaic.Lib.Pointwise

/-!
# The columns of the input projection's weight, in the order of the call
-/

@[expose] public section
set_option maxRecDepth 16384
noncomputable section
namespace Cert.Layout
open Idealize.ShloMosaic

/-- The column that the call's column `C` comes from: the indexer's queries go before the keys and values, and 60 columns of
the gates fill the place before the gates. -/
def source (C : Fin 6144) : Fin 6084 :=
  ⟨if C.val < 2560 then C.val else if C.val < 2816 then C.val + 128 else if C.val < 2944 then C.val - 256 else if C.val < 3072 then C.val else C.val - 60, by
    have := C.isLt
    split_ifs <;> omega⟩

/-- The weight, with its columns in the order of the call. -/
def arranged (w : (⟨3, ![2, 1024, 6084]⟩ : Shape).Idx → EReal) : (⟨3, ![2, 1024, 6144]⟩ : Shape).Idx → EReal := fun i => w (ix3 (i 0) (i 1) (source (i 2)))

end Cert.Layout

namespace Cert.Reference7Ideal.Rows
open Cert.Reference7Ideal Cert.Reference7Ideal.Gen Idealize.ShloMosaic
open Idealize.ShloMosaic.TcCoe
open Idealize.SL Idealize.SL.Sem

section
variable (w : FVec Ideal S2x1024x6084 .f32)

/-- The columns of the gates. -/
abbrev gates : FVec Ideal S2x1024x3072 .f32 := extractStridedSlice S2x1024x3072 ![0, 0, 3012] w slices_S2x1024x6084_S2x1024x3072_0_0_3012

/-- The pieces that reference.py splits the columns into, in the order of the call. -/
def result : FVec Ideal S2x1024x6144 .bf16 :=
  truncf .bf16 (concatenate S2x1024x6144 2
    [⟨S2x1024x512, extractStridedSlice S2x1024x512 ![0, 0, 0] w slices_S2x1024x6084_S2x1024x512_0_0_0⟩, ⟨S2x1024x512, extractStridedSlice S2x1024x512 ![0, 0, 512] w slices_S2x1024x6084_S2x1024x512_0_0_512⟩,
      ⟨S2x1024x512, extractStridedSlice S2x1024x512 ![0, 0, 1024] w slices_S2x1024x6084_S2x1024x512_0_0_1024⟩, ⟨S2x1024x512, extractStridedSlice S2x1024x512 ![0, 0, 1536] w slices_S2x1024x6084_S2x1024x512_0_0_1536⟩,
      ⟨S2x1024x512, extractStridedSlice S2x1024x512 ![0, 0, 2048] w slices_S2x1024x6084_S2x1024x512_0_0_2048⟩, ⟨S2x1024x256, extractStridedSlice S2x1024x256 ![0, 0, 2688] w slices_S2x1024x6084_S2x1024x256_0_0_2688⟩,
      ⟨S2x1024x64, extractStridedSlice S2x1024x64 ![0, 0, 2560] w slices_S2x1024x6084_S2x1024x64_0_0_2560⟩, ⟨S2x1024x64, extractStridedSlice S2x1024x64 ![0, 0, 2624] w slices_S2x1024x6084_S2x1024x64_0_0_2624⟩,
      ⟨S2x1024x64, extractStridedSlice S2x1024x64 ![0, 0, 2944] w slices_S2x1024x6084_S2x1024x64_0_0_2944⟩, ⟨S2x1024x4, extractStridedSlice S2x1024x4 ![0, 0, 3008] w slices_S2x1024x6084_S2x1024x4_0_0_3008⟩,
      ⟨S2x1024x60, extractStridedSlice S2x1024x60 ![0, 0, 0] (gates w) slices_S2x1024x3072_S2x1024x60_0_0_0⟩, ⟨S2x1024x3072, gates w⟩]
    concatenates_S2x1024x512_S2x1024x512_S2x1024x512_S2x1024x512_S2x1024x512_S2x1024x256_S2x1024x64_S2x1024x64_S2x1024x64_S2x1024x4_S2x1024x60_S2x1024x3072_S2x1024x6144_d2) bitsLt_bf16_f32

theorem either {p : Prop} [Decidable p] {a : p → EReal} {b : ¬p → EReal} {v : EReal} (ha : ∀ h, a h = v) (hb : ∀ h, b h = v) : dite p a b = v := by
  split
  · exact ha _
  · exact hb _

theorem result_eq : result w = Layout.arranged w := by
  funext i
  obtain ⟨l, k, C, rfl⟩ : ∃ (l : Fin 2) (k : Fin 1024) (C : Fin 6144), i = ix3 l k C := ⟨i 0, i 1, i 2, eq_ix3 i⟩
  show _ = w (ix3 l k (Layout.source C))
  have column (D : Fin 6084) (h : D.val = (Layout.source C).val) : w (ix3 l k D) = w (ix3 l k (Layout.source C)) := congrArg (fun D => w (ix3 l k D)) (Fin.ext h)
  have hC := C.isLt
  pointwise [result]
  repeat' refine either (fun h => ?_) fun h => ?_
  all_goals
    refine column _ ?_
    dsimp only [Layout.source]
    split_ifs <;> omega
end

end Cert.Reference7Ideal.Rows
end
-- ==== Proof.LayoutValue.lean ====
module

public import proofs.«01_k».proof.Proof.Layout
public import proofs.«01_k».proof.Proof.Gen.Kernel7Ideal.Value
public import Idealize.ShloMosaic.Lib.Pipeline.ValueKit

/-!
# The kernel puts the weight's columns in order

Point `t` of the grid works on a tile of 256 rows of one layer's weight. It stores the tile in five blocks of columns, each
a block of columns of the weight (`piece_tile`).
-/

@[expose] public section
set_option maxRecDepth 16384
noncomputable section
namespace Cert.Kernel7Ideal.Rows
open Cert.Kernel7Ideal Cert.Kernel7Ideal.Gen Cert.Kernel7Ideal.Value
open Idealize.ShloMosaic
open Idealize.ShloMosaic.TcCoe
open Idealize.SL Idealize.SL.Sem

/-! ## The stores, at an element -/

theorem pay2_apply (x : Vec Ideal S1x256x2560 .f32) (r : Fin 256) (j : Fin 2560) : k0_pay2 x (ix3 0 r j) = x (ix3 0 r j) := by pointwise [k0_pay2]
theorem pay3_apply (x : Vec Ideal S1x256x256 .f32) (r j : Fin 256) : k0_pay3 x (ix3 0 r j) = x (ix3 0 r j) := by pointwise [k0_pay3]
theorem pay4_apply (x : Vec Ideal S1x256x128 .f32) (r : Fin 256) (j : Fin 128) : k0_pay4 x (ix3 0 r j) = x (ix3 0 r j) := by pointwise [k0_pay4]
theorem pay1_apply (x : Vec Ideal S1x256x3072 .f32) (r : Fin 256) (j : Fin 3072) : k0_pay1 (k0_pay6 x) (ix3 0 r j) = x (ix3 0 r j) := by pointwise [k0_pay1, k0_pay6]

variable (m : (ℓ : Loc nD τ sig) → Buf (Elt Ideal) ℓ) (c : Dev nD) (t : Fin cfg0.N)

theorem places : ∀ t : Fin cfg0.N, (cfg0.win 0).index t = ![t.val / 4, t.val % 4, 0] ∧ (cfg0.win 1).index t = ![t.val / 4, t.val % 4, 0] :=
  (by decide +kernel : ∀ t : Fin grid0.N, win0_0.index t = ![t.val / 4, t.val % 4, 0] ∧ win0_1.index t = ![t.val / 4, t.val % 4, 0])

/-- The layer of a point, and the row of its weight that the point's tile has at `r`. -/
abbrev layer : Fin 2 := ⟨t.val / 4, by have h : t.val < 8 := t.isLt; omega⟩
abbrev row (r : Fin 256) : Fin 1024 := ⟨t.val % 4 * 256 + r.val, by have := r.isLt; omega⟩

abbrev weight : S2x1024x6084.Idx → EReal := m ((c : Thread nD τ).loc main_arg0)

theorem blk0_apply (r : Fin 256) (C : Fin 6084) : iblk m c 0 t (ix3 0 r C) = weight m c (ix3 (layer t) (row t r) C) := by
  show weight m c (((cfg0.win 0).blk t).view.emb (ix3 0 r C)) = _
  congr 1
  funext b
  apply Fin.ext
  fin_cases b
  · blk_simp; rw [(places t).1]; rfl
  · blk_simp; rw [(places t).1]; rfl
  · blk_simp; rw [(places t).1]; exact Nat.zero_add _

/-- A point's tile of the result. -/
def tile : S1x256x6144.Idx → EReal := fun i => Layout.arranged (weight m c) (ix3 (layer t) (row t (i 1)) (i 2))

/-- A store of a block of columns of the weight makes the block of the tile whose columns come from these. -/
theorem piece_tile {n : Nat} (dst src : Nat) (inb : ∀ a, ![0, 0, dst] a + ![1, 256, n] a ≤ S1x256x6144.size a) (inb' : ∀ a, ![0, 0, src] a + ![1, 256, n] a ≤ S1x256x6084.size a)
    (p : (⟨3, ![1, 256, n]⟩ : Shape).Idx → EReal) (hp : ∀ (r : Fin 256) (j : Fin n), p (ix3 0 r j) = View.ld (iblk m c 0 t) (Rect.unit (s := S1x256x6084) ![0, 0, src] ![1, 256, n] inb') (ix3 0 r j))
    (hs : ∀ (j : Fin n) (C : Fin 6144), C.val = dst + j.val → (Layout.source C).val = src + j.val) (x : (⟨3, ![1, 256, n]⟩ : Shape).Idx) :
    p x = tile m c t ((Rect.unit (s := S1x256x6144) ![0, 0, dst] ![1, 256, n] inb).emb x) := by
  obtain ⟨z, r, j, rfl⟩ : ∃ (z : Fin 1) (r : Fin 256) (j : Fin n), x = ix3 z r j := ⟨x 0, x 1, x 2, eq_ix3 x⟩
  obtain rfl : z = 0 := Subsingleton.elim _ _
  have hn : dst + n ≤ 6144 := inb 2
  have hC : dst + j.val < 6144 := by have := j.isLt; omega
  have e : (Rect.unit (s := S1x256x6144) ![0, 0, dst] ![1, 256, n] inb).emb (ix3 0 r j) = ix3 0 r ⟨dst + j.val, hC⟩ := by
    funext b
    apply Fin.ext
    fin_cases b
    · rfl
    · show 0 + 1 * r.val = r.val
      omega
    · show dst + 1 * j.val = dst + j.val
      omega
  rw [e, hp]
  refine Eq.trans ?_ (blk0_apply m c t r (Layout.source ⟨dst + j.val, hC⟩))
  show iblk m c 0 t _ = iblk m c 0 t _
  refine congrArg _ (funext fun b => Fin.ext ?_)
  fin_cases b
  · rfl
  · show 0 + 1 * r.val = r.val
    omega
  · show src + 1 * j.val = (Layout.source ⟨dst + j.val, hC⟩).val
    rw [hs j ⟨dst + j.val, hC⟩ rfl]
    omega

/-- The stores of a point make its tile. -/
theorem tile_eq (i : S1x256x6144.Idx) : outsAt0 m c t i = tile m c t i := by
  unfold outsAt0 out0_A_1
  refine View.read_writes_apply_of_pieces (Val := Elt Ideal) VO0_1 _ (tile m c t) _ ?_ i (cover0_A_1 c _ _ _ _ _ _ i)
  unfold kernelRun0_A
  dsimp only
  refine List.forall_mem_cons.mpr ⟨?_, List.forall_mem_cons.mpr ⟨?_, List.forall_mem_cons.mpr ⟨?_, List.forall_mem_cons.mpr ⟨?_, List.forall_mem_cons.mpr ⟨?_, fun p hp => absurd hp List.not_mem_nil⟩⟩⟩⟩⟩
  · intro x
    frame_out
    exact piece_tile m c t 3072 3012 _ _ _ (fun r j => pay1_apply _ r j) (fun j C h => by have := j.isLt; dsimp only [Layout.source]; split_ifs <;> omega) x
  · intro x -- the store of these columns has the same steps as the next one
    frame_out
    exact piece_tile m c t 2944 2944 _ _ _ (fun r j => pay4_apply _ r j) (fun j C h => by have := j.isLt; dsimp only [Layout.source]; split_ifs <;> omega) x
  · intro x
    frame_out
    exact piece_tile m c t 2816 2560 _ _ _ (fun r j => pay4_apply _ r j) (fun j C h => by have := j.isLt; dsimp only [Layout.source]; split_ifs <;> omega) x
  · intro x
    frame_out
    exact piece_tile m c t 2560 2688 _ _ _ (fun r j => pay3_apply _ r j) (fun j C h => by have := j.isLt; dsimp only [Layout.source]; split_ifs <;> omega) x
  · intro x
    frame_out
    exact piece_tile m c t 0 0 _ _ _ (fun r j => pay2_apply _ r j) (fun j C h => by have := j.isLt; dsimp only [Layout.source]; split_ifs <;> omega) x

/-- The output array, once the run is over. -/
theorem out_eq : (dats m 0 c).arrAt 1 cfg0.N = Layout.arranged (weight m c) := by
  refine (dats m 0 c).arrAt_eq_of_covers 1 _ ⟨?_, ?_⟩ fun t hf y => ?_
  · intro b; fin_cases b
    · exact (by decide : 0 < 1)
    · exact (by decide : 0 < 256)
    · exact (by decide : 0 < 6144)
  · intro ix
    have h0 : (ix (0 : Fin 3)).val < 2 := lt_of_lt_of_eq (ix (0 : Fin 3)).isLt (show (2 + 1 - 1) / 1 = 2 from by norm_num)
    have h1 : (ix (1 : Fin 3)).val < 4 := lt_of_lt_of_eq (ix (1 : Fin 3)).isLt (show (1024 + 256 - 1) / 256 = 4 from by norm_num)
    have h2 : (ix (2 : Fin 3)).val < 1 := lt_of_lt_of_eq (ix (2 : Fin 3)).isLt (show (6144 + 6144 - 1) / 6144 = 1 from by norm_num)
    have h8 : (ix (0 : Fin 3)).val * 4 + (ix (1 : Fin 3)).val < 8 := by omega
    refine ⟨⟨(ix (0 : Fin 3)).val * 4 + (ix (1 : Fin 3)).val, h8⟩, flush0_1 _, fun b => ⟨?_, .inl rfl⟩⟩
    rw [(places _).2]
    fin_cases b
    · show ((ix (0 : Fin 3)).val * 4 + (ix (1 : Fin 3)).val) / 4 = (ix (0 : Fin 3)).val
      omega
    · show ((ix (0 : Fin 3)).val * 4 + (ix (1 : Fin 3)).val) % 4 = (ix (1 : Fin 3)).val
      omega
    · exact (Nat.lt_one_iff.mp h2).symm
  · blk_simp
    rw [after0_1]
    obtain ⟨z, r, C, rfl⟩ : ∃ (z : Fin 1) (r : Fin 256) (C : Fin 6144), y = ix3 z r C := ⟨y 0, y 1, y 2, eq_ix3 y⟩
    refine (tile_eq m c t (ix3 z r C)).trans ?_
    show Layout.arranged (weight m c) (ix3 (layer t) (row t r) C) = _
    congr 1
    funext b
    apply Fin.ext
    fin_cases b
    · blk_simp; rw [(places t).2]; rfl
    · blk_simp; rw [(places t).2]; rfl
    · blk_simp; rw [(places t).2]; exact (Nat.zero_add _).symm

end Cert.Kernel7Ideal.Rows
end
-- ==== Proof.lean ====
module

public import proofs.«01_k».proof.Defs
public import proofs.«01_k».proof.Proof.BitsOk
public import proofs.«01_k».proof.Proof.TileValue
public import proofs.«01_k».proof.Proof.RefValue
public import proofs.«01_k».proof.Proof.DenseValue
public import proofs.«01_k».proof.Proof.DenseRef
public import proofs.«01_k».proof.Proof.MergeValue
public import proofs.«01_k».proof.Proof.MergeRef
public import proofs.«01_k».proof.Proof.InprojOut
public import proofs.«01_k».proof.Proof.InprojRef
public import proofs.«01_k».proof.Proof.Finite
public import proofs.«01_k».proof.Proof.CombineValue
public import proofs.«01_k».proof.Proof.CombineRef
public import proofs.«01_k».proof.Proof.RouterValue
public import proofs.«01_k».proof.Proof.RouterRef
public import proofs.«01_k».proof.Proof.RouterFinite
public import proofs.«01_k».proof.Proof.Layout
public import proofs.«01_k».proof.Proof.LayoutValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_experts_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_weights
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Pre_rows_in_blocks
public import proofs.«01_k».proof.Proof.Gen.Kernel5.Frame
public import proofs.«01_k».proof.Proof.Gen.Kernel5Ideal.Frame
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_router
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import Idealize.ShloMosaic.Adequacy
public import Idealize.ShloMosaic.Init

@[expose] public section

noncomputable section

namespace Cert.Proof

open Idealize.ShloMosaic Idealize.SL.Sem
open Idealize.ShloMosaic.TcCoe

theorem frame_kernel : Cert.quiescent_Kernel := fun m g hm =>
  Cert.Kernel.Tiles.frame (Cert.Kernel.Tiles.tables m hm) m g (Cert.Kernel.Tiles.tables_at m hm)

theorem frame_ideal : Cert.quiescent_KernelIdeal := fun m g hm =>
  Cert.KernelIdeal.Tiles.frame (Cert.KernelIdeal.Tiles.tables m hm) m g (Cert.KernelIdeal.Tiles.tables_at m hm)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem algebraic : Cert.algebraic_KernelIdeal_ReferenceIdeal := by
  intro m g m' g' hm hagree
  have ht : ∀ i, (m (((0 : Dev Cert.KernelIdeal.nD) : Thread Cert.KernelIdeal.nD Cert.KernelIdeal.τ).loc Cert.KernelIdeal.main_arg0) i : BitVec 32).toNat < 8 :=
    fun i => Cert.Tables.experts_lt _ _ _ _ _ _ (hm 0) i
  refine ⟨fun c => Cert.Swiglu.routed (Cert.KernelIdeal.Tiles.experts (Cert.KernelIdeal.Tiles.tables m hm)) (Cert.KernelIdeal.Tiles.active (Cert.KernelIdeal.Tiles.tables m hm)) ht
    (Cert.KernelIdeal.Tiles.rows m c) (Cert.KernelIdeal.Tiles.gateW m c) (Cert.KernelIdeal.Tiles.upW m c) (Cert.KernelIdeal.Tiles.downW m c), ?_, ?_⟩
  · exact (θ_run Cert.KernelIdeal.defs _ _).mono (fun r h c => ⟨((h.1 c).1 (4 : Fin 5)).trans (Cert.KernelIdeal.Tiles.out_eq _ m g c ht),
        Cert.KernelIdeal.Tiles.args_kept _ m g (Cert.KernelIdeal.Tiles.tables_at m hm) r h.1 c⟩)
      (Cert.KernelIdeal.Tiles.run_ends (Cert.KernelIdeal.Tiles.tables m hm) m g (Cert.KernelIdeal.Tiles.tables_at m hm))
  · refine (θ_run Cert.ReferenceIdeal.defs _ _).mono (fun r h c => ⟨?_, (h c).2⟩) (Cert.ReferenceIdeal.Value.run (F := Ideal) m' g')
    obtain rfl : c = 0 := Subsingleton.elim _ _
    obtain ⟨e0, e1, e2, e3, e4, e5⟩ := hagree 0
    refine (h 0).1.trans ?_
    rw [e0, e1, e2, e3, e4, e5]
    exact Cert.ReferenceIdeal.Tiles.result_eq _ _ _ _ _ _ ht

/-! ## The dense feed-forward -/

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

theorem algebraic2 : Cert.algebraic_Kernel2Ideal_Reference2Ideal := by
  intro m g m' g' _ hagree
  refine ⟨fun c => Cert.Dense.ffn (Cert.Kernel2Ideal.Rows.rows m c) (Cert.Kernel2Ideal.Rows.resid m c) (Cert.Kernel2Ideal.Rows.gateW m c)
    (Cert.Kernel2Ideal.Rows.upW m c) (Cert.Kernel2Ideal.Rows.downW m c), ?_, ?_⟩
  · exact (θ_run Cert.Kernel2Ideal.defs _ _).mono (fun r h c => ⟨(h c).1.trans (Cert.Kernel2Ideal.Rows.out_eq m c), (h c).2⟩)
      (Cert.Kernel2Ideal.Value.run (F := Ideal) m g)
  · refine (θ_run Cert.Reference2Ideal.defs _ _).mono (fun r h c => ⟨?_, (h c).2⟩) (Cert.Reference2Ideal.Value.run (F := Ideal) m' g')
    obtain ⟨e0, e1, e2, e3, e4⟩ := hagree c
    refine (h c).1.trans ?_
    rw [e0, e1, e2, e3, e4]
    exact Cert.Reference2Ideal.Rows.result_eq _ _ _ _ _

/-! ## The merge of the branches -/

theorem frame_reference3 : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

theorem algebraic3 : Cert.algebraic_Kernel3Ideal_Reference3Ideal := by
  intro m g m' g' _ hagree
  refine ⟨fun c => Cert.Kernel3Ideal.Rows.sum m c, fun c => Cert.Merge.normed (Cert.Kernel3Ideal.Rows.sum m c) (Cert.Kernel3Ideal.Rows.scale m c), ?_, ?_⟩
  · exact (θ_run Cert.Kernel3Ideal.defs _ _).mono (fun r h c => ⟨(h c).1.trans (Cert.Kernel3Ideal.Rows.out7_eq m c),
        (h c).2.1.trans (Cert.Kernel3Ideal.Rows.out8_eq m c), (h c).2.2⟩)
      (Cert.Kernel3Ideal.Value.run_blocks (F := Ideal) m g)
  · refine (θ_run Cert.Reference3Ideal.defs _ _).mono (fun r h c => ?_) (Cert.Reference3Ideal.Value.run (F := Ideal) m' g')
    obtain ⟨e0, e1, e2, e3, e4, e5, e6⟩ := hagree c
    obtain ⟨h0, h1, hk⟩ := h c
    rw [e0, e1, e2, e3, e4, e5] at h0
    rw [e0, e1, e2, e3, e4, e5, e6] at h1
    have q := Cert.Reference3Ideal.Rows.result0_eq (Cert.Kernel3Ideal.Rows.heads m c) (Cert.Kernel3Ideal.Rows.branches m c) (Cert.Kernel3Ideal.Rows.proj m c)
      (Cert.Kernel3Ideal.Rows.resid m c) (Cert.Kernel3Ideal.Rows.headsW m c) (Cert.Kernel3Ideal.Rows.outW m c)
    refine ⟨h0.trans q, h1.trans ?_, hk⟩
    exact (congrArg (Cert.Reference3Ideal.Rows.result1 (Cert.Kernel3Ideal.Rows.scale m c)) q).trans (Cert.Reference3Ideal.Rows.result1_eq _ _)

/-! ## The input projection -/

theorem frame_reference4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem algebraic4 : Cert.algebraic_Kernel4Ideal_Reference4Ideal_pre_finite_weights := by
  intro m g m' g' hm hagree
  have hw := fun c => Cert.Finite.weights_real _ _ _ _ _ (hm c)
  refine ⟨fun c => Cert.Kernel4Ideal.Rows.want m c, ?_, ?_⟩
  · exact (θ_run Cert.Kernel4Ideal.defs _ _).mono (fun r h c => ⟨(h c).1.trans (Cert.Kernel4Ideal.Rows.out_eq m c (hw c).1 (hw c).2), (h c).2⟩)
      (Cert.Kernel4Ideal.Value.run_blocks (F := Ideal) m g)
  · refine (θ_run Cert.Reference4Ideal.defs _ _).mono (fun r h c => ⟨?_, (h c).2⟩) (Cert.Reference4Ideal.Value.run (F := Ideal) m' g')
    obtain ⟨e0, e1, e2, e3, e4⟩ := hagree c
    refine (h c).1.trans ?_
    refine (Cert.Reference4Ideal.Rows.run_result m' c).trans ?_
    rw [e0, e1, e2, e3, e4]

/-! ## The combination of the experts' results -/

theorem frame_kernel5 : Cert.quiescent_Kernel5 := fun m g hm => Cert.Kernel5.Gen.frame m g (Cert.Kernel5.Tiles.ok m hm)

theorem frame_ideal5 : Cert.quiescent_Kernel5Ideal := fun m g hm => Cert.Kernel5Ideal.Gen.frame m g (Cert.Kernel5Ideal.Tiles.ok m hm)

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem algebraic5 : Cert.algebraic_Kernel5Ideal_Reference5Ideal := by
  intro m g m' g' hm hagree
  have hr := fun c => Cert.Combine.rows_in_blocks _ _ _ _ _ (hm c)
  have hO := Cert.Kernel5Ideal.Tiles.ok m hm
  refine ⟨fun c => fun j : Cert.Kernel5Ideal.S16384x1024.Idx => Cert.Combine.combined (Cert.Kernel5Ideal.Tiles.residual m c) (Cert.Kernel5Ideal.Tiles.gates m c)
    (Cert.Kernel5Ideal.Tiles.positions m c) (Cert.Kernel5Ideal.Tiles.experts m c) (j 0) (j 1), ?_, ?_⟩
  · refine (θ_run Cert.Kernel5Ideal.defs _ _).mono (fun r h c => ⟨((h.1 c).1 (19 : Fin 20)).trans ?_, h.2 c⟩)
      (θ_run_and (Cert.Kernel5Ideal.Gen.run_main m g hO) (Cert.Kernel5Ideal.Gen.unchanged m g hO))
    obtain rfl : c = 0 := Subsingleton.elim _ _
    exact Cert.Kernel5Ideal.Tiles.out_eq m hO 0 (hr 0).1 (hr 0).2
  · refine (θ_run Cert.Reference5Ideal.defs _ _).mono (fun r h c => ⟨?_, (h c).2⟩) (Cert.Reference5Ideal.Value.run (F := Ideal) m' g')
    obtain ⟨e0, e1, e2, e3, e4⟩ := hagree c
    refine (h c).1.trans ?_
    rw [e1, e2, e3, e4]
    exact Cert.Reference5Ideal.Rows.result_eq _ _ _ _ (Cert.Combine.named_rows (hr c).2)

/-! ## The merge with the router -/

theorem frame_reference6 : Cert.quiescent_Reference6Ideal := fun m g _ =>
  (θ_run Cert.Reference6Ideal.defs _ _).mono (fun r h => ⟨fun c => (h c).2.2.2, sem_eq_zero_of_no_sems (by decide) r.2⟩)
    (Cert.Reference6Ideal.Value.run (F := Ideal) m g)

theorem algebraic6 : Cert.algebraic_Kernel6Ideal_Reference6Ideal_pre_finite_router := by
  intro m g m' g' hm hagree
  have hw := fun c => Cert.Finite.router_real _ _ _ _ _ _ _ _ (hm c)
  have hL := fun c => Cert.Router.logits_real (Cert.Kernel6Ideal.Rows.sum m c) (Cert.Kernel6Ideal.Rows.scale m c) (Cert.Kernel6Ideal.Rows.router m c) (hw c).1 (hw c).2
  refine ⟨fun c => Cert.Kernel6Ideal.Rows.sum m c, fun c => Cert.Kernel6Ideal.Rows.norms m c,
    fun c => Cert.Router.gates (Cert.Kernel6Ideal.Rows.norms m c) (Cert.Kernel6Ideal.Rows.router m c), ?_, ?_⟩
  · exact (θ_run Cert.Kernel6Ideal.defs _ _).mono (fun r h c => ⟨(h c).1.trans (Cert.Kernel6Ideal.Rows.out8_eq m c),
        (h c).2.1.trans (Cert.Kernel6Ideal.Rows.out9_eq m c), (h c).2.2.1.trans (Cert.Kernel6Ideal.Rows.out10_eq m c (hL c)), (h c).2.2.2⟩)
      (Cert.Kernel6Ideal.Value.run_blocks (F := Ideal) m g)
  · refine (θ_run Cert.Reference6Ideal.defs _ _).mono (fun r h c => ?_) (Cert.Reference6Ideal.Value.run (F := Ideal) m' g')
    obtain ⟨e0, e1, e2, e3, e4, e5, e6, e7⟩ := hagree c
    obtain ⟨h0, h1, h2, hk⟩ := h c
    rw [e0, e1, e2, e3, e4, e5] at h0
    rw [e0, e1, e2, e3, e4, e5, e6] at h1
    unfold Cert.Reference6Ideal.Value.res_main_v51 at h2
    rw [e0, e1, e2, e3, e4, e5, e6, e7] at h2
    have q0 := Cert.Reference3Ideal.Rows.result0_eq (Cert.Kernel6Ideal.Rows.heads m c) (Cert.Kernel6Ideal.Rows.branches m c) (Cert.Kernel6Ideal.Rows.proj m c)
      (Cert.Kernel6Ideal.Rows.resid m c) (Cert.Kernel6Ideal.Rows.headsW m c) (Cert.Kernel6Ideal.Rows.outW m c)
    have q1 := (congrArg (Cert.Reference3Ideal.Rows.result1 (Cert.Kernel6Ideal.Rows.scale m c)) q0).trans (Cert.Reference3Ideal.Rows.result1_eq _ _)
    have q2 := (congrArg (fun h => Cert.Reference6Ideal.Rows.result2 (Cert.Reference6Ideal.Rows.logits h (Cert.Kernel6Ideal.Rows.router m c))) q1).trans
      (Cert.Reference6Ideal.Rows.result2_eq _ _ (hL c))
    exact ⟨h0.trans q0, h1.trans q1, h2.trans q2, hk⟩

/-! ## The layout of the projection's weight -/

theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic7 : Cert.algebraic_Kernel7Ideal_Reference7Ideal := by
  intro m g m' g' _ hagree
  refine ⟨fun c => Cert.Layout.arranged (Cert.Kernel7Ideal.Rows.weight m c), ?_, ?_⟩
  · exact (θ_run Cert.Kernel7Ideal.defs _ _).mono (fun r h c => ⟨(h c).1.trans (Cert.Kernel7Ideal.Rows.out_eq m c), (h c).2⟩)
      (Cert.Kernel7Ideal.Value.run_blocks (F := Ideal) m g)
  · refine (θ_run Cert.Reference7Ideal.defs _ _).mono (fun r h c => ⟨?_, (h c).2⟩) (Cert.Reference7Ideal.Value.run (F := Ideal) m' g')
    refine (h c).1.trans ?_
    rw [hagree c]
    exact Cert.Reference7Ideal.Rows.result_eq _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_experts_in_range.Gen.facts, Cert.Pre_finite_weights.Gen.facts, Cert.Pre_rows_in_blocks.Gen.facts, Cert.Pre_finite_router.Gen.facts,
    frame_kernel, frame_ideal, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, fun m g _ => Cert.Kernel4Ideal.Gen.frame m g,
    frame_reference4, fun m g _ => frame_reference4 m g trivial,
    frame_kernel5, frame_ideal5, frame_reference5, fun m g _ => frame_reference5 m g trivial,
    fun m g _ => Cert.Kernel6.Gen.frame m g, fun m g _ => Cert.Kernel6Ideal.Gen.frame m g, fun m g _ => Cert.Kernel6Ideal.Gen.frame m g,
    frame_reference6, fun m g _ => frame_reference6 m g trivial,
    fun m g _ => Cert.Kernel7.Gen.frame m g, fun m g _ => Cert.Kernel7Ideal.Gen.frame m g, frame_reference7,
    trivial, algebraic, trivial, algebraic2, trivial, algebraic3, trivial, algebraic4, trivial, algebraic5, trivial, algebraic6, trivial, algebraic7⟩

end Cert.Proof

end
